-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_context [hPre_finite_context : Cert.Pre_finite_context.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_context.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_context.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_context [hPre_finite_context : Cert.Pre_finite_context.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_context.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_context.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_context [hKernel6Ideal : Cert.Kernel6Ideal.Facts] [hPre_finite_context : Cert.Pre_finite_context.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_context m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_context [hReference6Ideal : Cert.Reference6Ideal.Facts] [hPre_finite_context : Cert.Pre_finite_context.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_context m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)) (v5 : (c : Dev Cert.Kernel3Ideal.nD) → Buf (Elt Ideal) ((c.tc : Thread Cert.Kernel3Ideal.nD Cert.Kernel3Ideal.τ).loc Cert.Kernel3Ideal.main_v21_5)) (v6 : (c : Dev Cert.Kernel3Ideal.nD) → Buf (Elt Ideal) ((c.tc : Thread Cert.Kernel3Ideal.nD Cert.Kernel3Ideal.τ).loc Cert.Kernel3Ideal.main_v21_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_v21_5) = v5 c
          ∧ r.2.mem ((c.tc : Thread Cert.Kernel3Ideal.nD Cert.Kernel3Ideal.τ).loc Cert.Kernel3Ideal.main_v21_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v224) = v0 c
          ∧ r.2.mem ((c.tc : Thread Cert.Reference3Ideal.nD Cert.Reference3Ideal.τ).loc Cert.Reference3Ideal.main_v225) = v1 c
          ∧ r.2.mem ((c.tc : Thread Cert.Reference3Ideal.nD Cert.Reference3Ideal.τ).loc Cert.Reference3Ideal.main_v227) = v2 c
          ∧ r.2.mem ((c.tc : Thread Cert.Reference3Ideal.nD Cert.Reference3Ideal.τ).loc Cert.Reference3Ideal.main_v228) = v3 c
          ∧ r.2.mem ((c.tc : Thread Cert.Reference3Ideal.nD Cert.Reference3Ideal.τ).loc Cert.Reference3Ideal.main_v230) = v4 c
          ∧ r.2.mem ((c.tc : Thread Cert.Reference3Ideal.nD Cert.Reference3Ideal.τ).loc Cert.Reference3Ideal.main_v232) = v5 c
          ∧ r.2.mem ((c.tc : Thread Cert.Reference3Ideal.nD Cert.Reference3Ideal.τ).loc Cert.Reference3Ideal.main_v233) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "mask" .f32 0xF149F2CA#32 ⊥

def algebraic_Kernel6Ideal_Reference6Ideal_pre_finite_context [hKernel6Ideal : Cert.Kernel6Ideal.Facts] [hReference6Ideal : Cert.Reference6Ideal.Facts] [hPre_finite_context : Cert.Pre_finite_context.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_context m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_context : Cert.Pre_finite_context.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_context (hKernel6Ideal := hKernel6Ideal) (hPre_finite_context := hPre_finite_context)
    ∧ quiescent_Reference6Ideal (hReference6Ideal := hReference6Ideal)
    ∧ quiescent_Reference6Ideal_pre_finite_context (hReference6Ideal := hReference6Ideal) (hPre_finite_context := hPre_finite_context)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_context (hKernel6Ideal := hKernel6Ideal) (hReference6Ideal := hReference6Ideal) (hPre_finite_context := hPre_finite_context)
-- ==== Pre_finite_context.lean ====
abbrev S8x384x2304 : Shape := ⟨3, ![8, 384, 2304]⟩
abbrev S8x2304x128 : Shape := ⟨3, ![8, 2304, 128]⟩
abbrev S8x384x256 : Shape := ⟨3, ![8, 384, 256]⟩
abbrev S_ : Shape := ⟨0, ![]⟩
abbrev S8x256x128 : Shape := ⟨3, ![8, 256, 128]⟩

class Facts : Prop where
  slices_S8x384x2304_S8x384x256_0_0_0 : S8x384x2304.Slices ![0, 0, 0] S8x384x256
  bcast_S_S8x384x256 : S_.BroadcastsInDim S8x384x256 (![] : Fin 0 → Fin S8x384x256.rank)
  slices_S8x2304x128_S8x256x128_0_0_0 : S8x2304x128.Slices ![0, 0, 0] S8x256x128
  bcast_S_S8x256x128 : S_.BroadcastsInDim S8x256x128 (![] : Fin 0 → Fin S8x256x128.rank)

variable [Facts]

def fn {F : FTy → Type} [FloatOps F] (main_arg0 : FVec F S8x384x2304 .bf16) (main_arg1 : FVec F S8x2304x128 .bf16) (main_arg2 : FVec F S8x2304x128 .bf16) : IVec S8x384x256 1 × IVec S8x256x128 1 :=
  let main_v0 : FVec F S8x384x256 .bf16 := (extractStridedSlice S8x384x256 ![0, 0, 0] · slices_S8x384x2304_S8x384x256_0_0_0) main_arg0
  let main_v1 : FVec F S8x384x256 .bf16 := Host.absf main_v0
  let main_cst : FVec F S_ .bf16 := constant S_ .bf16 0x7F80#16
  let main_v2 : FVec F S8x384x256 .bf16 := broadcastInDim S8x384x256 ![] bcast_S_S8x384x256 main_cst
  let main_v3 : IVec S8x384x256 1 := cmpf .olt main_v1 main_v2
  let main_v4 : FVec F S8x256x128 .bf16 := (extractStridedSlice S8x256x128 ![0, 0, 0] · slices_S8x2304x128_S8x256x128_0_0_0) main_arg1
  let main_v5 : FVec F S8x256x128 .bf16 := Host.absf main_v4
  let main_cst_0 : FVec F S_ .bf16 := constant S_ .bf16 0x7F80#16
  let main_v6 : FVec F S8x256x128 .bf16 := broadcastInDim S8x256x128 ![] bcast_S_S8x256x128 main_cst_0
  let main_v7 : IVec S8x256x128 1 := cmpf .olt main_v5 main_v6
  (main_v3, main_v7)
-- ==== Pre_finite_scores.lean ====
abbrev S8x384x2304 : Shape := ⟨3, ![8, 384, 2304]⟩
abbrev S8x2304x128 : Shape := ⟨3, ![8, 2304, 128]⟩
abbrev S_ : Shape := ⟨0, ![]⟩

class Facts : Prop where
  bcast_S_S8x384x2304 : S_.BroadcastsInDim S8x384x2304 (![] : Fin 0 → Fin S8x384x2304.rank)
  bcast_S_S8x2304x128 : S_.BroadcastsInDim S8x2304x128 (![] : Fin 0 → Fin S8x2304x128.rank)

variable [Facts]

def fn {F : FTy → Type} [FloatOps F] (main_arg0 : FVec F S8x384x2304 .bf16) (main_arg1 : FVec F S8x2304x128 .bf16) (main_arg2 : FVec F S8x2304x128 .bf16) : IVec S8x384x2304 1 × IVec S8x2304x128 1 :=
  let main_v0 : FVec F S8x384x2304 .bf16 := Host.absf main_arg0
  let main_cst : FVec F S_ .bf16 := constant S_ .bf16 0x7F80#16
  let main_v1 : FVec F S8x384x2304 .bf16 := broadcastInDim S8x384x2304 ![] bcast_S_S8x384x2304 main_cst
  let main_v2 : IVec S8x384x2304 1 := cmpf .olt main_v0 main_v1
  let main_v3 : FVec F S8x2304x128 .bf16 := Host.absf main_arg1
  let main_cst_0 : FVec F S_ .bf16 := constant S_ .bf16 0x7F80#16
  let main_v4 : FVec F S8x2304x128 .bf16 := broadcastInDim S8x2304x128 ![] bcast_S_S8x2304x128 main_cst_0
  let main_v5 : IVec S8x2304x128 1 := cmpf .olt main_v3 main_v4
  (main_v2, main_v5)
-- ==== Kernel.lean ====
abbrev S8x384x2304 : Shape := ⟨3, ![8, 384, 2304]⟩
abbrev S8x2304x128 : Shape := ⟨3, ![8, 2304, 128]⟩
abbrev S8x2048x384 : Shape := ⟨3, ![8, 2048, 384]⟩
abbrev S1x384x256 : Shape := ⟨3, ![1, 384, 256]⟩
abbrev S1x2304x128 : Shape := ⟨3, ![1, 2304, 128]⟩
abbrev S1x512x384 : Shape := ⟨3, ![1, 512, 384]⟩
abbrev S4x2304x128 : Shape := ⟨3, ![4, 2304, 128]⟩
abbrev S2x9x80x256 : Shape := ⟨4, ![2, 9, 80, 256]⟩
abbrev S2x6x80x256 : Shape := ⟨4, ![2, 6, 80, 256]⟩
abbrev S2x6x1x256 : Shape := ⟨4, ![2, 6, 1, 256]⟩
abbrev S2x3x512x256 : Shape := ⟨4, ![2, 3, 512, 256]⟩
abbrev S2x6x256x256 : Shape := ⟨4, ![2, 6, 256, 256]⟩
abbrev S2304x128 : Shape := ⟨2, ![2304, 128]⟩
abbrev S128x2304 : Shape := ⟨2, ![128, 2304]⟩
abbrev S16x2304 : Shape := ⟨2, ![16, 2304]⟩
abbrev S64x2304 : Shape := ⟨2, ![64, 2304]⟩
abbrev S80x2304 : Shape := ⟨2, ![80, 2304]⟩
abbrev S80x256 : Shape := ⟨2, ![80, 256]⟩
abbrev S1x1x80x256 : Shape := ⟨4, ![1, 1, 80, 256]⟩
abbrev S1x256x128 : Shape := ⟨3, ![1, 256, 128]⟩
abbrev S256x128 : Shape := ⟨2, ![256, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x1x512x256 : Shape := ⟨4, ![1, 1, 512, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S64x256 : Shape := ⟨2, ![64, 256]⟩

abbrev nBuf : Space → Nat
  | .hbm => 4
  | .vmem => 17
  | .smem => 0
  | _ => 0

abbrev bufTy : (tb : Table) → Fin (tcTables nBuf tb) → BufTy
  | .hbm, ⟨0, _⟩ => ⟨S8x384x2304, .bf16⟩
  | .hbm, ⟨1, _⟩ => ⟨S8x2304x128, .bf16⟩
  | .hbm, ⟨2, _⟩ => ⟨S8x2304x128, .bf16⟩
  | .hbm, ⟨3, _⟩ => ⟨S8x2048x384, .bf16⟩
  | .local _ .vmem, ⟨0, _⟩ => ⟨S1x384x256, .bf16⟩
  | .local _ .vmem, ⟨1, _⟩ => ⟨S1x384x256, .bf16⟩
  | .local _ .vmem, ⟨2, _⟩ => ⟨S1x384x256, .bf16⟩
  | .local _ .vmem, ⟨3, _⟩ => ⟨S1x384x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2304x128, .bf16⟩
  | .local _ .vmem, ⟨7, _⟩ => ⟨S1x2304x128, .bf16⟩
  | .local _ .vmem, ⟨8, _⟩ => ⟨S1x512x384, .bf16⟩
  | .local _ .vmem, ⟨9, _⟩ => ⟨S1x512x384, .bf16⟩
  | .local _ .vmem, ⟨10, _⟩ => ⟨S4x2304x128, .bf16⟩
  | .local _ .vmem, ⟨11, _⟩ => ⟨S2x9x80x256, .bf16⟩
  | .local _ .vmem, ⟨12, _⟩ => ⟨S2x6x80x256, .f32⟩
  | .local _ .vmem, ⟨13, _⟩ => ⟨S2x6x1x256, .f32⟩
  | .local _ .vmem, ⟨14, _⟩ => ⟨S2x6x1x256, .f32⟩
  | .local _ .vmem, ⟨15, _⟩ => ⟨S2x3x512x256, .f32⟩
  | .local _ .vmem, ⟨16, _⟩ => ⟨S2x6x256x256, .bf16⟩
  | _, _ => ⟨S8x384x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  ![arg0.toNat, c0_i32_0.toNat, v2.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  ![arg0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x384x2304 : Shape := ⟨3, ![8, 384, 2304]⟩
abbrev S8x2304x128 : Shape := ⟨3, ![8, 2304, 128]⟩
abbrev S8x384x2048 : Shape := ⟨3, ![8, 384, 2048]⟩
abbrev S8x2048x384 : Shape := ⟨3, ![8, 2048, 384]⟩
abbrev S8x2048x2x3x64 : Shape := ⟨5, ![8, 2048, 2, 3, 64]⟩
abbrev S8x2304x2x64 : Shape := ⟨4, ![8, 2304, 2, 64]⟩
abbrev S8x2x2304x2048x3 : Shape := ⟨5, ![8, 2, 2304, 2048, 3]⟩
abbrev S8x2x3x2048x2304 : Shape := ⟨5, ![8, 2, 3, 2048, 2304]⟩
abbrev S_ : Shape := ⟨0, ![]⟩
abbrev S8x2x3x2048 : Shape := ⟨4, ![8, 2, 3, 2048]⟩
abbrev S8x2x3x2048x1 : Shape := ⟨5, ![8, 2, 3, 2048, 1]⟩
abbrev S8x2x64x3x2048 : Shape := ⟨5, ![8, 2, 64, 3, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x384x2304, .bf16⟩
  | .hbm, ⟨1, _⟩ => ⟨S8x2304x128, .bf16⟩
  | .hbm, ⟨2, _⟩ => ⟨S8x2304x128, .bf16⟩
  | .hbm, ⟨3, _⟩ => ⟨S8x384x2304, .f32⟩
  | .hbm, ⟨4, _⟩ => ⟨S8x384x2048, .f32⟩
  | .hbm, ⟨5, _⟩ => ⟨S8x2048x384, .f32⟩
  | .hbm, ⟨6, _⟩ => ⟨S8x2048x2x3x64, .f32⟩
  | .hbm, ⟨7, _⟩ => ⟨S8x2304x128, .f32⟩
  | .hbm, ⟨8, _⟩ => ⟨S8x2304x2x64, .f32⟩
  | .hbm, ⟨9, _⟩ => ⟨S8x2304x128, .f32⟩
  | .hbm, ⟨10, _⟩ => ⟨S8x2304x2x64, .f32⟩
  | .hbm, ⟨11, _⟩ => ⟨S8x2x2304x2048x3, .f32⟩
  | .hbm, ⟨12, _⟩ => ⟨S8x2x3x2048x2304, .f32⟩
  | .hbm, ⟨13, _⟩ => ⟨S_, .f32⟩
  | .hbm, ⟨14, _⟩ => ⟨S_, .f32⟩
  | .hbm, ⟨15, _⟩ => ⟨S8x2x3x2048x2304, .f32⟩
  | .hbm, ⟨16, _⟩ => ⟨S8x2x3x2048x2304, .f32⟩
  | .hbm, ⟨17, _⟩ => ⟨S_, .f32⟩
  | .hbm, ⟨18, _⟩ => ⟨S8x2x3x2048, .f32⟩
  | .hbm, ⟨19, _⟩ => ⟨S_, .f32⟩
  | .hbm, ⟨20, _⟩ => ⟨S8x2x3x2048, .f32⟩
  | .hbm, ⟨21, _⟩ => ⟨S8x2x3x2048, .f32⟩
  | .hbm, ⟨22, _⟩ => ⟨S8x2x3x2048x1, .f32⟩
  | .hbm, ⟨23, _⟩ => ⟨S8x2x3x2048x2304, .f32⟩
  | .hbm, ⟨24, _⟩ => ⟨S8x2x3x2048x2304, .f32⟩
  | .hbm, ⟨25, _⟩ => ⟨S8x2x3x2048x2304, .f32⟩
  | .hbm, ⟨26, _⟩ => ⟨S_, .f32⟩
  | .hbm, ⟨27, _⟩ => ⟨S8x2x3x2048, .f32⟩
  | .hbm, ⟨28, _⟩ => ⟨S8x2x3x2048x1, .f32⟩
  | .hbm, ⟨29, _⟩ => ⟨S8x2x3x2048x2304, .f32⟩
  | .hbm, ⟨30, _⟩ => ⟨S8x2x3x2048x2304, .f32⟩
  | .hbm, ⟨31, _⟩ => ⟨S8x2x3x2048x2304, .bf16⟩
  | .hbm, ⟨32, _⟩ => ⟨S8x2x3x2048x2304, .f32⟩
  | .hbm, ⟨33, _⟩ => ⟨S8x2x64x3x2048, .f32⟩
  | .hbm, ⟨34, _⟩ => ⟨S8x2048x2x3x64, .f32⟩
  | .hbm, ⟨35, _⟩ => ⟨S8x2048x384, .f32⟩
  | .hbm, ⟨36, _⟩ => ⟨S8x2048x384, .bf16⟩
  | _, _ => ⟨S8x384x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel2.lean ====
abbrev S8x2048x384 : Shape := ⟨3, ![8, 2048, 384]⟩
abbrev S8x2304x256 : Shape := ⟨3, ![8, 2304, 256]⟩
abbrev S8x2304x384 : Shape := ⟨3, ![8, 2304, 384]⟩
abbrev S8x2048x1024 : Shape := ⟨3, ![8, 2048, 1024]⟩
abbrev S2x16x6144 : Shape := ⟨3, ![2, 16, 6144]⟩
abbrev S4x1024 : Shape := ⟨2, ![4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x256x384 : Shape := ⟨3, ![1, 256, 384]⟩
abbrev S1x256x256 : Shape := ⟨3, ![1, 256, 256]⟩
abbrev S1x256x1024 : Shape := ⟨3, ![1, 256, 1024]⟩
abbrev S1x16x6144 : Shape := ⟨3, ![1, 16, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S256x384 : Shape := ⟨2, ![256, 384]⟩
abbrev S256x256 : Shape := ⟨2, ![256, 256]⟩
abbrev S256x1024 : Shape := ⟨2, ![256, 1024]⟩
abbrev S1024x1024 : Shape := ⟨2, ![1024, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 23
  | .smem => 0
  | _ => 0

abbrev bufTy : (tb : Table) → Fin (tcTables nBuf tb) → BufTy
  | .hbm, ⟨0, _⟩ => ⟨S8x2048x384, .bf16⟩
  | .hbm, ⟨1, _⟩ => ⟨S8x2304x256, .bf16⟩
  | .hbm, ⟨2, _⟩ => ⟨S8x2304x384, .bf16⟩
  | .hbm, ⟨3, _⟩ => ⟨S8x2048x1024, .f32⟩
  | .hbm, ⟨4, _⟩ => ⟨S2x16x6144, .f32⟩
  | .hbm, ⟨5, _⟩ => ⟨S4x1024, .f32⟩
  | .hbm, ⟨6, _⟩ => ⟨S2x1024x1024, .f32⟩
  | .hbm, ⟨7, _⟩ => ⟨S2x1024x4096, .f32⟩
  | .hbm, ⟨8, _⟩ => ⟨S2x4096x1024, .f32⟩
  | .hbm, ⟨9, _⟩ => ⟨S8x2048x1024, .f32⟩
  | .local _ .vmem, ⟨0, _⟩ => ⟨S1x256x384, .bf16⟩
  | .local _ .vmem, ⟨1, _⟩ => ⟨S1x256x384, .bf16⟩
  | .local _ .vmem, ⟨2, _⟩ => ⟨S1x256x384, .bf16⟩
  | .local _ .vmem, ⟨3, _⟩ => ⟨S1x256x384, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x384, .bf16⟩
  | .local _ .vmem, ⟨9, _⟩ => ⟨S1x256x384, .bf16⟩
  | .local _ .vmem, ⟨10, _⟩ => ⟨S1x256x384, .bf16⟩
  | .local _ .vmem, ⟨11, _⟩ => ⟨S1x256x384, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x16x6144, .f32⟩
  | .local _ .vmem, ⟨17, _⟩ => ⟨S4x1024, .f32⟩
  | .local _ .vmem, ⟨18, _⟩ => ⟨S1x1024x1024, .f32⟩
  | .local _ .vmem, ⟨19, _⟩ => ⟨S1x1024x4096, .f32⟩
  | .local _ .vmem, ⟨20, _⟩ => ⟨S1x4096x1024, .f32⟩
  | .local _ .vmem, ⟨21, _⟩ => ⟨S1x512x1024, .f32⟩
  | .local _ .vmem, ⟨22, _⟩ => ⟨S1x512x1024, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let c0_27 : Index := 0#32
  let arg0 : BitVec 32 := BitVec.ofNat 32 (i 0).val
  let v24 : Index := Scalar.indexCast arg0
  let c2048 : Index := 2048#32
  ![0, v24.toNat, 2048]
def k0_off2 (i : grid0.Coords) : Fin 3 → Nat :=
  let c0_36 : Index := 0#32
  let arg0 : BitVec 32 := BitVec.ofNat 32 (i 0).val
  let v56 : Index := Scalar.indexCast arg0
  let c4096 : Index := 4096#32
  ![0, v56.toNat, 4096]
def k0_off3 (i : grid0.Coords) : Fin 3 → Nat :=
  let c0_38 : Index := 0#32
  let arg0 : BitVec 32 := BitVec.ofNat 32 (i 0).val
  let v63 : Index := Scalar.indexCast arg0
  let c3072 : Index := 3072#32
  ![0, v63.toNat, 3072]
def k0_off4 (i : grid0.Coords) : Fin 3 → Nat :=
  let c0_103 : Index := 0#32
  let arg0 : BitVec 32 := BitVec.ofNat 32 (i 0).val
  let v179 : Index := Scalar.indexCast arg0
  let c5120 : Index := 5120#32
  ![0, v179.toNat, 5120]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x16x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x2048x384 : Shape := ⟨3, ![8, 2048, 384]⟩
abbrev S8x2304x256 : Shape := ⟨3, ![8, 2304, 256]⟩
abbrev S8x2304x384 : Shape := ⟨3, ![8, 2304, 384]⟩
abbrev S8x2048x1024 : Shape := ⟨3, ![8, 2048, 1024]⟩
abbrev S2x16x6144 : Shape := ⟨3, ![2, 16, 6144]⟩
abbrev S4x1024 : Shape := ⟨2, ![4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x8x6144 : Shape := ⟨3, ![1, 8, 6144]⟩
abbrev S8x6144 : Shape := ⟨2, ![8, 6144]⟩
abbrev S8x1024 : Shape := ⟨2, ![8, 1024]⟩
abbrev S8x2048x256 : Shape := ⟨3, ![8, 2048, 256]⟩
abbrev S16384x384 : Shape := ⟨2, ![16384, 384]⟩
abbrev S16384x256 : Shape := ⟨2, ![16384, 256]⟩
abbrev S16384x1024 : Shape := ⟨2, ![16384, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S8x2304x256, .bf16⟩
  | .hbm, ⟨2, _⟩ => ⟨S8x2304x384, .bf16⟩
  | .hbm, ⟨3, _⟩ => ⟨S8x2048x1024, .f32⟩
  | .hbm, ⟨4, _⟩ => ⟨S2x16x6144, .f32⟩
  | .hbm, ⟨5, _⟩ => ⟨S4x1024, .f32⟩
  | .hbm, ⟨6, _⟩ => ⟨S2x1024x1024, .f32⟩
  | .hbm, ⟨7, _⟩ => ⟨S2x1024x4096, .f32⟩
  | .hbm, ⟨8, _⟩ => ⟨S2x4096x1024, .f32⟩
  | .hbm, ⟨9, _⟩ => ⟨S1x8x6144, .f32⟩
  | .hbm, ⟨10, _⟩ => ⟨S8x6144, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x2048x384, .f32⟩
  | .hbm, ⟨18, _⟩ => ⟨S8x2304x256, .f32⟩
  | .hbm, ⟨19, _⟩ => ⟨S8x2048x256, .f32⟩
  | .hbm, ⟨20, _⟩ => ⟨S8x2304x384, .f32⟩
  | .hbm, ⟨21, _⟩ => ⟨S8x2048x384, .f32⟩
  | .hbm, ⟨22, _⟩ => ⟨S16384x384, .f32⟩
  | .hbm, ⟨23, _⟩ => ⟨S16384x256, .f32⟩
  | .hbm, ⟨24, _⟩ => ⟨S16384x384, .f32⟩
  | .hbm, ⟨25, _⟩ => ⟨S16384x1024, .f32⟩
  | .hbm, ⟨26, _⟩ => ⟨S1x1024x1024, .f32⟩
  | .hbm, ⟨27, _⟩ => ⟨S1024x1024, .f32⟩
  | .hbm, ⟨28, _⟩ => ⟨S16384x1024, .f32⟩
  | .hbm, ⟨29, _⟩ => ⟨S8x2048x1024, .f32⟩
  | .hbm, ⟨30, _⟩ => ⟨S8x1x1024, .f32⟩
  | .hbm, ⟨31, _⟩ => ⟨S1x1024, .f32⟩
  | .hbm, ⟨32, _⟩ => ⟨S1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S1x1024, .f32⟩
  | .hbm, ⟨53, _⟩ => ⟨S1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S1x1x1024, .f32⟩
  | .hbm, ⟨68, _⟩ => ⟨S8x2048x1024, .f32⟩
  | .hbm, ⟨69, _⟩ => ⟨S8x2048x1024, .f32⟩
  | .hbm, ⟨70, _⟩ => ⟨S8x1x1024, .f32⟩
  | .hbm, ⟨71, _⟩ => ⟨S_, .f32⟩
  | .hbm, ⟨72, _⟩ => ⟨S8x1x1024, .f32⟩
  | .hbm, ⟨73, _⟩ => ⟨S8x1x1024, .f32⟩
  | .hbm, ⟨74, _⟩ => ⟨S8x2048x1024, .f32⟩
  | .hbm, ⟨75, _⟩ => ⟨S8x2048x1024, .f32⟩
  | .hbm, ⟨76, _⟩ => ⟨S8x1x1024, .f32⟩
  | .hbm, ⟨77, _⟩ => ⟨S8x2048x1024, .f32⟩
  | .hbm, ⟨78, _⟩ => ⟨S8x2048x1024, .f32⟩
  | .hbm, ⟨79, _⟩ => ⟨S8x1x1024, .f32⟩
  | .hbm, ⟨80, _⟩ => ⟨S1x1024x4096, .f32⟩
  | .hbm, ⟨81, _⟩ => ⟨S1024x4096, .f32⟩
  | .hbm, ⟨82, _⟩ => ⟨S1x4096x1024, .f32⟩
  | .hbm, ⟨83, _⟩ => ⟨S4096x1024, .f32⟩
  | .hbm, ⟨84, _⟩ => ⟨S8x2048x4096, .f32⟩
  | .hbm, ⟨85, _⟩ => ⟨S_, .f32⟩
  | .hbm, ⟨86, _⟩ => ⟨S8x2048x4096, .f32⟩
  | .hbm, ⟨87, _⟩ => ⟨S8x2048x4096, .f32⟩
  | .hbm, ⟨88, _⟩ => ⟨S8x2048x4096, .f32⟩
  | .hbm, ⟨89, _⟩ => ⟨S8x2048x1024, .f32⟩
  | .hbm, ⟨90, _⟩ => ⟨S1x1024, .f32⟩
  | .hbm, ⟨91, _⟩ => ⟨S1024, .f32⟩
  | .hbm, ⟨92, _⟩ => ⟨S8x2048x1024, .f32⟩
  | .hbm, ⟨93, _⟩ => ⟨S_, .f32⟩
  | .hbm, ⟨94, _⟩ => ⟨S8x2048, .f32⟩
  | .hbm, ⟨95, _⟩ => ⟨S8x2048x1, .f32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S_, .f32⟩
  | .hbm, ⟨100, _⟩ => ⟨S8x2048x1, .f32⟩
  | .hbm, ⟨101, _⟩ => ⟨S8x2048x1, .f32⟩
  | .hbm, ⟨102, _⟩ => ⟨S8x2048x1, .f32⟩
  | .hbm, ⟨103, _⟩ => ⟨S8x2048x1024, .f32⟩
  | .hbm, ⟨104, _⟩ => ⟨S8x2048x1024, .f32⟩
  | .hbm, ⟨105, _⟩ => ⟨S1x1x1024, .f32⟩
  | .hbm, ⟨106, _⟩ => ⟨S8x2048x1024, .f32⟩
  | .hbm, ⟨107, _⟩ => ⟨S8x2048x1024, .f32⟩
  | .hbm, ⟨108, _⟩ => ⟨S8x2048x1024, .f32⟩
  | .hbm, ⟨109, _⟩ => ⟨S8x2048x1024, .f32⟩
  | .hbm, ⟨110, _⟩ => ⟨S8x2048x1024, .f32⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_call0_cst : Ref sig .tc := ⟨.hbm, 85, rfl⟩
abbrev main_call0_v0 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_cst_7 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Kernel3.lean ====
abbrev S8x256x1024 : Shape := ⟨3, ![8, 256, 1024]⟩
abbrev S8x2048x1024 : Shape := ⟨3, ![8, 2048, 1024]⟩
abbrev S2x16x6144 : Shape := ⟨3, ![2, 16, 6144]⟩
abbrev S4x1024 : Shape := ⟨2, ![4, 1024]⟩
abbrev S2x1024x3072 : Shape := ⟨3, ![2, 1024, 3072]⟩
abbrev S2048x2x32 : Shape := ⟨3, ![2048, 2, 32]⟩
abbrev S1x512 : Shape := ⟨2, ![1, 512]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S128 : Shape := ⟨1, ![128]⟩
abbrev S_ : Shape := ⟨0, ![]⟩
abbrev S256x128 : Shape := ⟨2, ![256, 128]⟩
abbrev S2304x128 : Shape := ⟨2, ![2304, 128]⟩
abbrev S8x384x2304 : Shape := ⟨3, ![8, 384, 2304]⟩
abbrev S8x2304x128 : Shape := ⟨3, ![8, 2304, 128]⟩
abbrev S8x2304x1024 : Shape := ⟨3, ![8, 2304, 1024]⟩
abbrev S8x2304x384 : Shape := ⟨3, ![8, 2304, 384]⟩
abbrev S8x2304x896 : Shape := ⟨3, ![8, 2304, 896]⟩
abbrev S1x256x1024 : Shape := ⟨3, ![1, 256, 1024]⟩
abbrev S1x16x6144 : Shape := ⟨3, ![1, 16, 6144]⟩
abbrev S1x1024x3072 : Shape := ⟨3, ![1, 1024, 3072]⟩
abbrev S1x384x256 : Shape := ⟨3, ![1, 384, 256]⟩
abbrev S1x256x128 : Shape := ⟨3, ![1, 256, 128]⟩
abbrev S1x256x384 : Shape := ⟨3, ![1, 256, 384]⟩
abbrev S1x256x896 : Shape := ⟨3, ![1, 256, 896]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1024 : Shape := ⟨3, ![1, 1, 1024]⟩
abbrev S1x1024x512 : Shape := ⟨3, ![1, 1024, 512]⟩
abbrev S1024x512 : Shape := ⟨2, ![1024, 512]⟩
abbrev S256x512 : Shape := ⟨2, ![256, 512]⟩
abbrev S512x512 : Shape := ⟨2, ![512, 512]⟩
abbrev S128x256 : Shape := ⟨2, ![128, 256]⟩
abbrev S1x128x256 : Shape := ⟨3, ![1, 128, 256]⟩

abbrev nBuf : Space → Nat
  | .hbm => 69
  | .vmem => 28
  | .smem => 0
  | _ => 0

abbrev bufTy : (tb : Table) → Fin (tcTables nBuf tb) → BufTy
  | .hbm, ⟨0, _⟩ => ⟨S8x256x1024, .f32⟩
  | .hbm, ⟨1, _⟩ => ⟨S8x2048x1024, .f32⟩
  | .hbm, ⟨2, _⟩ => ⟨S2x16x6144, .f32⟩
  | .hbm, ⟨3, _⟩ => ⟨S4x1024, .f32⟩
  | .hbm, ⟨4, _⟩ => ⟨S2x1024x3072, .bf16⟩
  | .hbm, ⟨5, _⟩ => ⟨S2048x2x32, .f32⟩
  | .hbm, ⟨6, _⟩ => ⟨S2048x2x32, .f32⟩
  | .hbm, ⟨7, _⟩ => ⟨S1x512, .f32⟩
  | .hbm, ⟨8, _⟩ => ⟨S2048x64, .f32⟩
  | .hbm, ⟨9, _⟩ => ⟨S1x2048x1x64, .f32⟩
  | .hbm, ⟨10, _⟩ => ⟨S1x2048x2x64, .f32⟩
  | .hbm, ⟨11, _⟩ => ⟨S2048x128, .f32⟩
  | .hbm, ⟨12, _⟩ => ⟨S2048x64, .f32⟩
  | .hbm, ⟨13, _⟩ => ⟨S1x2048x1x64, .f32⟩
  | .hbm, ⟨14, _⟩ => ⟨S1x2048x2x64, .f32⟩
  | .hbm, ⟨15, _⟩ => ⟨S2048x128, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S_, .i1⟩
  | .hbm, ⟨33, _⟩ => ⟨S128, .i1⟩
  | .hbm, ⟨34, _⟩ => ⟨S128, .i1⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .f32⟩
  | .hbm, ⟨43, _⟩ => ⟨S_, .f32⟩
  | .hbm, ⟨44, _⟩ => ⟨S2048x128, .i1⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S_, .f32⟩
  | .hbm, ⟨49, _⟩ => ⟨S_, .f32⟩
  | .hbm, ⟨50, _⟩ => ⟨S2048x128, .i1⟩
  | .hbm, ⟨51, _⟩ => ⟨S2048x128, .f32⟩
  | .hbm, ⟨52, _⟩ => ⟨S2048x128, .f32⟩
  | .hbm, ⟨53, _⟩ => ⟨S_, .f32⟩
  | .hbm, ⟨54, _⟩ => ⟨S256x128, .f32⟩
  | .hbm, ⟨55, _⟩ => ⟨S2304x128, .f32⟩
  | .hbm, ⟨56, _⟩ => ⟨S_, .f32⟩
  | .hbm, ⟨57, _⟩ => ⟨S256x128, .f32⟩
  | .hbm, ⟨58, _⟩ => ⟨S2304x128, .f32⟩
  | .hbm, ⟨59, _⟩ => ⟨S_, .f32⟩
  | .hbm, ⟨60, _⟩ => ⟨S256x128, .f32⟩
  | .hbm, ⟨61, _⟩ => ⟨S2304x128, .f32⟩
  | .hbm, ⟨62, _⟩ => ⟨S8x384x2304, .bf16⟩
  | .hbm, ⟨63, _⟩ => ⟨S8x2304x128, .bf16⟩
  | .hbm, ⟨64, _⟩ => ⟨S8x2304x128, .bf16⟩
  | .hbm, ⟨65, _⟩ => ⟨S8x2304x1024, .bf16⟩
  | .hbm, ⟨66, _⟩ => ⟨S8x2304x384, .bf16⟩
  | .hbm, ⟨67, _⟩ => ⟨S8x2304x896, .bf16⟩
  | .hbm, ⟨68, _⟩ => ⟨S8x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x16x6144, .f32⟩
  | .local _ .vmem, ⟨5, _⟩ => ⟨S4x1024, .f32⟩
  | .local _ .vmem, ⟨6, _⟩ => ⟨S1x1024x3072, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1x512, .f32⟩
  | .local _ .vmem, ⟨14, _⟩ => ⟨S1x384x256, .bf16⟩
  | .local _ .vmem, ⟨15, _⟩ => ⟨S1x384x256, .bf16⟩
  | .local _ .vmem, ⟨16, _⟩ => ⟨S1x256x128, .bf16⟩
  | .local _ .vmem, ⟨17, _⟩ => ⟨S1x256x128, .bf16⟩
  | .local _ .vmem, ⟨18, _⟩ => ⟨S1x256x128, .bf16⟩
  | .local _ .vmem, ⟨19, _⟩ => ⟨S1x256x128, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x384, .bf16⟩
  | .local _ .vmem, ⟨23, _⟩ => ⟨S1x256x384, .bf16⟩
  | .local _ .vmem, ⟨24, _⟩ => ⟨S1x256x896, .bf16⟩
  | .local _ .vmem, ⟨25, _⟩ => ⟨S1x256x896, .bf16⟩
  | .local _ .vmem, ⟨26, _⟩ => ⟨S1x256x128, .f32⟩
  | .local _ .vmem, ⟨27, _⟩ => ⟨S1x256x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v14 : Ref sig .tc := ⟨.hbm, 52, rfl⟩
abbrev main_cst_2 : Ref sig .tc := ⟨.hbm, 53, rfl⟩
abbrev main_v15 : Ref sig .tc := ⟨.hbm, 54, rfl⟩
abbrev main_v16 : Ref sig .tc := ⟨.hbm, 55, rfl⟩
abbrev main_cst_3 : Ref sig .tc := ⟨.hbm, 56, rfl⟩
abbrev main_v17 : Ref sig .tc := ⟨.hbm, 57, rfl⟩
abbrev main_v18 : Ref sig .tc := ⟨.hbm, 58, rfl⟩
abbrev main_cst_4 : Ref sig .tc := ⟨.hbm, 59, rfl⟩
abbrev main_v19 : Ref sig .tc := ⟨.hbm, 60, rfl⟩
abbrev main_v20 : Ref sig .tc := ⟨.hbm, 61, rfl⟩
abbrev main_v21_0 : Ref sig .tc := ⟨.hbm, 62, rfl⟩
abbrev main_v21_1 : Ref sig .tc := ⟨.hbm, 63, rfl⟩
abbrev main_v21_2 : Ref sig .tc := ⟨.hbm, 64, rfl⟩
abbrev main_v21_3 : Ref sig .tc := ⟨.hbm, 65, rfl⟩
abbrev main_v21_4 : Ref sig .tc := ⟨.hbm, 66, rfl⟩
abbrev main_v21_5 : Ref sig .tc := ⟨.hbm, 67, rfl⟩
abbrev main_v21_6 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 9], ![false, false]⟩

def k0_off1 (i : grid0.Coords) : Fin 3 → Nat :=
  let c0_9 : Index := 0#32
  let arg1 : BitVec 32 := BitVec.ofNat 32 (i 1).val
  let c1_i32 : BitVec 32 := 1#32
  let v0 : BitVec 1 := Scalar.cmpi .slt arg1 c1_i32
  let c8_i32 : BitVec 32 := 8#32
  let arg0 : BitVec 32 := BitVec.ofNat 32 (i 0).val
  let v6 : BitVec 32 := Scalar.select v0 c8_i32 arg0
  let v20 : Index := Scalar.indexCast v6
  let c1024 : Index := 1024#32
  ![0, v20.toNat, 1024]
def k0_off2 (i : grid0.Coords) : Fin 3 → Nat :=
  let c0_11 : Index := 0#32
  let arg1 : BitVec 32 := BitVec.ofNat 32 (i 1).val
  let c1_i32 : BitVec 32 := 1#32
  let v0 : BitVec 1 := Scalar.cmpi .slt arg1 c1_i32
  let c8_i32 : BitVec 32 := 8#32
  let arg0 : BitVec 32 := BitVec.ofNat 32 (i 0).val
  let v6 : BitVec 32 := Scalar.select v0 c8_i32 arg0
  let v27 : Index := Scalar.indexCast v6
  let c0_12 : Index := 0#32
  ![0, v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x896 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x256x1024 : Shape := ⟨3, ![8, 256, 1024]⟩
abbrev S8x2048x1024 : Shape := ⟨3, ![8, 2048, 1024]⟩
abbrev S2x16x6144 : Shape := ⟨3, ![2, 16, 6144]⟩
abbrev S4x1024 : Shape := ⟨2, ![4, 1024]⟩
abbrev S2x1024x3072 : Shape := ⟨3, ![2, 1024, 3072]⟩
abbrev S2048x2x32 : Shape := ⟨3, ![2048, 2, 32]⟩
abbrev S1x512 : Shape := ⟨2, ![1, 512]⟩
abbrev S1x16x6144 : Shape := ⟨3, ![1, 16, 6144]⟩
abbrev S16x6144 : Shape := ⟨2, ![16, 6144]⟩
abbrev S16x1024 : Shape := ⟨2, ![16, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1024 : Shape := ⟨2, ![8, 1024]⟩
abbrev S8x1x1024 : Shape := ⟨3, ![8, 1, 1024]⟩
abbrev S8x256 : Shape := ⟨2, ![8, 256]⟩
abbrev S8x256x1 : Shape := ⟨3, ![8, 256, 1]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S8x2048x384 : Shape := ⟨3, ![8, 2048, 384]⟩
abbrev S8x2048x128 : Shape := ⟨3, ![8, 2048, 128]⟩
abbrev S8x2048x256 : Shape := ⟨3, ![8, 2048, 256]⟩
abbrev S8x2048x512 : Shape := ⟨3, ![8, 2048, 512]⟩
abbrev S8x2048x896 : Shape := ⟨3, ![8, 2048, 896]⟩
abbrev S8x256x3072 : Shape := ⟨3, ![8, 256, 3072]⟩
abbrev S8x256x384 : Shape := ⟨3, ![8, 256, 384]⟩
abbrev S8x256x128 : Shape := ⟨3, ![8, 256, 128]⟩
abbrev S8x256x256 : Shape := ⟨3, ![8, 256, 256]⟩
abbrev S8x256x512 : Shape := ⟨3, ![8, 256, 512]⟩
abbrev S8x256x896 : Shape := ⟨3, ![8, 256, 896]⟩
abbrev S1x384 : Shape := ⟨2, ![1, 384]⟩
abbrev S1x1x384 : Shape := ⟨3, ![1, 1, 384]⟩
abbrev S1x1x6x64 : Shape := ⟨4, ![1, 1, 6, 64]⟩
abbrev S6x64 : Shape := ⟨2, ![6, 64]⟩
abbrev S1x128 : Shape := ⟨2, ![1, 128]⟩
abbrev S1x1x128 : Shape := ⟨3, ![1, 1, 128]⟩
abbrev S1x1x2x64 : Shape := ⟨4, ![1, 1, 2, 64]⟩
abbrev S2x64 : Shape := ⟨2, ![2, 64]⟩
abbrev S8x256x6x64 : Shape := ⟨4, ![8, 256, 6, 64]⟩
abbrev S8x256x6 : Shape := ⟨3, ![8, 256, 6]⟩
abbrev S8x256x6x1 : Shape := ⟨4, ![8, 256, 6, 1]⟩
abbrev S8x2048x6x64 : Shape := ⟨4, ![8, 2048, 6, 64]⟩
abbrev S8x2048x6 : Shape := ⟨3, ![8, 2048, 6]⟩
abbrev S8x2048x6x1 : Shape := ⟨4, ![8, 2048, 6, 1]⟩
abbrev S8x2048x6x2x32 : Shape := ⟨5, ![8, 2048, 6, 2, 32]⟩
abbrev S8x2048x6x2x16 : Shape := ⟨5, ![8, 2048, 6, 2, 16]⟩
abbrev S2048x1x2x32 : Shape := ⟨4, ![2048, 1, 2, 32]⟩
abbrev S1x2048x1x2x32 : Shape := ⟨5, ![1, 2048, 1, 2, 32]⟩
abbrev S8x2304x384 : Shape := ⟨3, ![8, 2304, 384]⟩
abbrev S8x256x2x64 : Shape := ⟨4, ![8, 256, 2, 64]⟩
abbrev S8x256x2 : Shape := ⟨3, ![8, 256, 2]⟩
abbrev S8x256x2x1 : Shape := ⟨4, ![8, 256, 2, 1]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x2x2x32 : Shape := ⟨5, ![8, 2048, 2, 2, 32]⟩
abbrev S8x2048x2x2x16 : Shape := ⟨5, ![8, 2048, 2, 2, 16]⟩
abbrev S8x2304x128 : Shape := ⟨3, ![8, 2304, 128]⟩
abbrev S8x2048x4x64 : Shape := ⟨4, ![8, 2048, 4, 64]⟩
abbrev S8x2048x4x2x32 : Shape := ⟨5, ![8, 2048, 4, 2, 32]⟩
abbrev S8x2048x4x2x16 : Shape := ⟨5, ![8, 2048, 4, 2, 16]⟩
abbrev S8x2304x256 : Shape := ⟨3, ![8, 2304, 256]⟩
abbrev S8x2304x512 : Shape := ⟨3, ![8, 2304, 512]⟩
abbrev S8x2304x1024 : Shape := ⟨3, ![8, 2304, 1024]⟩
abbrev S8x384x2304 : Shape := ⟨3, ![8, 384, 2304]⟩
abbrev S8x2304x896 : Shape := ⟨3, ![8, 2304, 896]⟩

abbrev nBuf : Space → Nat
  | .hbm => 263
  | .vmem => 0
  | .smem => 0
  | _ => 0

abbrev hbmTy0_0 (i : Nat) : BufTy := match i % 128 with
  | 0 => ⟨S8x256x1024, .f32⟩
  | 1 => ⟨S8x2048x1024, .f32⟩
  | 2 => ⟨S2x16x6144, .f32⟩
  | 3 => ⟨S4x1024, .f32⟩
  | 4 => ⟨S2x1024x3072, .bf16⟩
  | 5 => ⟨S2048x2x32, .f32⟩
  | 6 => ⟨S2048x2x32, .f32⟩
  | 7 => ⟨S1x512, .f32⟩
  | 8 => ⟨S1x16x6144, .f32⟩
  | 9 => ⟨S16x6144, .f32⟩
  | 10 => ⟨S16x1024, .f32⟩
  | 11 => ⟨S16x1024, .f32⟩
  | 12 => ⟨S16x1024, .f32⟩
  | 13 => ⟨S16x1024, .f32⟩
  | 14 => ⟨S16x1024, .f32⟩
  | 15 => ⟨S16x1024, .f32⟩
  | 16 => ⟨S1x1024, .f32⟩
  | 17 => ⟨S1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x1024, .f32⟩
  | 35 => ⟨S8x1x1024, .f32⟩
  | 36 => ⟨S_, .f32⟩
  | 37 => ⟨S8x1x1024, .f32⟩
  | 38 => ⟨S8x1x1024, .f32⟩
  | 39 => ⟨S8x2048x1024, .f32⟩
  | 40 => ⟨S8x2048x1024, .f32⟩
  | 41 => ⟨S8x1024, .f32⟩
  | 42 => ⟨S8x1x1024, .f32⟩
  | 43 => ⟨S8x2048x1024, .f32⟩
  | 44 => ⟨S8x2048x1024, .f32⟩
  | 45 => ⟨S1x1024, .f32⟩
  | 46 => ⟨S1024, .f32⟩
  | 47 => ⟨S8x256x1024, .f32⟩
  | 48 => ⟨S_, .f32⟩
  | 49 => ⟨S8x256, .f32⟩
  | 50 => ⟨S8x256x1, .f32⟩
  | 51 => ⟨S_, .f32⟩
  | 52 => ⟨S8x256x1, .f32⟩
  | 53 => ⟨S8x256x1, .f32⟩
  | 54 => ⟨S_, .f32⟩
  | 55 => ⟨S8x256x1, .f32⟩
  | 56 => ⟨S8x256x1, .f32⟩
  | 57 => ⟨S8x256x1, .f32⟩
  | 58 => ⟨S8x256x1024, .f32⟩
  | 59 => ⟨S8x256x1024, .f32⟩
  | 60 => ⟨S1x1x1024, .f32⟩
  | 61 => ⟨S8x256x1024, .f32⟩
  | 62 => ⟨S8x256x1024, .f32⟩
  | 63 => ⟨S1x1024, .f32⟩
  | 64 => ⟨S1024, .f32⟩
  | 65 => ⟨S_, .f32⟩
  | 66 => ⟨S1024, .f32⟩
  | 67 => ⟨S1024, .f32⟩
  | 68 => ⟨S1x1x1024, .f32⟩
  | 69 => ⟨S8x256x1024, .f32⟩
  | 70 => ⟨S8x256x1024, .f32⟩
  | 71 => ⟨S1x1024, .f32⟩
  | 72 => ⟨S1024, .f32⟩
  | 73 => ⟨S1x1x1024, .f32⟩
  | 74 => ⟨S8x256x1024, .f32⟩
  | 75 => ⟨S8x256x1024, .f32⟩
  | 76 => ⟨S1x1024x3072, .bf16⟩
  | 77 => ⟨S1024x3072, .bf16⟩
  | 78 => ⟨S1024x3072, .f32⟩
  | 79 => ⟨S8x2048x3072, .f32⟩
  | 80 => ⟨S8x2048x384, .f32⟩
  | 81 => ⟨S8x2048x128, .f32⟩
  | 82 => ⟨S8x2048x128, .f32⟩
  | 83 => ⟨S8x2048x256, .f32⟩
  | 84 => ⟨S8x2048x256, .f32⟩
  | 85 => ⟨S8x2048x512, .f32⟩
  | 86 => ⟨S8x2048x384, .f32⟩
  | 87 => ⟨S8x2048x896, .f32⟩
  | 88 => ⟨S8x2048x128, .f32⟩
  | 89 => ⟨S8x256x3072, .f32⟩
  | 90 => ⟨S8x256x384, .f32⟩
  | 91 => ⟨S8x256x128, .f32⟩
  | 92 => ⟨S8x256x128, .f32⟩
  | 93 => ⟨S8x256x256, .f32⟩
  | 94 => ⟨S8x256x256, .f32⟩
  | 95 => ⟨S8x256x512, .f32⟩
  | 96 => ⟨S8x256x384, .f32⟩
  | 97 => ⟨S8x256x896, .f32⟩
  | 98 => ⟨S8x256x128, .f32⟩
  | 99 => ⟨S1x384, .f32⟩
  | 100 => ⟨S1x1x384, .f32⟩
  | 101 => ⟨S1x1x6x64, .f32⟩
  | 102 => ⟨S6x64, .f32⟩
  | 103 => ⟨S1x128, .f32⟩
  | 104 => ⟨S1x1x128, .f32⟩
  | 105 => ⟨S1x1x2x64, .f32⟩
  | 106 => ⟨S2x64, .f32⟩
  | 107 => ⟨S8x256x6x64, .f32⟩
  | 108 => ⟨S8x256x6x64, .f32⟩
  | 109 => ⟨S_, .f32⟩
  | 110 => ⟨S8x256x6, .f32⟩
  | 111 => ⟨S8x256x6x1, .f32⟩
  | 112 => ⟨S_, .f32⟩
  | 113 => ⟨S8x256x6x1, .f32⟩
  | 114 => ⟨S8x256x6x1, .f32⟩
  | 115 => ⟨S_, .f32⟩
  | 116 => ⟨S8x256x6x1, .f32⟩
  | 117 => ⟨S8x256x6x1, .f32⟩
  | 118 => ⟨S8x256x6x1, .f32⟩
  | 119 => ⟨S8x256x6x64, .f32⟩
  | 120 => ⟨S8x256x6x64, .f32⟩
  | 121 => ⟨S1x1x6x64, .f32⟩
  | 122 => ⟨S8x256x6x64, .f32⟩
  | 123 => ⟨S8x256x6x64, .f32⟩
  | 124 => ⟨S8x2048x6x64, .f32⟩
  | 125 => ⟨S8x2048x6x64, .f32⟩
  | 126 => ⟨S_, .f32⟩
  | 127 => ⟨S8x2048x6, .f32⟩
  | _ => ⟨S8x256x1024, .f32⟩

abbrev hbmTy0_1 (i : Nat) : BufTy := match i % 128 with
  | 0 => ⟨S8x2048x6x1, .f32⟩
  | 1 => ⟨S_, .f32⟩
  | 2 => ⟨S8x2048x6x1, .f32⟩
  | 3 => ⟨S8x2048x6x1, .f32⟩
  | 4 => ⟨S_, .f32⟩
  | 5 => ⟨S8x2048x6x1, .f32⟩
  | 6 => ⟨S8x2048x6x1, .f32⟩
  | 7 => ⟨S8x2048x6x1, .f32⟩
  | 8 => ⟨S8x2048x6x64, .f32⟩
  | 9 => ⟨S8x2048x6x64, .f32⟩
  | 10 => ⟨S1x1x6x64, .f32⟩
  | 11 => ⟨S8x2048x6x64, .f32⟩
  | 12 => ⟨S8x2048x6x64, .f32⟩
  | 13 => ⟨S8x2048x6x2x32, .f32⟩
  | 14 => ⟨S8x2048x6x2x16, .f32⟩
  | 15 => ⟨S8x2048x6x2x16, .f32⟩
  | 16 => ⟨S8x2048x6x2x16, .f32⟩
  | 17 => ⟨S8x2048x6x2x32, .f32⟩
  | 18 => ⟨S2048x1x2x32, .f32⟩
  | 19 => ⟨S1x2048x1x2x32, .f32⟩
  | 20 => ⟨S8x2048x6x2x32, .f32⟩
  | 21 => ⟨S8x2048x6x2x32, .f32⟩
  | 22 => ⟨S2048x1x2x32, .f32⟩
  | 23 => ⟨S1x2048x1x2x32, .f32⟩
  | 24 => ⟨S8x2048x6x2x32, .f32⟩
  | 25 => ⟨S8x2048x6x2x32, .f32⟩
  | 26 => ⟨S8x2048x6x2x32, .f32⟩
  | 27 => ⟨S8x2048x6x64, .f32⟩
  | 28 => ⟨S8x256x384, .f32⟩
  | 29 => ⟨S8x2048x384, .f32⟩
  | 30 => ⟨S8x2304x384, .f32⟩
  | 31 => ⟨S8x256x2x64, .f32⟩
  | 32 => ⟨S8x256x2x64, .f32⟩
  | 33 => ⟨S_, .f32⟩
  | 34 => ⟨S8x256x2, .f32⟩
  | 35 => ⟨S8x256x2x1, .f32⟩
  | 36 => ⟨S_, .f32⟩
  | 37 => ⟨S8x256x2x1, .f32⟩
  | 38 => ⟨S8x256x2x1, .f32⟩
  | 39 => ⟨S_, .f32⟩
  | 40 => ⟨S8x256x2x1, .f32⟩
  | 41 => ⟨S8x256x2x1, .f32⟩
  | 42 => ⟨S8x256x2x1, .f32⟩
  | 43 => ⟨S8x256x2x64, .f32⟩
  | 44 => ⟨S8x256x2x64, .f32⟩
  | 45 => ⟨S1x1x2x64, .f32⟩
  | 46 => ⟨S8x256x2x64, .f32⟩
  | 47 => ⟨S8x256x2x64, .f32⟩
  | 48 => ⟨S8x2048x2x64, .f32⟩
  | 49 => ⟨S8x2048x2x64, .f32⟩
  | 50 => ⟨S_, .f32⟩
  | 51 => ⟨S8x2048x2, .f32⟩
  | 52 => ⟨S8x2048x2x1, .f32⟩
  | 53 => ⟨S_, .f32⟩
  | 54 => ⟨S8x2048x2x1, .f32⟩
  | 55 => ⟨S8x2048x2x1, .f32⟩
  | 56 => ⟨S_, .f32⟩
  | 57 => ⟨S8x2048x2x1, .f32⟩
  | 58 => ⟨S8x2048x2x1, .f32⟩
  | 59 => ⟨S8x2048x2x1, .f32⟩
  | 60 => ⟨S8x2048x2x64, .f32⟩
  | 61 => ⟨S8x2048x2x64, .f32⟩
  | 62 => ⟨S1x1x2x64, .f32⟩
  | 63 => ⟨S8x2048x2x64, .f32⟩
  | 64 => ⟨S8x2048x2x64, .f32⟩
  | 65 => ⟨S8x2048x2x2x32, .f32⟩
  | 66 => ⟨S8x2048x2x2x16, .f32⟩
  | 67 => ⟨S8x2048x2x2x16, .f32⟩
  | 68 => ⟨S8x2048x2x2x16, .f32⟩
  | 69 => ⟨S8x2048x2x2x32, .f32⟩
  | 70 => ⟨S2048x1x2x32, .f32⟩
  | 71 => ⟨S1x2048x1x2x32, .f32⟩
  | 72 => ⟨S8x2048x2x2x32, .f32⟩
  | 73 => ⟨S8x2048x2x2x32, .f32⟩
  | 74 => ⟨S2048x1x2x32, .f32⟩
  | 75 => ⟨S1x2048x1x2x32, .f32⟩
  | 76 => ⟨S8x2048x2x2x32, .f32⟩
  | 77 => ⟨S8x2048x2x2x32, .f32⟩
  | 78 => ⟨S8x2048x2x2x32, .f32⟩
  | 79 => ⟨S8x2048x2x64, .f32⟩
  | 80 => ⟨S8x256x128, .f32⟩
  | 81 => ⟨S8x2048x128, .f32⟩
  | 82 => ⟨S8x2304x128, .f32⟩
  | 83 => ⟨S8x2048x4x64, .f32⟩
  | 84 => ⟨S8x2048x4x2x32, .f32⟩
  | 85 => ⟨S8x2048x4x2x16, .f32⟩
  | 86 => ⟨S8x2048x4x2x16, .f32⟩
  | 87 => ⟨S8x2048x4x2x16, .f32⟩
  | 88 => ⟨S8x2048x4x2x32, .f32⟩
  | 89 => ⟨S2048x1x2x32, .f32⟩
  | 90 => ⟨S1x2048x1x2x32, .f32⟩
  | 91 => ⟨S8x2048x4x2x32, .f32⟩
  | 92 => ⟨S8x2048x4x2x32, .f32⟩
  | 93 => ⟨S2048x1x2x32, .f32⟩
  | 94 => ⟨S1x2048x1x2x32, .f32⟩
  | 95 => ⟨S8x2048x4x2x32, .f32⟩
  | 96 => ⟨S8x2048x4x2x32, .f32⟩
  | 97 => ⟨S8x2048x4x2x32, .f32⟩
  | 98 => ⟨S8x2048x4x64, .f32⟩
  | 99 => ⟨S8x2048x256, .f32⟩
  | 100 => ⟨S8x2304x256, .f32⟩
  | 101 => ⟨S8x2048x4x64, .f32⟩
  | 102 => ⟨S8x2048x4x2x32, .f32⟩
  | 103 => ⟨S8x2048x4x2x16, .f32⟩
  | 104 => ⟨S8x2048x4x2x16, .f32⟩
  | 105 => ⟨S8x2048x4x2x16, .f32⟩
  | 106 => ⟨S8x2048x4x2x32, .f32⟩
  | 107 => ⟨S2048x1x2x32, .f32⟩
  | 108 => ⟨S1x2048x1x2x32, .f32⟩
  | 109 => ⟨S8x2048x4x2x32, .f32⟩
  | 110 => ⟨S8x2048x4x2x32, .f32⟩
  | 111 => ⟨S2048x1x2x32, .f32⟩
  | 112 => ⟨S1x2048x1x2x32, .f32⟩
  | 113 => ⟨S8x2048x4x2x32, .f32⟩
  | 114 => ⟨S8x2048x4x2x32, .f32⟩
  | 115 => ⟨S8x2048x4x2x32, .f32⟩
  | 116 => ⟨S8x2048x4x64, .f32⟩
  | 117 => ⟨S8x2048x256, .f32⟩
  | 118 => ⟨S8x2304x256, .f32⟩
  | 119 => ⟨S_, .f32⟩
  | 120 => ⟨S8x2304x256, .f32⟩
  | 121 => ⟨S8x2304x256, .f32⟩
  | 122 => ⟨S8x2304x512, .f32⟩
  | 123 => ⟨S8x2304x1024, .f32⟩
  | 124 => ⟨S8x2304x384, .bf16⟩
  | 125 => ⟨S8x384x2304, .bf16⟩
  | 126 => ⟨S8x2304x128, .bf16⟩
  | 127 => ⟨S8x2304x128, .f32⟩
  | _ => ⟨S8x256x1024, .f32⟩

abbrev hbmTy0_2 (i : Nat) : BufTy := match i % 128 with
  | 0 => ⟨S8x2304x128, .bf16⟩
  | 1 => ⟨S8x2304x1024, .bf16⟩
  | 2 => ⟨S8x2304x384, .f32⟩
  | 3 => ⟨S8x2304x384, .bf16⟩
  | 4 => ⟨S8x2304x896, .f32⟩
  | 5 => ⟨S8x2304x896, .bf16⟩
  | 6 => ⟨S8x2304x128, .f32⟩
  | _ => ⟨S8x256x1024, .f32⟩

abbrev hbmTy (i : Nat) : BufTy := match i / 128 with
  | 0 => hbmTy0_0 i
  | 1 => hbmTy0_1 i
  | 2 => hbmTy0_2 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_7 : Ref sig .tc := ⟨.hbm, 109, rfl⟩
abbrev main_v93 : Ref sig .tc := ⟨.hbm, 110, rfl⟩
abbrev main_v94 : Ref sig .tc := ⟨.hbm, 111, rfl⟩
abbrev main_cst_8 : Ref sig .tc := ⟨.hbm, 112, rfl⟩
abbrev main_v95 : Ref sig .tc := ⟨.hbm, 113, rfl⟩
abbrev main_v96 : Ref sig .tc := ⟨.hbm, 114, rfl⟩
abbrev main_cst_9 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_10 : Ref sig .tc := ⟨.hbm, 126, rfl⟩
abbrev main_v107 : Ref sig .tc := ⟨.hbm, 127, rfl⟩
abbrev main_v108 : Ref sig .tc := ⟨.hbm, 128, rfl⟩
abbrev main_cst_11 : Ref sig .tc := ⟨.hbm, 129, rfl⟩
abbrev main_v109 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_13 : Ref sig .tc := ⟨.hbm, 161, rfl⟩
abbrev main_v139 : Ref sig .tc := ⟨.hbm, 162, rfl⟩
abbrev main_v140 : Ref sig .tc := ⟨.hbm, 163, rfl⟩
abbrev main_cst_14 : Ref sig .tc := ⟨.hbm, 164, rfl⟩
abbrev main_v141 : Ref sig .tc := ⟨.hbm, 165, rfl⟩
abbrev main_v142 : Ref sig .tc := ⟨.hbm, 166, rfl⟩
abbrev main_cst_15 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_16 : Ref sig .tc := ⟨.hbm, 178, rfl⟩
abbrev main_v153 : Ref sig .tc := ⟨.hbm, 179, rfl⟩
abbrev main_v154 : Ref sig .tc := ⟨.hbm, 180, rfl⟩
abbrev main_cst_17 : Ref sig .tc := ⟨.hbm, 181, rfl⟩
abbrev main_v155 : Ref sig .tc := ⟨.hbm, 182, rfl⟩
abbrev main_v156 : Ref sig .tc := ⟨.hbm, 183, rfl⟩
abbrev main_cst_18 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_cst_19 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S2x6144x16, .f32⟩
  | .hbm, ⟨18, _⟩ => ⟨S2x16x6144, .f32⟩
  | .hbm, ⟨19, _⟩ => ⟨S2x1x6144, .f32⟩
  | .hbm, ⟨20, _⟩ => ⟨S2x16x6144, .f32⟩
  | .hbm, ⟨21, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel5.lean ====
abbrev S8x256x384 : Shape := ⟨3, ![8, 256, 384]⟩
abbrev S8x2304x256 : Shape := ⟨3, ![8, 2304, 256]⟩
abbrev S8x2304x384 : Shape := ⟨3, ![8, 2304, 384]⟩
abbrev S8x256x1024 : Shape := ⟨3, ![8, 256, 1024]⟩
abbrev S2x16x6144 : Shape := ⟨3, ![2, 16, 6144]⟩
abbrev S4x1024 : Shape := ⟨2, ![4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x256x384 : Shape := ⟨3, ![1, 256, 384]⟩
abbrev S1x256x256 : Shape := ⟨3, ![1, 256, 256]⟩
abbrev S1x256x1024 : Shape := ⟨3, ![1, 256, 1024]⟩
abbrev S1x16x6144 : Shape := ⟨3, ![1, 16, 6144]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S256x384 : Shape := ⟨2, ![256, 384]⟩
abbrev S256x256 : Shape := ⟨2, ![256, 256]⟩
abbrev S256x1024 : Shape := ⟨2, ![256, 1024]⟩
abbrev S1024x1024 : Shape := ⟨2, ![1024, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S8x256x384, .bf16⟩
  | .hbm, ⟨1, _⟩ => ⟨S8x2304x256, .bf16⟩
  | .hbm, ⟨2, _⟩ => ⟨S8x2304x384, .bf16⟩
  | .hbm, ⟨3, _⟩ => ⟨S8x256x1024, .f32⟩
  | .hbm, ⟨4, _⟩ => ⟨S2x16x6144, .f32⟩
  | .hbm, ⟨5, _⟩ => ⟨S4x1024, .f32⟩
  | .hbm, ⟨6, _⟩ => ⟨S2x1024x1024, .f32⟩
  | .hbm, ⟨7, _⟩ => ⟨S2x1024x4096, .f32⟩
  | .hbm, ⟨8, _⟩ => ⟨S2x4096x1024, .f32⟩
  | .hbm, ⟨9, _⟩ => ⟨S8x256x1024, .f32⟩
  | .local _ .vmem, ⟨0, _⟩ => ⟨S1x256x384, .bf16⟩
  | .local _ .vmem, ⟨1, _⟩ => ⟨S1x256x384, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x384, .bf16⟩
  | .local _ .vmem, ⟨5, _⟩ => ⟨S1x256x384, .bf16⟩
  | .local _ .vmem, ⟨6, _⟩ => ⟨S1x256x1024, .f32⟩
  | .local _ .vmem, ⟨7, _⟩ => ⟨S1x256x1024, .f32⟩
  | .local _ .vmem, ⟨8, _⟩ => ⟨S1x16x6144, .f32⟩
  | .local _ .vmem, ⟨9, _⟩ => ⟨S4x1024, .f32⟩
  | .local _ .vmem, ⟨10, _⟩ => ⟨S1x1024x1024, .f32⟩
  | .local _ .vmem, ⟨11, _⟩ => ⟨S1x1024x4096, .f32⟩
  | .local _ .vmem, ⟨12, _⟩ => ⟨S1x4096x1024, .f32⟩
  | .local _ .vmem, ⟨13, _⟩ => ⟨S1x256x1024, .f32⟩
  | .local _ .vmem, ⟨14, _⟩ => ⟨S1x256x1024, .f32⟩
  | _, _ => ⟨S8x256x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, v2.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x16x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x256x384 : Shape := ⟨3, ![8, 256, 384]⟩
abbrev S8x2304x256 : Shape := ⟨3, ![8, 2304, 256]⟩
abbrev S8x2304x384 : Shape := ⟨3, ![8, 2304, 384]⟩
abbrev S8x256x1024 : Shape := ⟨3, ![8, 256, 1024]⟩
abbrev S2x16x6144 : Shape := ⟨3, ![2, 16, 6144]⟩
abbrev S4x1024 : Shape := ⟨2, ![4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x1x6144 : Shape := ⟨3, ![1, 1, 6144]⟩
abbrev S6144 : Shape := ⟨1, ![6144]⟩
abbrev S8x6144 : Shape := ⟨2, ![8, 6144]⟩
abbrev S8x1024 : Shape := ⟨2, ![8, 1024]⟩
abbrev S8x256x256 : Shape := ⟨3, ![8, 256, 256]⟩
abbrev S2048x384 : Shape := ⟨2, ![2048, 384]⟩
abbrev S2048x256 : Shape := ⟨2, ![2048, 256]⟩
abbrev S2048x1024 : Shape := ⟨2, ![2048, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x256x4096 : Shape := ⟨3, ![8, 256, 4096]⟩

abbrev nBuf : Space → Nat
  | .hbm => 112
  | .vmem => 0
  | .smem => 0
  | _ => 0

abbrev bufTy : (tb : Table) → Fin (tcTables nBuf tb) → BufTy
  | .hbm, ⟨0, _⟩ => ⟨S8x256x384, .bf16⟩
  | .hbm, ⟨1, _⟩ => ⟨S8x2304x256, .bf16⟩
  | .hbm, ⟨2, _⟩ => ⟨S8x2304x384, .bf16⟩
  | .hbm, ⟨3, _⟩ => ⟨S8x256x1024, .f32⟩
  | .hbm, ⟨4, _⟩ => ⟨S2x16x6144, .f32⟩
  | .hbm, ⟨5, _⟩ => ⟨S4x1024, .f32⟩
  | .hbm, ⟨6, _⟩ => ⟨S2x1024x1024, .f32⟩
  | .hbm, ⟨7, _⟩ => ⟨S2x1024x4096, .f32⟩
  | .hbm, ⟨8, _⟩ => ⟨S2x4096x1024, .f32⟩
  | .hbm, ⟨9, _⟩ => ⟨S1x1x6144, .f32⟩
  | .hbm, ⟨10, _⟩ => ⟨S6144, .f32⟩
  | .hbm, ⟨11, _⟩ => ⟨S8x6144, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x256x384, .f32⟩
  | .hbm, ⟨19, _⟩ => ⟨S8x2304x256, .f32⟩
  | .hbm, ⟨20, _⟩ => ⟨S8x256x256, .f32⟩
  | .hbm, ⟨21, _⟩ => ⟨S8x2304x384, .f32⟩
  | .hbm, ⟨22, _⟩ => ⟨S8x256x384, .f32⟩
  | .hbm, ⟨23, _⟩ => ⟨S2048x384, .f32⟩
  | .hbm, ⟨24, _⟩ => ⟨S2048x256, .f32⟩
  | .hbm, ⟨25, _⟩ => ⟨S2048x384, .f32⟩
  | .hbm, ⟨26, _⟩ => ⟨S2048x1024, .f32⟩
  | .hbm, ⟨27, _⟩ => ⟨S1x1024x1024, .f32⟩
  | .hbm, ⟨28, _⟩ => ⟨S1024x1024, .f32⟩
  | .hbm, ⟨29, _⟩ => ⟨S2048x1024, .f32⟩
  | .hbm, ⟨30, _⟩ => ⟨S8x256x1024, .f32⟩
  | .hbm, ⟨31, _⟩ => ⟨S8x1x1024, .f32⟩
  | .hbm, ⟨32, _⟩ => ⟨S1x1024, .f32⟩
  | .hbm, ⟨33, _⟩ => ⟨S1024, .f32⟩
  | .hbm, ⟨34, _⟩ => ⟨S8x256x1024, .f32⟩
  | .hbm, ⟨35, _⟩ => ⟨S_, .f32⟩
  | .hbm, ⟨36, _⟩ => ⟨S8x256, .f32⟩
  | .hbm, ⟨37, _⟩ => ⟨S8x256x1, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S8x256x1, .f32⟩
  | .hbm, ⟨45, _⟩ => ⟨S8x256x1024, .f32⟩
  | .hbm, ⟨46, _⟩ => ⟨S8x256x1024, .f32⟩
  | .hbm, ⟨47, _⟩ => ⟨S1x1x1024, .f32⟩
  | .hbm, ⟨48, _⟩ => ⟨S8x256x1024, .f32⟩
  | .hbm, ⟨49, _⟩ => ⟨S8x256x1024, .f32⟩
  | .hbm, ⟨50, _⟩ => ⟨S8x256x1024, .f32⟩
  | .hbm, ⟨51, _⟩ => ⟨S8x256x1024, .f32⟩
  | .hbm, ⟨52, _⟩ => ⟨S8x256x1024, .f32⟩
  | .hbm, ⟨53, _⟩ => ⟨S1x1024, .f32⟩
  | .hbm, ⟨54, _⟩ => ⟨S1024, .f32⟩
  | .hbm, ⟨55, _⟩ => ⟨S8x256x1024, .f32⟩
  | .hbm, ⟨56, _⟩ => ⟨S_, .f32⟩
  | .hbm, ⟨57, _⟩ => ⟨S8x256, .f32⟩
  | .hbm, ⟨58, _⟩ => ⟨S8x256x1, .f32⟩
  | .hbm, ⟨59, _⟩ => ⟨S_, .f32⟩
  | .hbm, ⟨60, _⟩ => ⟨S8x256x1, .f32⟩
  | .hbm, ⟨61, _⟩ => ⟨S8x256x1, .f32⟩
  | .hbm, ⟨62, _⟩ => ⟨S_, .f32⟩
  | .hbm, ⟨63, _⟩ => ⟨S8x256x1, .f32⟩
  | .hbm, ⟨64, _⟩ => ⟨S8x256x1, .f32⟩
  | .hbm, ⟨65, _⟩ => ⟨S8x256x1, .f32⟩
  | .hbm, ⟨66, _⟩ => ⟨S8x256x1024, .f32⟩
  | .hbm, ⟨67, _⟩ => ⟨S8x256x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S8x1x1024, .f32⟩
  | .hbm, ⟨72, _⟩ => ⟨S_, .f32⟩
  | .hbm, ⟨73, _⟩ => ⟨S8x1x1024, .f32⟩
  | .hbm, ⟨74, _⟩ => ⟨S8x1x1024, .f32⟩
  | .hbm, ⟨75, _⟩ => ⟨S8x256x1024, .f32⟩
  | .hbm, ⟨76, _⟩ => ⟨S8x256x1024, .f32⟩
  | .hbm, ⟨77, _⟩ => ⟨S8x1x1024, .f32⟩
  | .hbm, ⟨78, _⟩ => ⟨S8x256x1024, .f32⟩
  | .hbm, ⟨79, _⟩ => ⟨S8x256x1024, .f32⟩
  | .hbm, ⟨80, _⟩ => ⟨S8x1x1024, .f32⟩
  | .hbm, ⟨81, _⟩ => ⟨S1x1024x4096, .f32⟩
  | .hbm, ⟨82, _⟩ => ⟨S1024x4096, .f32⟩
  | .hbm, ⟨83, _⟩ => ⟨S1x4096x1024, .f32⟩
  | .hbm, ⟨84, _⟩ => ⟨S4096x1024, .f32⟩
  | .hbm, ⟨85, _⟩ => ⟨S8x256x4096, .f32⟩
  | .hbm, ⟨86, _⟩ => ⟨S_, .f32⟩
  | .hbm, ⟨87, _⟩ => ⟨S8x256x4096, .f32⟩
  | .hbm, ⟨88, _⟩ => ⟨S8x256x4096, .f32⟩
  | .hbm, ⟨89, _⟩ => ⟨S8x256x4096, .f32⟩
  | .hbm, ⟨90, _⟩ => ⟨S8x256x1024, .f32⟩
  | .hbm, ⟨91, _⟩ => ⟨S1x1024, .f32⟩
  | .hbm, ⟨92, _⟩ => ⟨S1024, .f32⟩
  | .hbm, ⟨93, _⟩ => ⟨S8x256x1024, .f32⟩
  | .hbm, ⟨94, _⟩ => ⟨S_, .f32⟩
  | .hbm, ⟨95, _⟩ => ⟨S8x256, .f32⟩
  | .hbm, ⟨96, _⟩ => ⟨S8x256x1, .f32⟩
  | .hbm, ⟨97, _⟩ => ⟨S_, .f32⟩
  | .hbm, ⟨98, _⟩ => ⟨S8x256x1, .f32⟩
  | .hbm, ⟨99, _⟩ => ⟨S8x256x1, .f32⟩
  | .hbm, ⟨100, _⟩ => ⟨S_, .f32⟩
  | .hbm, ⟨101, _⟩ => ⟨S8x256x1, .f32⟩
  | .hbm, ⟨102, _⟩ => ⟨S8x256x1, .f32⟩
  | .hbm, ⟨103, _⟩ => ⟨S8x256x1, .f32⟩
  | .hbm, ⟨104, _⟩ => ⟨S8x256x1024, .f32⟩
  | .hbm, ⟨105, _⟩ => ⟨S8x256x1024, .f32⟩
  | .hbm, ⟨106, _⟩ => ⟨S1x1x1024, .f32⟩
  | .hbm, ⟨107, _⟩ => ⟨S8x256x1024, .f32⟩
  | .hbm, ⟨108, _⟩ => ⟨S8x256x1024, .f32⟩
  | .hbm, ⟨109, _⟩ => ⟨S8x256x1024, .f32⟩
  | .hbm, ⟨110, _⟩ => ⟨S8x256x1024, .f32⟩
  | .hbm, ⟨111, _⟩ => ⟨S8x256x1024, .f32⟩
  | _, _ => ⟨S8x256x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call0_cst : Ref sig .tc := ⟨.hbm, 86, rfl⟩
abbrev main_call0_v0 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_6 : Ref sig .tc := ⟨.hbm, 94, rfl⟩
abbrev main_v76 : Ref sig .tc := ⟨.hbm, 95, rfl⟩
abbrev main_v77 : Ref sig .tc := ⟨.hbm, 96, rfl⟩
abbrev main_cst_7 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]
-- ==== Kernel6.lean ====
abbrev S8x384x2304 : Shape := ⟨3, ![8, 384, 2304]⟩
abbrev S8x2304x128 : Shape := ⟨3, ![8, 2304, 128]⟩
abbrev S8x256x384 : Shape := ⟨3, ![8, 256, 384]⟩
abbrev S1x384x256 : Shape := ⟨3, ![1, 384, 256]⟩
abbrev S1x256x128 : Shape := ⟨3, ![1, 256, 128]⟩
abbrev S1x256x384 : Shape := ⟨3, ![1, 256, 384]⟩
abbrev S4x256x128 : Shape := ⟨3, ![4, 256, 128]⟩
abbrev S2x1x80x256 : Shape := ⟨4, ![2, 1, 80, 256]⟩
abbrev S1x6x80x256 : Shape := ⟨4, ![1, 6, 80, 256]⟩
abbrev S1x6x1x256 : Shape := ⟨4, ![1, 6, 1, 256]⟩
abbrev S2x6x1x256 : Shape := ⟨4, ![2, 6, 1, 256]⟩
abbrev S2x3x512x256 : Shape := ⟨4, ![2, 3, 512, 256]⟩
abbrev S2x6x256x256 : Shape := ⟨4, ![2, 6, 256, 256]⟩
abbrev S256x128 : Shape := ⟨2, ![256, 128]⟩
abbrev S128x256 : Shape := ⟨2, ![128, 256]⟩
abbrev S16x256 : Shape := ⟨2, ![16, 256]⟩
abbrev S64x256 : Shape := ⟨2, ![64, 256]⟩
abbrev S80x256 : Shape := ⟨2, ![80, 256]⟩
abbrev S1x1x80x256 : Shape := ⟨4, ![1, 1, 80, 256]⟩
abbrev S512x128 : Shape := ⟨2, ![512, 128]⟩
abbrev S1x128x256 : Shape := ⟨3, ![1, 128, 256]⟩
abbrev S512x256 : Shape := ⟨2, ![512, 256]⟩
abbrev S1x1x512x256 : Shape := ⟨4, ![1, 1, 512, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩

abbrev nBuf : Space → Nat
  | .hbm => 4
  | .vmem => 15
  | .smem => 0
  | _ => 0

abbrev bufTy : (tb : Table) → Fin (tcTables nBuf tb) → BufTy
  | .hbm, ⟨0, _⟩ => ⟨S8x384x2304, .bf16⟩
  | .hbm, ⟨1, _⟩ => ⟨S8x2304x128, .bf16⟩
  | .hbm, ⟨2, _⟩ => ⟨S8x2304x128, .bf16⟩
  | .hbm, ⟨3, _⟩ => ⟨S8x256x384, .bf16⟩
  | .local _ .vmem, ⟨0, _⟩ => ⟨S1x384x256, .bf16⟩
  | .local _ .vmem, ⟨1, _⟩ => ⟨S1x384x256, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x384, .bf16⟩
  | .local _ .vmem, ⟨7, _⟩ => ⟨S1x256x384, .bf16⟩
  | .local _ .vmem, ⟨8, _⟩ => ⟨S4x256x128, .bf16⟩
  | .local _ .vmem, ⟨9, _⟩ => ⟨S2x1x80x256, .bf16⟩
  | .local _ .vmem, ⟨10, _⟩ => ⟨S1x6x80x256, .f32⟩
  | .local _ .vmem, ⟨11, _⟩ => ⟨S1x6x1x256, .f32⟩
  | .local _ .vmem, ⟨12, _⟩ => ⟨S2x6x1x256, .f32⟩
  | .local _ .vmem, ⟨13, _⟩ => ⟨S2x3x512x256, .f32⟩
  | .local _ .vmem, ⟨14, _⟩ => ⟨S2x6x256x256, .bf16⟩
  | _, _ => ⟨S8x384x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![arg0.toNat, c0_i32_1.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S8x384x2304 : Shape := ⟨3, ![8, 384, 2304]⟩
abbrev S8x2304x128 : Shape := ⟨3, ![8, 2304, 128]⟩
abbrev S8x384x256 : Shape := ⟨3, ![8, 384, 256]⟩
abbrev S8x256x384 : Shape := ⟨3, ![8, 256, 384]⟩
abbrev S8x256x2x3x64 : Shape := ⟨5, ![8, 256, 2, 3, 64]⟩
abbrev S8x256x128 : Shape := ⟨3, ![8, 256, 128]⟩
abbrev S8x256x2x64 : Shape := ⟨4, ![8, 256, 2, 64]⟩
abbrev S8x2x256x256x3 : Shape := ⟨5, ![8, 2, 256, 256, 3]⟩
abbrev S8x2x3x256x256 : Shape := ⟨5, ![8, 2, 3, 256, 256]⟩
abbrev S_ : Shape := ⟨0, ![]⟩
abbrev S8x2x3x256 : Shape := ⟨4, ![8, 2, 3, 256]⟩
abbrev S8x2x3x256x1 : Shape := ⟨5, ![8, 2, 3, 256, 1]⟩
abbrev S8x2x64x3x256 : Shape := ⟨5, ![8, 2, 64, 3, 256]⟩

abbrev nBuf : Space → Nat
  | .hbm => 39
  | .vmem => 0
  | .smem => 0
  | _ => 0

abbrev bufTy : (tb : Table) → Fin (tcTables nBuf tb) → BufTy
  | .hbm, ⟨0, _⟩ => ⟨S8x384x2304, .bf16⟩
  | .hbm, ⟨1, _⟩ => ⟨S8x2304x128, .bf16⟩
  | .hbm, ⟨2, _⟩ => ⟨S8x2304x128, .bf16⟩
  | .hbm, ⟨3, _⟩ => ⟨S8x384x2304, .f32⟩
  | .hbm, ⟨4, _⟩ => ⟨S8x384x256, .f32⟩
  | .hbm, ⟨5, _⟩ => ⟨S8x256x384, .f32⟩
  | .hbm, ⟨6, _⟩ => ⟨S8x256x2x3x64, .f32⟩
  | .hbm, ⟨7, _⟩ => ⟨S8x2304x128, .f32⟩
  | .hbm, ⟨8, _⟩ => ⟨S8x256x128, .f32⟩
  | .hbm, ⟨9, _⟩ => ⟨S8x256x2x64, .f32⟩
  | .hbm, ⟨10, _⟩ => ⟨S8x2304x128, .f32⟩
  | .hbm, ⟨11, _⟩ => ⟨S8x256x128, .f32⟩
  | .hbm, ⟨12, _⟩ => ⟨S8x256x2x64, .f32⟩
  | .hbm, ⟨13, _⟩ => ⟨S8x2x256x256x3, .f32⟩
  | .hbm, ⟨14, _⟩ => ⟨S8x2x3x256x256, .f32⟩
  | .hbm, ⟨15, _⟩ => ⟨S_, .f32⟩
  | .hbm, ⟨16, _⟩ => ⟨S_, .f32⟩
  | .hbm, ⟨17, _⟩ => ⟨S8x2x3x256x256, .f32⟩
  | .hbm, ⟨18, _⟩ => ⟨S8x2x3x256x256, .f32⟩
  | .hbm, ⟨19, _⟩ => ⟨S_, .f32⟩
  | .hbm, ⟨20, _⟩ => ⟨S8x2x3x256, .f32⟩
  | .hbm, ⟨21, _⟩ => ⟨S_, .f32⟩
  | .hbm, ⟨22, _⟩ => ⟨S8x2x3x256, .f32⟩
  | .hbm, ⟨23, _⟩ => ⟨S8x2x3x256, .f32⟩
  | .hbm, ⟨24, _⟩ => ⟨S8x2x3x256x1, .f32⟩
  | .hbm, ⟨25, _⟩ => ⟨S8x2x3x256x256, .f32⟩
  | .hbm, ⟨26, _⟩ => ⟨S8x2x3x256x256, .f32⟩
  | .hbm, ⟨27, _⟩ => ⟨S8x2x3x256x256, .f32⟩
  | .hbm, ⟨28, _⟩ => ⟨S_, .f32⟩
  | .hbm, ⟨29, _⟩ => ⟨S8x2x3x256, .f32⟩
  | .hbm, ⟨30, _⟩ => ⟨S8x2x3x256x1, .f32⟩
  | .hbm, ⟨31, _⟩ => ⟨S8x2x3x256x256, .f32⟩
  | .hbm, ⟨32, _⟩ => ⟨S8x2x3x256x256, .f32⟩
  | .hbm, ⟨33, _⟩ => ⟨S8x2x3x256x256, .bf16⟩
  | .hbm, ⟨34, _⟩ => ⟨S8x2x3x256x256, .f32⟩
  | .hbm, ⟨35, _⟩ => ⟨S8x2x64x3x256, .f32⟩
  | .hbm, ⟨36, _⟩ => ⟨S8x256x2x3x64, .f32⟩
  | .hbm, ⟨37, _⟩ => ⟨S8x256x384, .f32⟩
  | .hbm, ⟨38, _⟩ => ⟨S8x256x384, .bf16⟩
  | _, _ => ⟨S8x384x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Proof.Att.Model.lean ====
/- One grid point of the attention, written as a loop: the pieces its stores leave in the six buffers it writes
   (the output block, the accumulators, the running maxima, the fading factors, the scores and the weights). -/
module

public import proofs.«01_k».proof.Proof.Gen.KernelIdeal.Frame

@[expose] public section

set_option maxRecDepth 16384

noncomputable section

namespace Cert.KernelIdeal.Att

open Idealize.ShloMosaic Idealize.ShloMosaic.TcCoe Idealize.SL.Sem
open Cert.KernelIdeal Cert.KernelIdeal.Gen

variable {F : FTy → Type} [FloatOps F] [Named F]

/-- The pieces stored so far in each buffer, the last one first. -/
structure Bufs (F : FTy → Type) [FloatOps F] where
  out : List (View.Piece (Elt F) S1x512x384 .bf16)
  acc : List (View.Piece (Elt F) S2x6x80x256 .f32)
  top : List (View.Piece (Elt F) S2x6x1x256 .f32)
  fade : List (View.Piece (Elt F) S2x6x1x256 .f32)
  sc : List (View.Piece (Elt F) S2x3x512x256 .f32)
  wt : List (View.Piece (Elt F) S2x6x256x256 .bf16)

/-! ## The rectangles -/

/-- Accumulator of query tile `t`, head `h`. -/
abbrev rAcc (t : Fin 2) (h : Fin 6) : Rect S2x6x80x256 :=
  Rect.unit ![t.val, h.val, 0, 0] S1x1x80x256.size (by intro a; fin_cases a <;> simp <;> omega)
/-- Row of a maximum or of a fading factor. -/
abbrev rTop (t : Fin 2) (h : Fin 6) : Rect S2x6x1x256 :=
  Rect.unit ![t.val, h.val, 0, 0] S1x1x1x256.size (by intro a; fin_cases a <;> simp <;> omega)
/-- Scores of two heads, in slot `p`. -/
abbrev rPair (p : Fin 2) (j : Fin 3) : Rect S2x3x512x256 :=
  Rect.unit ![p.val, j.val, 0, 0] S1x1x512x256.size (by intro a; fin_cases a <;> simp <;> omega)
/-- Scores of one head, in slot `p`. -/
abbrev rHead (p : Fin 2) (h : Fin 6) : Rect S2x3x512x256 :=
  Rect.unit ![p.val, h.val / 2, h.val % 2 * 256, 0] S1x1x256x256.size
    (by intro a; fin_cases a <;> simp <;> omega)
/-- Weights of head `h`, in slot `p`. -/
abbrev rWt (p : Fin 2) (h : Fin 6) : Rect S2x6x256x256 :=
  Rect.unit ![p.val, h.val, 0, 0] S1x1x256x256.size (by intro a; fin_cases a <;> simp <;> omega)
/-- Output rows of query tile `t`, lanes of heads `2 j` and `2 j + 1`. -/
abbrev rOut (t : Fin 2) (j : Fin 3) : Rect S1x512x384 :=
  Rect.unit ![0, t.val * 256, j.val * 128] S1x256x128.size (by intro a; fin_cases a <;> simp <;> omega)

/-! ## What each store puts there -/

def scPay (ka kb : Vec F S1x256x128 .bf16) (q : Vec F S1x128x256 .bf16) : Vec F S1x1x512x256 .f32 :=
  shapeCast S1x1x512x256
    (matmul dot_S512x128_S128x256_S512x256_1_0_0_1_n_n none
      (concatenate S512x128 0
        [⟨S256x128, (shapeCast S256x128 ka shapeCasts_S1x256x128_S256x128 : FVec F S256x128 .bf16)⟩,
          ⟨S256x128, (shapeCast S256x128 kb shapeCasts_S1x256x128_S256x128 : FVec F S256x128 .bf16)⟩]
        concatenates_S256x128_S256x128_S512x128_d0 : FVec F S512x128 .bf16)
      (shapeCast S128x256 q shapeCasts_S1x128x256_S128x256 : FVec F S128x256 .bf16)
      (constant S512x256 .f32 0x00000000#32))
    shapeCasts_S512x256_S1x1x512x256

/-- The maximum after a block: the one before it and the block's column maximum. -/
def newTop (m : Vec F S1x1x1x256 .f32) (s : Vec F S1x1x256x256 .f32) : FVec F S1x256 .f32 :=
  maximumf (shapeCast S1x256 m shapeCasts_S1x1x1x256_S1x256)
    (shapeCast S1x256
      (multiReduction .maximumf [0] S256
        (shapeCast S256x256 s shapeCasts_S1x1x256x256_S256x256 : FVec F S256x256 .f32) 0xFF800000#32
        reduces_S256x256_S256 (.inl rfl) rfl : FVec F S256 .f32)
      shapeCasts_S256_S1x256)

def topPay (m : Vec F S1x1x1x256 .f32) (s : Vec F S1x1x256x256 .f32) : Vec F S1x1x1x256 .f32 :=
  shapeCast S1x1x1x256 (newTop m s) shapeCasts_S1x256_S1x1x1x256

def fadePay (m : Vec F S1x1x1x256 .f32) (s : Vec F S1x1x256x256 .f32) : Vec F S1x1x1x256 .f32 :=
  shapeCast S1x1x1x256
    (exp2 (subf (shapeCast S1x256 m shapeCasts_S1x1x1x256_S1x256) (newTop m s)) : FVec F S1x256 .f32)
    shapeCasts_S1x256_S1x1x1x256

def wtPay (m : Vec F S1x1x1x256 .f32) (s : Vec F S1x1x256x256 .f32) : Vec F S1x1x256x256 .bf16 :=
  shapeCast S1x1x256x256
    (truncf .bf16
      (exp2 (subf (shapeCast S256x256 s shapeCasts_S1x1x256x256_S256x256)
        (broadcastTo S256x256 (newTop m s) broadcasts_S1x256_S256x256)) : FVec F S256x256 .f32) bitsLt_bf16_f32)
    shapeCasts_S256x256_S1x1x256x256

def accPay (acc : Vec F S1x1x80x256 .f32) (fade : Vec F S1x1x1x256 .f32) (v : Vec F S1x1x80x256 .bf16)
    (w : Vec F S1x1x256x256 .bf16) : Vec F S1x1x80x256 .f32 :=
  shapeCast S1x1x80x256
    (addf
      (mulf (shapeCast S80x256 acc shapeCasts_S1x1x80x256_S80x256)
        (broadcastTo S80x256 (shapeCast S1x256 fade shapeCasts_S1x1x1x256_S1x256) broadcasts_S1x256_S80x256))
      (matmul dot_S80x256_S256x256_S80x256_1_0_0_1_n_n none
        (shapeCast S80x256 v shapeCasts_S1x1x80x256_S80x256)
        (shapeCast S256x256 w shapeCasts_S1x1x256x256_S256x256)
        (constant S80x256 .f32 0x00000000#32)) : FVec F S80x256 .f32)
    shapeCasts_S80x256_S1x1x80x256

/-- One head's rows divided by its row sum. -/
def divided (acc : Vec F S1x1x80x256 .f32) : FVec F S64x256 .f32 :=
  mulf
    (extractStridedSlice S64x256 ![0, 0]
      (shapeCast S80x256 acc shapeCasts_S1x1x80x256_S80x256 : FVec F S80x256 .f32) slices_S80x256_o0_0_S64x256)
    (broadcastTo S64x256
      (divf (broadcast S1x256 (Scalar.ofBits .f32 0x3F800000#32))
        (extractStridedSlice S1x256 ![64, 0]
          (shapeCast S80x256 acc shapeCasts_S1x1x80x256_S80x256 : FVec F S80x256 .f32) slices_S80x256_o64_0_S1x256) :
        FVec F S1x256 .f32)
      broadcasts_S1x256_S64x256)

def outPay (a b : Vec F S1x1x80x256 .f32) : Vec F S1x256x128 .bf16 :=
  shapeCast S1x256x128
    (truncf .bf16
      (transpose S256x128 [1, 0]
        (concatenate S128x256 0 [⟨S64x256, divided a⟩, ⟨S64x256, divided b⟩]
          concatenates_S64x256_S64x256_S128x256_d0 : FVec F S128x256 .f32)
        transposes_S128x256_p1_0_S256x128 : FVec F S256x128 .f32) bitsLt_bf16_f32)
    shapeCasts_S256x128_S1x256x128

/-! ## The loop -/

section Loop

variable (a9 : Memref sig .tc .vmem S2x6x80x256 .f32) (a10 a11 : Memref sig .tc .vmem S2x6x1x256 .f32)
  (a12 : Memref sig .tc .vmem S2x3x512x256 .f32) (a13 : Memref sig .tc .vmem S2x6x256x256 .bf16)
  (rk : Fin 4 → Fin 9 → Vec F S1x256x128 .bf16) (rv : Fin 2 → Fin 9 → Vec F S1x1x80x256 .bf16)
  (rq : Fin 2 → Fin 3 → Vec F S1x128x256 .bf16)

/-- Query tile, key block and slot of work item `n`. -/
def tile (n : ℕ) : Fin 2 := ⟨n / 9 % 2, Nat.mod_lt _ (by decide)⟩
def block (n : ℕ) : Fin 9 := ⟨n % 9, Nat.mod_lt _ (by decide)⟩
def slot (n : ℕ) : Fin 2 := ⟨n % 2, Nat.mod_lt _ (by decide)⟩
/-- The key/value head that query head `h` reads. -/
def kvOf (h : Fin 6) : Fin 2 := ⟨h.val / 3, by omega⟩
/-- The masked key copy that query head `h` reads. -/
def copyOf (h : Fin 6) : Fin 4 := ⟨2 * (h.val / 3) + h.val % 2, by omega⟩
/-- The two heads of a pair. -/
def fst (j : Fin 3) : Fin 6 := ⟨2 * j.val, by omega⟩
def snd (j : Fin 3) : Fin 6 := ⟨2 * j.val + 1, by omega⟩

def weigh (n : ℕ) (h : Fin 6) (s : Bufs F) : Bufs F :=
  { s with
    acc := ⟨rAcc (tile n) h, accPay (a9.view.readCov s.acc (rAcc (tile n) h).toLoadRect)
      (a11.view.readCov s.fade (rTop (slot n) h).toLoadRect) (rv (kvOf h) (block n))
      (a13.view.readCov s.wt (rWt (slot n) h).toLoadRect)⟩ :: s.acc }

def finish (n : ℕ) (j : Fin 3) (s : Bufs F) : Bufs F :=
  { s with
    out := ⟨rOut (tile n) j, outPay (a9.view.readCov s.acc (rAcc (tile n) (fst j)).toLoadRect)
      (a9.view.readCov s.acc (rAcc (tile n) (snd j)).toLoadRect)⟩ :: s.out }

def score (n : ℕ) (j : Fin 3) (s : Bufs F) : Bufs F :=
  { s with
    sc := ⟨rPair (slot n) j, scPay (rk (copyOf (fst j)) (block n)) (rk (copyOf (snd j)) (block n)) (rq (tile n) j)⟩ :: s.sc }

def expo (n : ℕ) (h : Fin 6) (s : Bufs F) : Bufs F :=
  { s with
    top := ⟨rTop (tile n) h, topPay (a10.view.readCov s.top (rTop (tile n) h).toLoadRect)
      (a12.view.readCov s.sc (rHead (slot n) h).toLoadRect)⟩ :: s.top
    fade := ⟨rTop (slot n) h, fadePay (a10.view.readCov s.top (rTop (tile n) h).toLoadRect)
      (a12.view.readCov s.sc (rHead (slot n) h).toLoadRect)⟩ :: s.fade
    wt := ⟨rWt (slot n) h, wtPay (a10.view.readCov s.top (rTop (tile n) h).toLoadRect)
      (a12.view.readCov s.sc (rHead (slot n) h).toLoadRect)⟩ :: s.wt }

/-- A step at every head, in order; at every pair. -/
def heads (f : Fin 6 → Bufs F → Bufs F) (s : Bufs F) : Bufs F := f 5 (f 4 (f 3 (f 2 (f 1 (f 0 s)))))
def pairs (f : Fin 3 → Bufs F → Bufs F) (s : Bufs F) : Bufs F := f 2 (f 1 (f 0 s))

/-- One turn of the pipelined loop: values of item `n - 2`, scores of item `n`, exponentials of item `n - 1`. -/
def turn (n : ℕ) (s : Bufs F) : Bufs F :=
  have s₁ : Bufs F := bif Nat.ble 2 n then heads (weigh a9 a11 a13 rv (n - 2)) s else s
  have s₂ : Bufs F := bif Nat.ble 2 n && Nat.beq ((n - 1) % 9) 0 then pairs (finish a9 (n - 2)) s₁ else s₁
  have s₃ : Bufs F := bif Nat.ble n 17 then pairs (score rk rq n) s₂ else s₂
  bif Nat.ble 1 n && Nat.ble n 18 then heads (expo a10 a12 (n - 1)) s₃ else s₃

/-- The buffers before the loop: accumulators zero, maxima at the mask. -/
def start : Bufs F where
  out := []
  acc := [⟨Rect.unit ![0, 0, 0, 0] S2x6x80x256.size inb_S2x6x80x256_S2x6x80x256_0_0_0_0, k0_pay33⟩]
  top := [⟨Rect.unit ![0, 0, 0, 0] S2x6x1x256.size inb_S2x6x1x256_S2x6x1x256_0_0_0_0, k0_pay34⟩]
  fade := []
  sc := []
  wt := []

def after (n : ℕ) : Bufs F :=
  Nat.rec start (fun k s => turn a9 a10 a11 a12 a13 rk rv rq k s) n

end Loop

end Cert.KernelIdeal.Att

end
-- ==== Proof.Att.Body.lean ====
/- The pieces that a grid point's stores leave are those of the loop. -/
module

public import proofs.«01_k».proof.Proof.Att.Model

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F] [Named F]

/-- Rows of key block `i` in the masked key copy `g`. -/
abbrev rKey (g : Fin 4) (i : Fin 9) : Rect S4x2304x128 :=
  Rect.unit ![g.val, i.val * 256, 0] S1x256x128.size (by intro a; fin_cases a <;> simp <;> omega)
/-- Columns of key block `i` in the value rows of key/value head `g`. -/
abbrev rVal (g : Fin 2) (i : Fin 9) : Rect S2x9x80x256 :=
  Rect.unit ![g.val, i.val, 0, 0] S1x1x80x256.size (by intro a; fin_cases a <;> simp <;> omega)
/-- Rows of the head pair `j` in a block of queries. -/
abbrev rQry (j : Fin 3) : Rect S1x384x256 :=
  Rect.unit ![0, j.val * 128, 0] S1x128x256.size (by intro a; fin_cases a <;> simp <;> omega)

/-- A point that finds the keys and values prepared. -/
theorem out_B (c : Dev nD) (i : grid0.Coords) (arg2 : Memref sig .tc .vmem S1x384x256 .bf16) (harg2 : arg2.IsWhole) (arg3 : Memref sig .tc .vmem S1x384x256 .bf16) (harg3 : arg3.IsWhole) (arg4 : Memref sig .tc .vmem S1x2304x128 .bf16) (harg4 : arg4.IsWhole) (arg5 : Memref sig .tc .vmem S1x2304x128 .bf16) (harg5 : arg5.IsWhole) (arg6 : Memref sig .tc .vmem S1x512x384 .bf16) (harg6 : arg6.IsWhole) (arg7 : Memref sig .tc .vmem S4x2304x128 .bf16) (harg7 : arg7.IsWhole) (arg8 : Memref sig .tc .vmem S2x9x80x256 .bf16) (harg8 : arg8.IsWhole) (arg9 : Memref sig .tc .vmem S2x6x80x256 .f32) (harg9 : arg9.IsWhole) (arg10 : Memref sig .tc .vmem S2x6x1x256 .f32) (harg10 : arg10.IsWhole) (arg11 : Memref sig .tc .vmem S2x6x1x256 .f32) (harg11 : arg11.IsWhole) (arg12 : Memref sig .tc .vmem S2x3x512x256 .f32) (harg12 : arg12.IsWhole) (arg13 : Memref sig .tc .vmem S2x6x256x256 .bf16) (harg13 : arg13.IsWhole) (hc0 : ¬cond0_0 i)
    (x0 : Vec F S1x384x256 .bf16) (x1 : Vec F S1x384x256 .bf16) (x2 : Vec F S1x2304x128 .bf16) (x3 : Vec F S1x2304x128 .bf16) (xs0 : Vec F S4x2304x128 .bf16) (xs1 : Vec F S2x9x80x256 .bf16) :
    (kernelRun0_B c i arg2 harg2 arg3 harg3 arg4 harg4 arg5 harg5 arg6 harg6 arg7 harg7 arg8 harg8 arg9 harg9 arg10 harg10 arg11 harg11 arg12 harg12 arg13 harg13 hc0 x0 x1 x2 x3 xs0 xs1).1
      = (after arg9 arg10 arg11 arg12 arg13
          (fun g i => View.readAt (Elt F) arg7.view (rKey g i).toLoadRect (harg7.unread xs0))
          (fun g i => View.readAt (Elt F) arg8.view (rVal g i).toLoadRect (harg8.unread xs1))
          (fun t j => bif Nat.beq t.val 0 then View.readAt (Elt F) arg2.view (rQry j).toLoadRect (harg2.unread x0)
            else View.readAt (Elt F) arg3.view (rQry j).toLoadRect (harg3.unread x1)) 20).out := by
  sl_kernel_rfl

end Cert.KernelIdeal.Att

end
-- ==== Proof.Att.BodyA.lean ====
/- A point that prepares the keys and values of its batch: the pieces it leaves, and what it puts in the two
   buffers it prepares. -/
module

public import proofs.«01_k».proof.Proof.Att.Body

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F] [Named F]

/-- A whole masked key copy. -/
abbrev rCopy (g : Fin 4) : Rect S4x2304x128 :=
  Rect.unit ![g.val, 0, 0] S1x2304x128.size (by intro a; fin_cases a <;> simp <;> omega)

/-- The four masked key copies. -/
def keyPieces (k : Vec F S1x2304x128 .bf16) : List (View.Piece (Elt F) S4x2304x128 .bf16) :=
  [⟨rCopy 3, k0_pay9 k⟩, ⟨rCopy 2, k0_pay8 k⟩, ⟨rCopy 1, k0_pay7 k⟩, ⟨rCopy 0, k0_pay6 k⟩]

/-- The value rows of key/value head `g` with the row of ones below, all keys. -/
def valRows (v : Vec F S1x2304x128 .bf16) (g : Fin 2) : FVec F S80x2304 .bf16 :=
  truncf .bf16
    (concatenate S80x2304 0
      [⟨S64x2304, (extractStridedSlice S64x2304 ![g.val * 64, 0] (k0_pay10 v)
          ((by decide : ∀ g : Fin 2, S128x2304.Slices ![g.val * 64, 0] S64x2304) g) : FVec F S64x2304 .f32)⟩,
        ⟨S16x2304, k0_pay11 (F := F)⟩]
      concatenates_S64x2304_S16x2304_S80x2304_d0 : FVec F S80x2304 .f32) bitsLt_bf16_f32

/-- Its columns for key block `i`. -/
def valPay (v : Vec F S1x2304x128 .bf16) (g : Fin 2) (i : Fin 9) : Vec F S1x1x80x256 .bf16 :=
  shapeCast S1x1x80x256
    (extractStridedSlice S80x256 ![0, i.val * 256] (valRows v g)
      ((by decide : ∀ i : Fin 9, S80x2304.Slices ![0, i.val * 256] S80x256) i) : FVec F S80x256 .bf16)
    shapeCasts_S80x256_S1x1x80x256

/-- The first `n` blocks of values prepared, head after head. -/
def valPieces (v : Vec F S1x2304x128 .bf16) (n : ℕ) : List (View.Piece (Elt F) S2x9x80x256 .bf16) :=
  Nat.rec [] (fun k L => ⟨rVal (tile k) (block k), valPay v (tile k) (block k)⟩ :: L) n

section

variable (c : Dev nD) (i : grid0.Coords) (arg2 : Memref sig .tc .vmem S1x384x256 .bf16) (harg2 : arg2.IsWhole) (arg3 : Memref sig .tc .vmem S1x384x256 .bf16) (harg3 : arg3.IsWhole) (arg4 : Memref sig .tc .vmem S1x2304x128 .bf16) (harg4 : arg4.IsWhole) (arg5 : Memref sig .tc .vmem S1x2304x128 .bf16) (harg5 : arg5.IsWhole) (arg6 : Memref sig .tc .vmem S1x512x384 .bf16) (harg6 : arg6.IsWhole) (arg7 : Memref sig .tc .vmem S4x2304x128 .bf16) (harg7 : arg7.IsWhole) (arg8 : Memref sig .tc .vmem S2x9x80x256 .bf16) (harg8 : arg8.IsWhole) (arg9 : Memref sig .tc .vmem S2x6x80x256 .f32) (harg9 : arg9.IsWhole) (arg10 : Memref sig .tc .vmem S2x6x1x256 .f32) (harg10 : arg10.IsWhole) (arg11 : Memref sig .tc .vmem S2x6x1x256 .f32) (harg11 : arg11.IsWhole) (arg12 : Memref sig .tc .vmem S2x3x512x256 .f32) (harg12 : arg12.IsWhole) (arg13 : Memref sig .tc .vmem S2x6x256x256 .bf16) (harg13 : arg13.IsWhole) (hc0 : cond0_0 i)
    (x0 : Vec F S1x384x256 .bf16) (x1 : Vec F S1x384x256 .bf16) (x2 : Vec F S1x2304x128 .bf16) (x3 : Vec F S1x2304x128 .bf16)

theorem out_A :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3).1
      = (after arg9 arg10 arg11 arg12 arg13
          (fun g i => arg7.view.readCov (keyPieces (View.readAt (Elt F) arg4.view (Rect.unit ![0, 0, 0] S1x2304x128.size inb_S1x2304x128_S1x2304x128_0_0_0).toLoadRect (harg4.unread x2))) (rKey g i).toLoadRect)
          (fun g i => arg8.view.readCov (valPieces (View.readAt (Elt F) arg5.view (Rect.unit ![0, 0, 0] S1x2304x128.size inb_S1x2304x128_S1x2304x128_0_0_0).toLoadRect (harg5.unread x3)) 18) (rVal g i).toLoadRect)
          (fun t j => bif Nat.beq t.val 0 then View.readAt (Elt F) arg2.view (rQry j).toLoadRect (harg2.unread x0)
            else View.readAt (Elt F) arg3.view (rQry j).toLoadRect (harg3.unread x1)) 20).out := by
  sl_kernel_rfl

theorem keys_A :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3).2.1 = keyPieces (View.readAt (Elt F) arg4.view (Rect.unit ![0, 0, 0] S1x2304x128.size inb_S1x2304x128_S1x2304x128_0_0_0).toLoadRect (harg4.unread x2)) := by
  sl_kernel_rfl

theorem vals_A :
    (kernelRun0_A c i arg2 harg2 arg3 harg3 arg4 harg4 arg5 harg5 arg6 harg6 arg7 harg7 arg8 harg8 arg9 harg9 arg10 harg10 arg11 harg11 arg12 harg12 arg13 harg13 hc0 x0 x1 x2 x3).2.2.1 = valPieces (View.readAt (Elt F) arg5.view (Rect.unit ![0, 0, 0] S1x2304x128.size inb_S1x2304x128_S1x2304x128_0_0_0).toLoadRect (harg5.unread x3)) 18 := by
  sl_kernel_rfl

end

end Cert.KernelIdeal.Att

end
-- ==== Proof.Att.Mem.lean ====
/- Reading a buffer after stores to boxes of it, entry by entry. -/
module

public import proofs.«01_k».proof.Proof.Att.BodyA
public import Idealize.ShloMosaic.Lib.Pointwise

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F] [Named F]

/-- What a buffer holds after the stores of a list, the last one first. -/
def got {s : Shape} {e : EltTy} (L : List (View.Piece (Elt F) s e)) (y : s.Idx) : Elt F e := View.canon L y

variable {s : Shape} {e : EltTy}

theorem got_emb (r : Rect s) (w : r.shape.Idx → Elt F e) (L : List (View.Piece (Elt F) s e)) (x : r.shape.Idx) :
    got (⟨r, w⟩ :: L) (r.emb x) = w x := View.canon_cons_emb r w L x

theorem got_off (r : Rect s) (w : r.shape.Idx → Elt F e) (L : List (View.Piece (Elt F) s e)) {y : s.Idx}
    (h : y ∉ r.set) : got (⟨r, w⟩ :: L) y = got L y := View.canon_cons_of_not_mem ⟨r, w⟩ L h

theorem got_load {sig : RefSig} {κ : Kind} {sp : Space} (v : View sig κ sp s e) (L : List (View.Piece (Elt F) s e))
    (B : LoadRect s) : v.readCov L B = fun j => got L (B.idx j) := View.readCov_eq_canon' v L B

/-- Loading such a row block. -/
theorem idx_row {A B M N : ℕ} (p : Fin A) (j : Fin B)
    (inb : ∀ a, (![p.val, j.val, 0, 0] : Fin 4 → ℕ) a + (![1, 1, M, N] : Fin 4 → ℕ) a ≤ (![A, B, M, N] : Fin 4 → ℕ) a)
    (r : Fin M) (c : Fin N) :
    (Rect.unit (s := ⟨4, ![A, B, M, N]⟩) ![p.val, j.val, 0, 0] ![1, 1, M, N] inb).toLoadRect.idx (ix4 0 0 r c)
      = ix4 p j r c := by
  funext a
  fin_cases a <;> exact Fin.ext (by simp [LoadRect.idx, ix4])

theorem load_row {A B M N : ℕ} {sig : RefSig} {κ : Kind} {sp : Space} (v : View sig κ sp ⟨4, ![A, B, M, N]⟩ e)
    (L : List (View.Piece (Elt F) ⟨4, ![A, B, M, N]⟩ e)) (p : Fin A) (j : Fin B)
    (inb : ∀ a, (![p.val, j.val, 0, 0] : Fin 4 → ℕ) a + (![1, 1, M, N] : Fin 4 → ℕ) a ≤ (![A, B, M, N] : Fin 4 → ℕ) a)
    (r : Fin M) (c : Fin N) :
    v.readCov L (Rect.unit (s := ⟨4, ![A, B, M, N]⟩) ![p.val, j.val, 0, 0] ![1, 1, M, N] inb).toLoadRect (ix4 0 0 r c)
      = got L (ix4 p j r c) := by
  rw [got_load]
  exact congrArg (got L) (idx_row p j inb r c)

/-- A store to one row block of a four-dimensional buffer. -/
theorem got_row {A B M N : ℕ} (p : Fin A) (j : Fin B)
    (inb : ∀ a, (![p.val, j.val, 0, 0] : Fin 4 → ℕ) a + (![1, 1, M, N] : Fin 4 → ℕ) a ≤ (![A, B, M, N] : Fin 4 → ℕ) a)
    (w : (⟨4, ![1, 1, M, N]⟩ : Shape).Idx → Elt F e)
    (L : List (View.Piece (Elt F) ⟨4, ![A, B, M, N]⟩ e)) (p' : Fin A) (j' : Fin B) (r : Fin M) (c : Fin N) :
    got (⟨Rect.unit (s := ⟨4, ![A, B, M, N]⟩) ![p.val, j.val, 0, 0] ![1, 1, M, N] inb, w⟩ :: L) (ix4 p' j' r c)
      = if p' = p ∧ j' = j then w (ix4 0 0 r c) else got L (ix4 p' j' r c) := by
  split_ifs with h
  · obtain ⟨rfl, rfl⟩ := h
    have := got_emb (Rect.unit (s := ⟨4, ![A, B, M, N]⟩) ![p'.val, j'.val, 0, 0] ![1, 1, M, N] inb) w L (ix4 0 0 r c)
    exact (congrArg (got _) (idx_row p' j' inb r c)).symm.trans this
  · apply got_off
    rw [Rect.mem_set_unit]
    intro h'
    apply h
    have h0 : p.val ≤ p'.val ∧ p'.val < p.val + 1 := h' 0
    have h1 : j.val ≤ j'.val ∧ j'.val < j.val + 1 := h' 1
    constructor <;> apply Fin.ext <;> omega

end Cert.KernelIdeal.Att

end
-- ==== Proof.Att.Prep.lean ====
/- The keys and values as a point prepares them: keys masked to one key/value head, values with a row of ones. -/
module

public import proofs.«01_k».proof.Proof.Att.Mem

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

theorem low_lane (j : Fin 2304) (l : Fin 128) : k0_pay5 (ix2 j l) = if l.val < 64 then 1#1 else 0#1 := by
  pointwise [k0_pay5]
  revert l
  decide +kernel

theorem keyLow_at (k : FVec Ideal S1x2304x128 .bf16) (j : Fin 2304) (l : Fin 128) :
    k0_pay6 (F := Ideal) k (ix3 0 j l) = if l.val < 64 then k (ix3 0 j l) else 0 := by
  pointwise [k0_pay6, k0_pay3]
  rw [low_lane]
  split_ifs <;> rfl

theorem keyHigh_at (k : FVec Ideal S1x2304x128 .bf16) (j : Fin 2304) (l : Fin 128) :
    k0_pay9 (F := Ideal) k (ix3 0 j l) = if l.val < 64 then 0 else k (ix3 0 j l) := by
  pointwise [k0_pay9, k0_pay3]
  rw [low_lane]
  split_ifs <;> rfl

theorem turned_at (k : FVec Ideal S1x2304x128 .bf16) (j : Fin 2304) (l : Fin 128) :
    k0_pay4 (F := Ideal) k (ix2 j l) = k (ix3 0 j ⟨(l.val + 64) % 128, by omega⟩) := by
  pointwise [k0_pay4, k0_pay3]
  exact congrArg k (congrArg (ix3 0 j) (Fin.ext (by simp)))

theorem keyTurnHigh_at (k : FVec Ideal S1x2304x128 .bf16) (j : Fin 2304) (l : Fin 128) :
    k0_pay7 (F := Ideal) k (ix3 0 j l) = if l.val < 64 then 0 else k0_pay4 (F := Ideal) k (ix2 j l) := by
  pointwise [k0_pay7]
  rw [low_lane]
  split_ifs <;> rfl

theorem keyTurnLow_at (k : FVec Ideal S1x2304x128 .bf16) (j : Fin 2304) (l : Fin 128) :
    k0_pay8 (F := Ideal) k (ix3 0 j l) = if l.val < 64 then k0_pay4 (F := Ideal) k (ix2 j l) else 0 := by
  pointwise [k0_pay8]
  rw [low_lane]
  split_ifs <;> rfl

theorem ones_at (r : Fin 16) (j : Fin 2304) :
    k0_pay11 (F := Ideal) (ix2 r j) = if r.val = 0 then 1 else 0 := by
  pointwise [k0_pay11]
  have h : ∀ r : Fin 16, IntOp.cmpi CmpIPredicate.eq (BitVec.ofNat 32 r.val) 0#32 = if r.val = 0 then 1#1 else 0#1 := by
    decide +kernel
  rw [h]
  split_ifs <;> rfl

theorem valRows_at (v : FVec Ideal S1x2304x128 .bf16) (g : Fin 2) (r : Fin 80) (j : Fin 2304) :
    valRows (F := Ideal) v g (ix2 r j)
      = if h : r.val < 64 then v (ix3 0 j ⟨g.val * 64 + r.val, by omega⟩) else if r.val = 64 then 1 else 0 := by
  pointwise [valRows, k0_pay10]
  by_cases h : r.val < 64
  · rw [dif_pos h, dif_pos h]
  · rw [dif_neg h, dif_neg h]
    refine (ones_at _ _).trans ?_
    by_cases h' : r.val = 64
    · rw [if_pos h', if_pos (by show r.val - 64 = 0; omega)]
    · rw [if_neg h', if_neg (by show ¬ r.val - 64 = 0; omega)]

theorem valPay_at (v : FVec Ideal S1x2304x128 .bf16) (g : Fin 2) (i : Fin 9) (r : Fin 80) (c : Fin 256) :
    valPay (F := Ideal) v g i (ix4 0 0 r c)
      = valRows (F := Ideal) v g (ix2 r ⟨i.val * 256 + c.val, by omega⟩) := by
  pointwise [valPay]

/-! ## The two prepared buffers -/

theorem idx_copy (g : Fin 4) (j : Fin 2304) (l : Fin 128) : (rCopy g).toLoadRect.idx (ix3 0 j l) = ix3 g j l := by
  funext a
  fin_cases a <;> exact Fin.ext (by simp [LoadRect.idx, ix3])

theorem got_copy (g : Fin 4) (w : Vec Ideal S1x2304x128 .bf16) (L : List (View.Piece (Elt Ideal) S4x2304x128 .bf16))
    (g' : Fin 4) (j : Fin 2304) (l : Fin 128) :
    got (⟨rCopy g, w⟩ :: L) (ix3 g' j l) = if g' = g then w (ix3 0 j l) else got L (ix3 g' j l) := by
  split_ifs with h
  · subst h
    exact (congrArg (got _) (idx_copy g' j l)).symm.trans (got_emb (rCopy g') w L (ix3 0 j l))
  · apply got_off
    rw [Rect.mem_set_unit]
    intro h'
    have h0 : g.val ≤ g'.val ∧ g'.val < g.val + 1 := h' 0
    exact h (Fin.ext (by omega))

/-- Copy `g` holds the lanes of key/value head `g / 2` in half `g % 2`, and zeros in the other half. -/
theorem keys_at (k : FVec Ideal S1x2304x128 .bf16) (g : Fin 4) (j : Fin 2304) (l : Fin 128) :
    (got (F := Ideal) (keyPieces k) (ix3 g j l) : EReal)
      = if l.val / 64 = g.val % 2 then k (ix3 0 j ⟨g.val / 2 * 64 + l.val % 64, by omega⟩) else 0 := by
  have e : ∀ (a b : Fin 128), a.val = b.val → k (ix3 0 j a) = k (ix3 0 j b) := by
    intro a b h; rw [Fin.ext h]
  unfold keyPieces
  simp only [got_copy]
  fin_cases g
  · simp only [Fin.reduceFinMk, Fin.reduceEq, if_false, if_true]
    refine (keyLow_at k j l).trans ?_
    by_cases h : l.val < 64
    · rw [if_pos h, if_pos (by simp; omega)]
      exact e _ _ (by simp; omega)
    · rw [if_neg h, if_neg (by simp; omega)]
  · simp only [Fin.reduceFinMk, Fin.reduceEq, if_false, if_true]
    refine (keyTurnHigh_at k j l).trans ?_
    by_cases h : l.val < 64
    · rw [if_pos h, if_neg (by simp; omega)]
    · rw [if_neg h, if_pos (by simp; omega), turned_at]
      exact e _ _ (by simp; omega)
  · simp only [Fin.reduceFinMk, Fin.reduceEq, if_false, if_true]
    refine (keyTurnLow_at k j l).trans ?_
    by_cases h : l.val < 64
    · rw [if_pos h, if_pos (by simp; omega), turned_at]
      exact e _ _ (by simp; omega)
    · rw [if_neg h, if_neg (by simp; omega)]
  · simp only [Fin.reduceFinMk, Fin.reduceEq, if_false, if_true]
    refine (keyHigh_at k j l).trans ?_
    by_cases h : l.val < 64
    · rw [if_pos h, if_neg (by simp; omega)]
    · rw [if_neg h, if_pos (by simp; omega)]
      exact e _ _ (by simp; omega)

theorem vals_upto (v : FVec Ideal S1x2304x128 .bf16) (n : ℕ) (hn : n ≤ 18) (g : Fin 2) (i : Fin 9)
    (h : g.val * 9 + i.val < n) (r : Fin 80) (c : Fin 256) :
    got (F := Ideal) (valPieces v n) (ix4 g i r c) = valPay (F := Ideal) v g i (ix4 0 0 r c) := by
  induction n with
  | zero => omega
  | succ n ih =>
    refine (got_row (tile n) (block n) _ _ _ g i r c).trans ?_
    split_ifs with hc
    · rw [hc.1, hc.2]
    · refine ih (by omega) ?_
      by_contra hh
      refine hc ⟨Fin.ext ?_, Fin.ext ?_⟩
      · show g.val = n / 9 % 2
        omega
      · show i.val = n % 9
        omega

theorem vals_at (v : FVec Ideal S1x2304x128 .bf16) (g : Fin 2) (i : Fin 9) (r : Fin 80) (c : Fin 256) :
    (got (F := Ideal) (valPieces v 18) (ix4 g i r c) : EReal)
      = if h : r.val < 64 then v (ix3 0 ⟨i.val * 256 + c.val, by omega⟩ ⟨g.val * 64 + r.val, by omega⟩)
        else if r.val = 64 then 1 else 0 :=
  (vals_upto v 18 le_rfl g i (by omega) r c).trans ((valPay_at v g i r c).trans (valRows_at v g r _))

/-- Summing over all lanes against a copy is summing over the lanes of its head. -/
theorem sum_masked (k : Fin 64 → EReal) (q : Fin 128 → EReal) (p : ℕ) (hp : p < 2) :
    (∑ l : Fin 128, (if l.val / 64 = p then k ⟨l.val % 64, Nat.mod_lt _ (by decide)⟩ else 0) * q l)
      = ∑ d : Fin 64, k d * q ⟨p * 64 + d.val, by omega⟩ := by
  have hs : ∀ f : Fin 128 → EReal, ∑ l, f l = ∑ a : Fin 2, ∑ d : Fin 64, f ⟨a.val * 64 + d.val, by omega⟩ :=
    fun f => Fin.sum_univ_tiles 2 64 rfl f
  have h0 : ∀ d : Fin 64, (a : ℕ) → a < 2 → (a * 64 + d.val) / 64 = a := fun d a _ => by omega
  have h1 : ∀ d : Fin 64, (a : ℕ) → a < 2 → (a * 64 + d.val) % 64 = d.val := fun d a _ => by omega
  rw [hs, Fin.sum_univ_two]
  have hm : ∀ (a : Fin 2), (∑ d : Fin 64, (if (a.val * 64 + d.val) / 64 = p then
        k ⟨(a.val * 64 + d.val) % 64, Nat.mod_lt _ (by decide)⟩ else 0) * q ⟨a.val * 64 + d.val, by omega⟩)
      = if a.val = p then ∑ d : Fin 64, k d * q ⟨p * 64 + d.val, by omega⟩ else 0 := by
    intro a
    split_ifs with ha
    · subst ha
      refine Finset.sum_congr rfl fun d _ => ?_
      rw [if_pos (h0 d _ a.isLt)]
      exact congrArg (· * _) (congrArg k (Fin.ext (h1 d _ a.isLt)))
    · refine Finset.sum_eq_zero fun d _ => ?_
      rw [if_neg (by rw [h0 d _ a.isLt]; exact ha), zero_mul]
  have h := congrArg₂ (· + ·) (hm 0) (hm 1)
  refine h.trans ?_
  interval_cases p <;> simp

end Cert.KernelIdeal.Att

end
-- ==== Proof.Att.Point.lean ====
/- The blocks a grid point reads, and the two buffers it finds prepared. -/
module

public import proofs.«01_k».proof.Proof.Att.Prep
public import proofs.«01_k».proof.Proof.Gen.KernelIdeal.Value
public import Idealize.ShloMosaic.Lib.Pipeline.ValueKit

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

theorem idx : ∀ t : Fin cfg0.N,
    win0_0.index t = ![t.val / 4, 0, 1 + 2 * (t.val % 4)] ∧ win0_1.index t = ![t.val / 4, 0, 2 + 2 * (t.val % 4)]
      ∧ win0_2.index t = ![t.val / 4, 0, 0] ∧ win0_3.index t = ![t.val / 4, 0, 0] :=
  (by decide +kernel : ∀ t : Fin grid0.N, _)

variable (m : (ℓ : Loc nD τ sig) → Buf (Elt Ideal) ℓ) (c : Dev nD)

/-- The query, key and value arrays. -/
def Q : FVec Ideal S8x384x2304 .bf16 := V m c (Pipeline.arrRef spec0 0)
def K : FVec Ideal S8x2304x128 .bf16 := V m c (Pipeline.arrRef spec0 2)
def W : FVec Ideal S8x2304x128 .bf16 := V m c (Pipeline.arrRef spec0 3)

theorem q0_at (t : Fin cfg0.N) (r : Fin 384) (n : Fin 256) (hb : t.val < 32) :
    iblk m c 0 t (ix3 0 r n) = Q m c (ix3 ⟨t.val / 4, by omega⟩ r ⟨256 + t.val % 4 * 512 + n.val, by omega⟩) := by
  blk_point [iblk, V, idx t, Q]

theorem q1_at (t : Fin cfg0.N) (r : Fin 384) (n : Fin 256) (hb : t.val < 32) :
    iblk m c 1 t (ix3 0 r n) = Q m c (ix3 ⟨t.val / 4, by omega⟩ r ⟨512 + t.val % 4 * 512 + n.val, by omega⟩) := by
  blk_point [iblk, V, idx t, Q]

theorem keys_block (t : Fin cfg0.N) (j : Fin 2304) (l : Fin 128) (hb : t.val < 32) :
    iblk m c 2 t (ix3 0 j l) = K m c (ix3 ⟨t.val / 4, by omega⟩ j l) := by
  blk_point [iblk, V, idx t, K]

theorem vals_block (t : Fin cfg0.N) (j : Fin 2304) (l : Fin 128) (hb : t.val < 32) :
    iblk m c 3 t (ix3 0 j l) = W m c (ix3 ⟨t.val / 4, by omega⟩ j l) := by
  blk_point [iblk, V, idx t, W]

/-- The keys and the values of batch `b`. -/
def keysOf (b : Fin 8) : FVec Ideal S1x2304x128 .bf16 := fun y => K m c (ix3 b (y 1) (y 2))
def valsOf (b : Fin 8) : FVec Ideal S1x2304x128 .bf16 := fun y => W m c (ix3 b (y 1) (y 2))

theorem lt32 (t : Fin cfg0.N) : t.val < 32 := Nat.lt_of_lt_of_eq t.isLt N_0

/-- The batch of a point. -/
def batch (t : Fin cfg0.N) : Fin 8 := ⟨t.val / 4, by have := lt32 t; omega⟩

theorem keys_block' (t : Fin cfg0.N) : (iblk m c 2 t : FVec Ideal S1x2304x128 .bf16) = keysOf m c (batch t) := by
  funext y
  have hy : y = ix3 0 (y 1) (y 2) := by
    funext a
    fin_cases a
    · exact Subsingleton.elim (α := Fin 1) _ _
    · rfl
    · rfl
  rw [hy]
  exact keys_block m c t _ _ (lt32 t)

theorem vals_block' (t : Fin cfg0.N) : (iblk m c 3 t : FVec Ideal S1x2304x128 .bf16) = valsOf m c (batch t) := by
  funext y
  have hy : y = ix3 0 (y 1) (y 2) := by
    funext a
    fin_cases a
    · exact Subsingleton.elim (α := Fin 1) _ _
    · rfl
    · rfl
  rw [hy]
  exact vals_block m c t _ _ (lt32 t)

/-- Loading a whole block of keys or values reads it as it is. -/
theorem load_whole (a : Memref sig .tc .vmem S1x2304x128 .bf16) (ha : a.IsWhole) (x : Vec Ideal S1x2304x128 .bf16) :
    View.readAt (Elt Ideal) a.view (Rect.unit ![0, 0, 0] S1x2304x128.size inb_S1x2304x128_S1x2304x128_0_0_0).toLoadRect (ha.unread x) = x := by
  funext y
  rw [View.readAt_apply, ha.read_unread]
  refine congrArg x (funext fun a => ?_)
  fin_cases a <;> exact Fin.ext (by simp [LoadRect.idx])

/-! ## What the two kinds of points leave -/

section

variable (c : Dev nD) (i : grid0.Coords) (arg2 : Memref sig .tc .vmem S1x384x256 .bf16) (harg2 : arg2.IsWhole) (arg3 : Memref sig .tc .vmem S1x384x256 .bf16) (harg3 : arg3.IsWhole) (arg4 : Memref sig .tc .vmem S1x2304x128 .bf16) (harg4 : arg4.IsWhole) (arg5 : Memref sig .tc .vmem S1x2304x128 .bf16) (harg5 : arg5.IsWhole) (arg6 : Memref sig .tc .vmem S1x512x384 .bf16) (harg6 : arg6.IsWhole) (arg7 : Memref sig .tc .vmem S4x2304x128 .bf16) (harg7 : arg7.IsWhole) (arg8 : Memref sig .tc .vmem S2x9x80x256 .bf16) (harg8 : arg8.IsWhole) (arg9 : Memref sig .tc .vmem S2x6x80x256 .f32) (harg9 : arg9.IsWhole) (arg10 : Memref sig .tc .vmem S2x6x1x256 .f32) (harg10 : arg10.IsWhole) (arg11 : Memref sig .tc .vmem S2x6x1x256 .f32) (harg11 : arg11.IsWhole) (arg12 : Memref sig .tc .vmem S2x3x512x256 .f32) (harg12 : arg12.IsWhole) (arg13 : Memref sig .tc .vmem S2x6x256x256 .bf16) (harg13 : arg13.IsWhole)
    (x0 : Vec Ideal S1x384x256 .bf16) (x1 : Vec Ideal S1x384x256 .bf16) (x2 : Vec Ideal S1x2304x128 .bf16) (x3 : Vec Ideal S1x2304x128 .bf16)

theorem keysLeft_A (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 = got (keyPieces x2) := by
  refine (View.read_writes_junk_eq_canon _ _).trans ?_
  rw [keys_A, load_whole]
  rfl

theorem valsLeft_A (hc0 : cond0_0 i) : sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 = got (valPieces x3 18) := by
  refine (View.read_writes_junk_eq_canon _ _).trans ?_
  rw [vals_A, load_whole]
  rfl

/-- The queries a point loads from its two blocks. -/
def loads (x0 x1 : Vec Ideal S1x384x256 .bf16) (u : Fin 2) (j : Fin 3) : Vec Ideal S1x128x256 .bf16 :=
  fun y => bif Nat.beq u.val 0 then x0 ((rQry j).toLoadRect.idx y) else x1 ((rQry j).toLoadRect.idx y)

theorem loads_eq :
    (fun (u : Fin 2) (j : Fin 3) => bif Nat.beq u.val 0 then View.readAt (Elt Ideal) arg2.view (rQry j).toLoadRect (harg2.unread x0)
            else View.readAt (Elt Ideal) arg3.view (rQry j).toLoadRect (harg3.unread x1))
      = loads x0 x1 := by
  funext u j y
  unfold loads
  cases Nat.beq u.val 0
  · exact congrFun (harg3.read_unread x1) _
  · exact congrFun (harg2.read_unread x0) _

theorem outLeft_A (hc0 : cond0_0 i) : out0_A_4 (F := Ideal) c i arg2 harg2 arg3 harg3 arg4 harg4 arg5 harg5 arg6 harg6 arg7 harg7 arg8 harg8 arg9 harg9 arg10 harg10 arg11 harg11 arg12 harg12 arg13 harg13 hc0 x0 x1 x2 x3
    = got (after arg9 arg10 arg11 arg12 arg13 (fun g i y => got (keyPieces x2) ((rKey g i).toLoadRect.idx y))
        (fun g i y => got (valPieces x3 18) ((rVal g i).toLoadRect.idx y)) (loads x0 x1) 20).out := by
  refine (View.read_writes_junk_eq_canon _ _).trans ?_
  rw [out_A, load_whole, load_whole, loads_eq]
  simp only [got_load]
  rfl

theorem outLeft_B (hc0 : ¬cond0_0 i) (xs0 : Vec Ideal S4x2304x128 .bf16) (xs1 : Vec Ideal S2x9x80x256 .bf16) :
    out0_B_4 (F := Ideal) c i arg2 harg2 arg3 harg3 arg4 harg4 arg5 harg5 arg6 harg6 arg7 harg7 arg8 harg8 arg9 harg9 arg10 harg10 arg11 harg11 arg12 harg12 arg13 harg13 hc0 x0 x1 x2 x3 xs0 xs1
    = got (after arg9 arg10 arg11 arg12 arg13 (fun g i y => xs0 ((rKey g i).toLoadRect.idx y))
        (fun g i y => xs1 ((rVal g i).toLoadRect.idx y)) (loads x0 x1) 20).out := by
  refine (View.read_writes_junk_eq_canon _ _).trans ?_
  rw [out_B, loads_eq]
  have hk : (fun (g : Fin 4) (i : Fin 9) => View.readAt (Elt Ideal) arg7.view (rKey g i).toLoadRect (harg7.unread xs0))
      = fun g i y => xs0 ((rKey g i).toLoadRect.idx y) := by
    funext g i y; exact congrFun (harg7.read_unread xs0) _
  have hv : (fun (g : Fin 2) (i : Fin 9) => View.readAt (Elt Ideal) arg8.view (rVal g i).toLoadRect (harg8.unread xs1))
      = fun g i y => xs1 ((rVal g i).toLoadRect.idx y) := by
    funext g i y; exact congrFun (harg8.read_unread xs1) _
  rw [hk, hv]
  rfl

end

/-- What a point finds, or leaves, in the two prepared buffers. -/
def Prepared (b : Fin 8) (km : Vec Ideal S4x2304x128 .bf16) (vt : Vec Ideal S2x9x80x256 .bf16) : Prop :=
  km = got (keyPieces (keysOf m c b)) ∧ vt = got (valPieces (valsOf m c b) 18)

theorem left (n : ℕ) (hn : n < cfg0.N) :
    Prepared m c (batch ⟨n, hn⟩) (outsAt0 m c n hn).2.1 (outsAt0 m c n hn).2.2 := by
  induction n using Nat.strong_induction_on with
  | _ n ih =>
    by_cases h0 : n % 4 = 0
    · have e := outsAt0_A m c ⟨n, hn⟩ h0
      unfold Prepared
      rw [show outsAt0 m c n hn = _ from e]
      dsimp only
      rw [keysLeft_A, valsLeft_A, keys_block', vals_block']
      exact ⟨rfl, rfl⟩
    · have e := outsAt0_B m c ⟨n, hn⟩ h0
      have hb : batch ⟨n - 1, Nat.lt_of_le_of_lt (Nat.sub_le _ _) hn⟩ = batch ⟨n, hn⟩ :=
        Fin.ext (by show (n - 1) / 4 = n / 4; omega)
      have h := ih (n - 1) (by omega) (Nat.lt_of_le_of_lt (Nat.sub_le _ _) hn)
      rw [hb] at h
      exact ⟨(congrArg (fun z => z.2.1) e).trans h.1, (congrArg (fun z => z.2.2) e).trans h.2⟩

/-! ## The output block of a point -/

/-- What a point loads from the prepared keys and values. -/
def ldK (b : Fin 8) (g : Fin 4) (i : Fin 9) : Vec Ideal S1x256x128 .bf16 :=
  fun y => got (keyPieces (keysOf m c b)) ((rKey g i).toLoadRect.idx y)
def ldV (b : Fin 8) (g : Fin 2) (i : Fin 9) : Vec Ideal S1x1x80x256 .bf16 :=
  fun y => got (valPieces (valsOf m c b) 18) ((rVal g i).toLoadRect.idx y)

theorem block_left (n : ℕ) (hn : n < cfg0.N) :
    (outsAt0 m c n hn).1 = got (after scM0_2 scM0_3 scM0_4 scM0_5 scM0_6 (ldK m c (batch ⟨n, hn⟩))
      (ldV m c (batch ⟨n, hn⟩)) (loads (iblk m c 0 ⟨n, hn⟩) (iblk m c 1 ⟨n, hn⟩)) 20).out := by
  by_cases h0 : n % 4 = 0
  · have e := outsAt0_A m c ⟨n, hn⟩ h0
    rw [show outsAt0 m c n hn = _ from e]
    dsimp only
    rw [outLeft_A]
    unfold ldK ldV
    rw [keys_block', vals_block']
  · have e := outsAt0_B m c ⟨n, hn⟩ h0
    have hb : batch ⟨n - 1, Nat.lt_of_le_of_lt (Nat.sub_le _ _) hn⟩ = batch ⟨n, hn⟩ :=
      Fin.ext (by show (n - 1) / 4 = n / 4; omega)
    have h := left m c (n - 1) (Nat.lt_of_le_of_lt (Nat.sub_le _ _) hn)
    rw [hb] at h
    rw [show outsAt0 m c n hn = _ from e]
    dsimp only
    rw [outLeft_B]
    unfold ldK ldV
    rw [← h.1, ← h.2]

end Cert.KernelIdeal.Att

end
-- ==== Proof.Att.Pay.lean ====
/- What each store of the loop puts in its buffer, entry by entry, over the extended reals. -/
module

public import proofs.«01_k».proof.Proof.Att.Model
public import Idealize.ShloMosaic.Lib.Pointwise

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

theorem ofBits_negInf : Ideal.ofBits .f32 0xFF800000#32 = ⊥ := by simp [Ideal.ofBits, Ideal.ieee]

theorem scPay_fst (ka kb : FVec Ideal S1x256x128 .bf16) (q : FVec Ideal S1x128x256 .bf16) (k c : Fin 256) :
    scPay (F := Ideal) ka kb q (ix4 0 0 ⟨k.val, by omega⟩ c)
      = ∑ d : Fin 128, ka (ix3 0 k d) * q (ix3 0 d c) := by
  pointwise [scPay]

theorem scPay_snd (ka kb : FVec Ideal S1x256x128 .bf16) (q : FVec Ideal S1x128x256 .bf16) (k c : Fin 256) :
    scPay (F := Ideal) ka kb q (ix4 0 0 ⟨256 + k.val, by omega⟩ c)
      = ∑ d : Fin 128, kb (ix3 0 k d) * q (ix3 0 d c) := by
  pointwise [scPay]

theorem newTop_at (m : FVec Ideal S1x1x1x256 .f32) (s : FVec Ideal S1x1x256x256 .f32) (c : Fin 256) :
    newTop (F := Ideal) m s (ix2 0 c)
      = max (m (ix4 0 0 0 c)) (Finset.univ.sup fun k : Fin 256 => s (ix4 0 0 k c)) := by
  pointwise [newTop]
  rw [ofBits_negInf]
  rfl

theorem topPay_at (m : FVec Ideal S1x1x1x256 .f32) (s : FVec Ideal S1x1x256x256 .f32) (c : Fin 256) :
    topPay (F := Ideal) m s (ix4 0 0 0 c) = newTop (F := Ideal) m s (ix2 0 c) := by
  pointwise [topPay]

theorem fadePay_at (m : FVec Ideal S1x1x1x256 .f32) (s : FVec Ideal S1x1x256x256 .f32) (c : Fin 256) :
    fadePay (F := Ideal) m s (ix4 0 0 0 c)
      = Ideal.exp2 (m (ix4 0 0 0 c) - newTop (F := Ideal) m s (ix2 0 c)) := by
  pointwise [fadePay]
  rfl

theorem wtPay_at (m : FVec Ideal S1x1x1x256 .f32) (s : FVec Ideal S1x1x256x256 .f32) (k c : Fin 256) :
    wtPay (F := Ideal) m s (ix4 0 0 k c)
      = Ideal.exp2 (s (ix4 0 0 k c) - newTop (F := Ideal) m s (ix2 0 c)) := by
  pointwise [wtPay]
  rfl

theorem accPay_at (acc : FVec Ideal S1x1x80x256 .f32) (fade : FVec Ideal S1x1x1x256 .f32)
    (v : FVec Ideal S1x1x80x256 .bf16) (w : FVec Ideal S1x1x256x256 .bf16) (r : Fin 80) (c : Fin 256) :
    accPay (F := Ideal) acc fade v w (ix4 0 0 r c)
      = acc (ix4 0 0 r c) * fade (ix4 0 0 0 c) + ∑ k : Fin 256, v (ix4 0 0 r k) * w (ix4 0 0 k c) := by
  pointwise [accPay]

theorem divided_at (acc : FVec Ideal S1x1x80x256 .f32) (r : Fin 64) (c : Fin 256) :
    divided (F := Ideal) acc (ix2 r c)
      = acc (ix4 0 0 ⟨r.val, by omega⟩ c) * Ideal.div 1 (acc (ix4 0 0 64 c)) := by
  pointwise [divided]

theorem outPay_at (a b : FVec Ideal S1x1x80x256 .f32) (c : Fin 256) (l : Fin 128) :
    outPay (F := Ideal) a b (ix3 0 c l)
      = if h : l.val < 64 then divided (F := Ideal) a (ix2 ⟨l.val, h⟩ c)
        else divided (F := Ideal) b (ix2 ⟨l.val - 64, by omega⟩ c) := by
  pointwise [outPay]

end Cert.KernelIdeal.Att

end
-- ==== Proof.Att.Steps.lean ====
/- One step of the loop, read entry by entry. -/
module

public import proofs.«01_k».proof.Proof.Att.Mem
public import proofs.«01_k».proof.Proof.Att.Pay

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable (a9 : Memref sig .tc .vmem S2x6x80x256 .f32) (a10 a11 : Memref sig .tc .vmem S2x6x1x256 .f32)
  (a12 : Memref sig .tc .vmem S2x3x512x256 .f32) (a13 : Memref sig .tc .vmem S2x6x256x256 .bf16)
  (rk : Fin 4 → Fin 9 → Vec Ideal S1x256x128 .bf16) (rv : Fin 2 → Fin 9 → Vec Ideal S1x1x80x256 .bf16)
  (rq : Fin 2 → Fin 3 → Vec Ideal S1x128x256 .bf16)

/-- Entries of the buffers, as extended reals. -/
def accG (s : Bufs Ideal) (t : Fin 2) (h : Fin 6) (r : Fin 80) (c : Fin 256) : EReal := got s.acc (ix4 t h r c)
def topG (s : Bufs Ideal) (t : Fin 2) (h : Fin 6) (c : Fin 256) : EReal := got s.top (ix4 t h 0 c)
def fadeG (s : Bufs Ideal) (p : Fin 2) (h : Fin 6) (c : Fin 256) : EReal := got s.fade (ix4 p h 0 c)
def wtG (s : Bufs Ideal) (p : Fin 2) (h : Fin 6) (k c : Fin 256) : EReal := got s.wt (ix4 p h k c)
/-- The scores of head `h` sit in its pair's box, the second head's below the first's. -/
def scG (s : Bufs Ideal) (p : Fin 2) (h : Fin 6) (k c : Fin 256) : EReal :=
  got s.sc (ix4 p (⟨h.val / 2, by omega⟩ : Fin 3) (⟨h.val % 2 * 256 + k.val, by omega⟩ : Fin 512) c)
/-- The output block holds query tile `t` in rows `256 t + c` and head `h` in lanes `64 h + d`. -/
def outG (s : Bufs Ideal) (t : Fin 2) (h : Fin 6) (d : Fin 64) (c : Fin 256) : EReal :=
  got s.out (ix3 (0 : Fin 1) (⟨t.val * 256 + c.val, by omega⟩ : Fin 512) (⟨h.val * 64 + d.val, by omega⟩ : Fin 384))

/-- The scores of item `n` at head `h`. -/
def scoreV (t : Fin 2) (h : Fin 6) (i : ℕ) (k c : Fin 256) : EReal :=
  ∑ d : Fin 128, (show EReal from rk (copyOf h) (block i) (ix3 0 k d))
    * (show EReal from rq t (⟨h.val / 2, by omega⟩ : Fin 3) (ix3 0 d c))

/-! ## Weighing the values -/

theorem weigh_acc (n : ℕ) (h : Fin 6) (s : Bufs Ideal) (t' : Fin 2) (h' : Fin 6) (r : Fin 80) (c : Fin 256) :
    accG (weigh a9 a11 a13 rv n h s) t' h' r c
      = if t' = tile n ∧ h' = h then
          accG s t' h' r c * fadeG s (slot n) h' c
            + ∑ k : Fin 256, (show EReal from rv (kvOf h') (block n) (ix4 0 0 r k)) * wtG s (slot n) h' k c
        else accG s t' h' r c := by
  unfold accG weigh
  refine (got_row (tile n) h _ _ _ t' h' r c).trans ?_
  split_ifs with hc
  · obtain ⟨rfl, rfl⟩ := hc
    refine (accPay_at _ _ _ _ r c).trans ?_
    refine congrArg₂ (· + ·) (congrArg₂ (· * ·) (load_row _ _ _ _ _ r c) (load_row _ _ _ _ _ 0 c))
      (Finset.sum_congr rfl fun k _ => congrArg₂ (· * ·) rfl (load_row _ _ _ _ _ k c))
  · rfl

theorem weigh_all (n : ℕ) (s : Bufs Ideal) (t : Fin 2) (h : Fin 6) (r : Fin 80) (c : Fin 256) :
    accG (heads (weigh a9 a11 a13 rv n) s) t h r c
      = if t = tile n then
          accG s t h r c * fadeG s (slot n) h c
            + ∑ k : Fin 256, (show EReal from rv (kvOf h) (block n) (ix4 0 0 r k)) * wtG s (slot n) h k c
        else accG s t h r c := by
  have hf : ∀ (h : Fin 6) (s : Bufs Ideal), fadeG (weigh a9 a11 a13 rv n h s) = fadeG s := fun _ _ => rfl
  have hw : ∀ (h : Fin 6) (s : Bufs Ideal), wtG (weigh a9 a11 a13 rv n h s) = wtG s := fun _ _ => rfl
  unfold heads
  simp only [weigh_acc, hf, hw]
  by_cases ht : t = tile n
  · fin_cases h <;> simp [ht]
  · simp [ht]

theorem weigh_other (n : ℕ) (s : Bufs Ideal) :
    (heads (weigh a9 a11 a13 rv n) s).out = s.out ∧ (heads (weigh a9 a11 a13 rv n) s).top = s.top
      ∧ (heads (weigh a9 a11 a13 rv n) s).fade = s.fade ∧ (heads (weigh a9 a11 a13 rv n) s).sc = s.sc
      ∧ (heads (weigh a9 a11 a13 rv n) s).wt = s.wt := ⟨rfl, rfl, rfl, rfl, rfl⟩

/-! ## Scores -/

theorem score_sc (n : ℕ) (j : Fin 3) (s : Bufs Ideal) (p : Fin 2) (h : Fin 6) (k c : Fin 256) :
    scG (score rk rq n j s) p h k c
      = if p = slot n ∧ (⟨h.val / 2, by omega⟩ : Fin 3) = j then scoreV rk rq (tile n) h n k c else scG s p h k c := by
  unfold scG score
  refine (got_row (slot n) j _ _ _ p (⟨h.val / 2, by omega⟩ : Fin 3) (⟨h.val % 2 * 256 + k.val, by omega⟩ : Fin 512) c).trans ?_
  split_ifs with hc
  · obtain ⟨rfl, rfl⟩ := hc
    rcases Nat.mod_two_eq_zero_or_one h.val with e | e
    · have hi : (⟨h.val % 2 * 256 + k.val, by omega⟩ : Fin 512) = ⟨k.val, by omega⟩ := Fin.ext (by simp [e])
      rw [hi]
      refine (scPay_fst _ _ _ k c).trans ?_
      have : fst (⟨h.val / 2, by omega⟩ : Fin 3) = h := Fin.ext (by simp [fst]; omega)
      rw [this]; rfl
    · have hi : (⟨h.val % 2 * 256 + k.val, by omega⟩ : Fin 512) = ⟨256 + k.val, by omega⟩ := Fin.ext (by simp [e])
      rw [hi]
      refine (scPay_snd _ _ _ k c).trans ?_
      have : snd (⟨h.val / 2, by omega⟩ : Fin 3) = h := Fin.ext (by simp [snd]; omega)
      rw [this]; rfl
  · rfl

theorem score_all (n : ℕ) (s : Bufs Ideal) (p : Fin 2) (h : Fin 6) (k c : Fin 256) :
    scG (pairs (score rk rq n) s) p h k c
      = if p = slot n then scoreV rk rq (tile n) h n k c else scG s p h k c := by
  unfold pairs
  simp only [score_sc]
  by_cases hp : p = slot n
  · fin_cases h <;> simp [hp]
  · simp [hp]

/-! ## Exponentials -/

theorem load_head (s : Bufs Ideal) (p : Fin 2) (h : Fin 6) (k c : Fin 256) :
    a12.view.readCov s.sc (rHead p h).toLoadRect (ix4 0 0 k c) = scG s p h k c := by
  rw [got_load]
  refine congrArg (got s.sc) ?_
  funext a
  fin_cases a <;> exact Fin.ext (by simp [LoadRect.idx, ix4])

/-- The maximum of head `h` after item `n`, from the buffers before. -/
def topV (n : ℕ) (s : Bufs Ideal) (h : Fin 6) (c : Fin 256) : EReal :=
  max (topG s (tile n) h c) (Finset.univ.sup fun k : Fin 256 => scG s (slot n) h k c)

theorem newTop_read (n : ℕ) (h : Fin 6) (s : Bufs Ideal) (c : Fin 256) :
    newTop (F := Ideal) (a10.view.readCov s.top (rTop (tile n) h).toLoadRect)
      (a12.view.readCov s.sc (rHead (slot n) h).toLoadRect) (ix2 0 c) = topV n s h c := by
  refine (newTop_at _ _ c).trans ?_
  refine congrArg₂ max (load_row _ _ _ _ _ 0 c) ?_
  congr 1
  funext k
  exact load_head a12 s (slot n) h k c

theorem expo_top (n : ℕ) (h : Fin 6) (s : Bufs Ideal) (t' : Fin 2) (h' : Fin 6) (c : Fin 256) :
    topG (expo a10 a12 n h s) t' h' c = if t' = tile n ∧ h' = h then topV n s h' c else topG s t' h' c := by
  unfold topG expo
  refine (got_row (tile n) h _ _ _ t' h' 0 c).trans ?_
  split_ifs with hc
  · obtain ⟨rfl, rfl⟩ := hc
    exact (topPay_at _ _ c).trans (newTop_read a10 a12 n h' s c)
  · rfl

theorem expo_fade (n : ℕ) (h : Fin 6) (s : Bufs Ideal) (p : Fin 2) (h' : Fin 6) (c : Fin 256) :
    fadeG (expo a10 a12 n h s) p h' c
      = if p = slot n ∧ h' = h then Ideal.exp2 (topG s (tile n) h' c - topV n s h' c) else fadeG s p h' c := by
  unfold fadeG expo
  refine (got_row (slot n) h _ _ _ p h' 0 c).trans ?_
  split_ifs with hc
  · obtain ⟨rfl, rfl⟩ := hc
    refine (fadePay_at _ _ c).trans (congrArg Ideal.exp2 ?_)
    exact congrArg₂ (· - ·) (load_row _ _ _ _ _ 0 c) (newTop_read a10 a12 n h' s c)
  · rfl

theorem expo_wt (n : ℕ) (h : Fin 6) (s : Bufs Ideal) (p : Fin 2) (h' : Fin 6) (k c : Fin 256) :
    wtG (expo a10 a12 n h s) p h' k c
      = if p = slot n ∧ h' = h then Ideal.exp2 (scG s (slot n) h' k c - topV n s h' c) else wtG s p h' k c := by
  unfold wtG expo
  refine (got_row (slot n) h _ _ _ p h' k c).trans ?_
  split_ifs with hc
  · obtain ⟨rfl, rfl⟩ := hc
    refine (wtPay_at _ _ k c).trans (congrArg Ideal.exp2 ?_)
    exact congrArg₂ (· - ·) (load_head a12 s _ h' k c) (newTop_read a10 a12 n h' s c)
  · rfl

theorem expo_sc (n : ℕ) (h : Fin 6) (s : Bufs Ideal) : scG (expo a10 a12 n h s) = scG s := rfl

theorem expo_all (n : ℕ) (s : Bufs Ideal) (h : Fin 6) (c : Fin 256) :
    (∀ t, topG (heads (expo a10 a12 n) s) t h c = if t = tile n then topV n s h c else topG s t h c)
    ∧ (∀ p, fadeG (heads (expo a10 a12 n) s) p h c
        = if p = slot n then Ideal.exp2 (topG s (tile n) h c - topV n s h c) else fadeG s p h c)
    ∧ (∀ p k, wtG (heads (expo a10 a12 n) s) p h k c
        = if p = slot n then Ideal.exp2 (scG s (slot n) h k c - topV n s h c) else wtG s p h k c) := by
  have hv : ∀ (g h : Fin 6) (s : Bufs Ideal), h ≠ g → topV n (expo a10 a12 n g s) h c = topV n s h c := by
    intro g h s hne
    unfold topV
    rw [expo_top, if_neg (fun e => hne e.2), expo_sc]
  unfold heads
  refine ⟨fun t => ?_, fun p => ?_, fun p k => ?_⟩
  · simp only [expo_top]
    by_cases ht : t = tile n
    · fin_cases h <;> simp [ht, hv]
    · simp [ht]
  · simp only [expo_fade, expo_top]
    by_cases ht : p = slot n
    · fin_cases h <;> simp [ht, hv]
    · simp [ht]
  · simp only [expo_wt, expo_sc]
    by_cases ht : p = slot n
    · fin_cases h <;> simp [ht, hv]
    · simp [ht]

/-! ## Finishing a tile -/

/-- One head's output from its accumulator. -/
def outV (s : Bufs Ideal) (t : Fin 2) (h : Fin 6) (d : Fin 64) (c : Fin 256) : EReal :=
  accG s t h ⟨d.val, by omega⟩ c * Ideal.div 1 (accG s t h 64 c)

theorem divided_read (s : Bufs Ideal) (t : Fin 2) (h : Fin 6) (d : Fin 64) (c : Fin 256) :
    divided (F := Ideal) (a9.view.readCov s.acc (rAcc t h).toLoadRect) (ix2 d c) = outV s t h d c := by
  refine (divided_at _ d c).trans ?_
  exact congrArg₂ (· * ·) (load_row _ _ _ _ _ _ c) (congrArg (Ideal.div 1) (load_row _ _ _ _ _ 64 c))

theorem finish_out (n : ℕ) (j : Fin 3) (s : Bufs Ideal) (t : Fin 2) (h : Fin 6) (d : Fin 64) (c : Fin 256) :
    outG (finish a9 n j s) t h d c
      = if t = tile n ∧ (⟨h.val / 2, by omega⟩ : Fin 3) = j then outV s t h d c else outG s t h d c := by
  have hl : ∀ l : Fin 128, l.val = h.val % 2 * 64 + d.val →
      ix3 (0 : Fin 1) (⟨t.val * 256 + c.val, by omega⟩ : Fin 512) (⟨h.val * 64 + d.val, by omega⟩ : Fin 384)
        = (rOut t ⟨h.val / 2, by omega⟩).emb (ix3 0 c l) := by
    intro l hl
    funext a
    show _ = (rOut t ⟨h.val / 2, by omega⟩).toLoadRect.idx (ix3 0 c l) a
    fin_cases a <;> exact Fin.ext (by simp [LoadRect.idx, ix3]; try omega)
  unfold outG finish
  split_ifs with hc
  · obtain ⟨rfl, rfl⟩ := hc
    rw [hl ⟨h.val % 2 * 64 + d.val, by omega⟩ rfl]
    refine (got_emb _ _ _ _).trans ((outPay_at _ _ c _).trans ?_)
    rcases Nat.mod_two_eq_zero_or_one h.val with e | e
    · have hh : fst (⟨h.val / 2, by omega⟩ : Fin 3) = h := Fin.ext (by simp [fst]; omega)
      rw [dif_pos (by simp [e])]
      have hd : (⟨(⟨h.val % 2 * 64 + d.val, by omega⟩ : Fin 128).val, by simp [e]⟩ : Fin 64) = d := Fin.ext (by simp [e])
      rw [hh, hd]
      exact divided_read a9 s _ h d c
    · have hh : snd (⟨h.val / 2, by omega⟩ : Fin 3) = h := Fin.ext (by simp [snd]; omega)
      rw [dif_neg (by simp [e])]
      have hd : (⟨(⟨h.val % 2 * 64 + d.val, by omega⟩ : Fin 128).val - 64, by simp [e]⟩ : Fin 64) = d := Fin.ext (by simp [e])
      rw [hh, hd]
      exact divided_read a9 s _ h d c
  · apply got_off
    rw [Rect.mem_set_unit]
    intro h'
    apply hc
    have h1 : (tile n).val * 256 ≤ t.val * 256 + c.val ∧ t.val * 256 + c.val < (tile n).val * 256 + 256 := h' 1
    have h2 : j.val * 128 ≤ h.val * 64 + d.val ∧ h.val * 64 + d.val < j.val * 128 + 128 := h' 2
    exact ⟨Fin.ext (by omega), Fin.ext (by show h.val / 2 = j.val; omega)⟩

theorem finish_all (n : ℕ) (s : Bufs Ideal) (t : Fin 2) (h : Fin 6) (d : Fin 64) (c : Fin 256) :
    outG (pairs (finish a9 n) s) t h d c = if t = tile n then outV s t h d c else outG s t h d c := by
  have hv : ∀ (j : Fin 3) (s : Bufs Ideal), outV (finish a9 n j s) = outV s := fun _ _ => rfl
  unfold pairs
  simp only [finish_out, hv]
  by_cases hp : t = tile n
  · fin_cases h <;> simp [hp]
  · simp [hp]

end Cert.KernelIdeal.Att

end
-- ==== Proof.Att.Online.lean ====
/- A weighted sum kept block by block against a running maximum: the recurrence. -/
module

public import Idealize.ShloMosaic.Lib.Pointwise

@[expose] public section

noncomputable section

namespace Online

open Idealize.ShloMosaic

variable {κ : Type} [Fintype κ]

/-- The maximum after the first `n` blocks of scores. -/
def top (S : ℕ → κ → EReal) : ℕ → EReal
  | 0 => ⊥
  | n + 1 => max (top S n) (Finset.univ.sup fun k => S n k)

/-- The factor by which block `n` fades what was summed before it. -/
def fade (S : ℕ → κ → EReal) (n : ℕ) : EReal := Ideal.exp2 (top S n - top S (n + 1))

/-- The weight of entry `k` of block `n`, at the maximum after that block. -/
def wt (S : ℕ → κ → EReal) (n : ℕ) (k : κ) : EReal := Ideal.exp2 (S n k - top S (n + 1))

/-- The weighted sum after the first `n` blocks, at the maximum after them. -/
def acc (S V : ℕ → κ → EReal) : ℕ → EReal
  | 0 => 0
  | n + 1 => acc S V n * fade S n + ∑ k, V n k * wt S n k

end Online

end
-- ==== Proof.Att.Loop.lean ====
/- The whole loop: after it the output block holds the recurrence's last sums divided by the last row sum. -/
module

public import proofs.«01_k».proof.Proof.Att.Steps
public import proofs.«01_k».proof.Proof.Att.Online

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable (a9 : Memref sig .tc .vmem S2x6x80x256 .f32) (a10 a11 : Memref sig .tc .vmem S2x6x1x256 .f32)
  (a12 : Memref sig .tc .vmem S2x3x512x256 .f32) (a13 : Memref sig .tc .vmem S2x6x256x256 .bf16)
  (rk : Fin 4 → Fin 9 → Vec Ideal S1x256x128 .bf16) (rv : Fin 2 → Fin 9 → Vec Ideal S1x1x80x256 .bf16)
  (rq : Fin 2 → Fin 3 → Vec Ideal S1x128x256 .bf16)

/-! ## What a turn changes -/

theorem turn_acc (n : ℕ) (s : Bufs Ideal) :
    accG (turn a9 a10 a11 a12 a13 rk rv rq n s)
      = accG (bif Nat.ble 2 n then heads (weigh a9 a11 a13 rv (n - 2)) s else s) := by
  unfold turn
  cases Nat.ble 2 n <;> cases Nat.beq ((n - 1) % 9) 0 <;> cases Nat.ble n 17 <;> cases Nat.ble 1 n && Nat.ble n 18 <;> rfl

theorem outG_congr {s s' : Bufs Ideal} (h : s.out = s'.out) : outG s = outG s' := by
  unfold outG
  rw [h]

theorem turn_out (n : ℕ) (s : Bufs Ideal) :
    outG (turn a9 a10 a11 a12 a13 rk rv rq n s)
      = outG (bif Nat.ble 2 n && Nat.beq ((n - 1) % 9) 0 then
          pairs (finish a9 (n - 2)) (heads (weigh a9 a11 a13 rv (n - 2)) s) else s) := by
  apply outG_congr
  have h1 : ∀ (B : Bool) (x : Bufs Ideal), (bif B then heads (expo a10 a12 (n - 1)) x else x).out = x.out := by
    intro B x; cases B <;> simp only [cond_true, cond_false, heads, expo]
  have h2 : ∀ (B : Bool) (x : Bufs Ideal), (bif B then pairs (score rk rq n) x else x).out = x.out := by
    intro B x; cases B <;> simp only [cond_true, cond_false, pairs, score]
  have h3 : (heads (weigh a9 a11 a13 rv (n - 2)) s).out = s.out := by simp only [heads, weigh]
  unfold turn
  refine (h1 _ _).trans ((h2 _ _).trans ?_)
  cases Nat.ble 2 n <;> cases Nat.beq ((n - 1) % 9) 0 <;> simp only [cond_true, cond_false, Bool.true_and, Bool.false_and]
  exact h3

theorem turn_sc (n : ℕ) (s : Bufs Ideal) :
    scG (turn a9 a10 a11 a12 a13 rk rv rq n s) = scG (bif Nat.ble n 17 then pairs (score rk rq n) s else s) := by
  unfold turn
  cases Nat.ble 2 n <;> cases Nat.beq ((n - 1) % 9) 0 <;> cases Nat.ble n 17 <;> cases Nat.ble 1 n && Nat.ble n 18 <;> rfl

/-- The exponentials of a turn find the maxima of before the turn, and the scores of the turn before. -/
theorem turn_expo (n : ℕ) (s : Bufs Ideal) : ∃ s₃ : Bufs Ideal,
    topG s₃ = topG s ∧ fadeG s₃ = fadeG s ∧ wtG s₃ = wtG s
    ∧ scG s₃ = scG (bif Nat.ble n 17 then pairs (score rk rq n) s else s)
    ∧ (let s' := bif Nat.ble 1 n && Nat.ble n 18 then heads (expo a10 a12 (n - 1)) s₃ else s₃
       topG (turn a9 a10 a11 a12 a13 rk rv rq n s) = topG s'
        ∧ fadeG (turn a9 a10 a11 a12 a13 rk rv rq n s) = fadeG s'
        ∧ wtG (turn a9 a10 a11 a12 a13 rk rv rq n s) = wtG s') := by
  unfold turn
  refine ⟨_, ?_, ?_, ?_, ?_, rfl, rfl, rfl⟩ <;>
  cases Nat.ble 2 n <;> cases Nat.beq ((n - 1) % 9) 0 <;> cases Nat.ble n 17 <;> rfl

/-! ## The invariant -/

/-- Scores of tile `t` at head `h`, column `c`. -/
def S (t : Fin 2) (h : Fin 6) (c : Fin 256) : ℕ → Fin 256 → EReal := fun i k => scoreV rk rq t h i k c
/-- Values of row `r` at head `h`. -/
def V (h : Fin 6) (r : Fin 80) : ℕ → Fin 256 → EReal := fun i k => (show EReal from rv (kvOf h) (block i) (ix4 0 0 r k))

theorem block_mod (n : ℕ) : block (n % 9) = block n := Fin.ext (Nat.mod_mod n 9)

theorem S_mod (t : Fin 2) (h : Fin 6) (c : Fin 256) (n : ℕ) (k : Fin 256) :
    S rk rq t h c (n % 9) k = scoreV rk rq t h n k c := by
  unfold S scoreV
  rw [block_mod]

structure Inv (n : ℕ) (s : Bufs Ideal) : Prop where
  top : ∀ t h c, topG s t h c = Online.top (S rk rq t h c) (min (n - 1 - 9 * t.val) 9)
  acc : ∀ t h r c, accG s t h r c = Online.acc (S rk rq t h c) (V rv h r) (min (n - 2 - 9 * t.val) 9)
  sc : 1 ≤ n → n ≤ 18 → ∀ h k c, scG s (slot (n - 1)) h k c = scoreV rk rq (tile (n - 1)) h (n - 1) k c
  fade : 2 ≤ n → n ≤ 19 → ∀ h c, fadeG s (slot (n - 2)) h c = Online.fade (S rk rq (tile (n - 2)) h c) ((n - 2) % 9)
  wt : 2 ≤ n → n ≤ 19 → ∀ h k c, wtG s (slot (n - 2)) h k c = Online.wt (S rk rq (tile (n - 2)) h c) ((n - 2) % 9) k
  out : ∀ t : Fin 2, 9 * t.val + 11 ≤ n → ∀ h (d : Fin 64) c, outG s t h d c
      = Online.acc (S rk rq t h c) (V rv h ⟨d.val, by omega⟩) 9 * Ideal.div 1 (Online.acc (S rk rq t h c) (V rv h 64) 9)

/-- A store to the whole of a buffer. -/
theorem start_whole {s : Shape} {e : EltTy} {off : Fin s.rank → ℕ} (inb : ∀ a, off a + s.size a ≤ s.size a) (y : s.Idx)
    (w : s.Idx → Elt Ideal e) (L : List (View.Piece (Elt Ideal) s e)) : got (⟨Rect.unit off s.size inb, w⟩ :: L) y = w y := by
  have : y = (Rect.unit off s.size inb).emb y := by
    funext a
    apply Fin.ext
    show (y a).val = off a + 1 * (y a).val
    have := inb a
    omega
  conv_lhs => rw [this]
  exact got_emb (Rect.unit off s.size inb) w L y

theorem start_inv : Inv rk rv rq 0 (start : Bufs Ideal) where
  top t h c := by
    simp only [Online.top, Nat.zero_sub, Nat.zero_min]
    refine (start_whole _ (ix4 t h 0 c) _ _).trans ?_
    pointwise [k0_pay34]
    exact IdealRules.named_const.ideal_named_scalar _ _ _ _ rfl
  acc t h r c := by
    simp only [Online.acc, Nat.zero_sub, Nat.zero_min]
    refine (start_whole _ (ix4 t h r c) _ _).trans ?_
    pointwise [k0_pay33]
  sc h := by omega
  fade h := by omega
  wt h := by omega
  out t h := by omega

theorem turn_inv (n : ℕ) (hn : n ≤ 19) (s : Bufs Ideal) (h : Inv rk rv rq n s) :
    Inv rk rv rq (n + 1) (turn a9 a10 a11 a12 a13 rk rv rq n s) := by
  -- the sums after the turn
  have hacc : ∀ t g r c, accG (turn a9 a10 a11 a12 a13 rk rv rq n s) t g r c
      = Online.acc (S rk rq t g c) (V rv g r) (min (n + 1 - 2 - 9 * t.val) 9) := by
    intro t g r c
    rw [turn_acc]
    by_cases h2 : 2 ≤ n
    · have e : Nat.ble 2 n = true := (by rw [Nat.ble_eq]; exact h2)
      rw [e, cond_true, weigh_all, h.acc]
      split_ifs with ht
      · have htv : t.val = (n - 2) / 9 % 2 := congrArg Fin.val ht
        have e1 : min (n - 2 - 9 * t.val) 9 = (n - 2) % 9 := by omega
        have e2 : min (n + 1 - 2 - 9 * t.val) 9 = (n - 2) % 9 + 1 := by omega
        rw [e1, e2, Online.acc, h.fade h2 hn, ← ht]
        refine congrArg₂ (· + ·) rfl (Finset.sum_congr rfl fun k _ => ?_)
        rw [h.wt h2 hn, ← ht]
        unfold V
        rw [block_mod]
      · have htv : t.val ≠ (n - 2) / 9 % 2 := fun e => ht (Fin.ext e)
        have e1 : min (n + 1 - 2 - 9 * t.val) 9 = min (n - 2 - 9 * t.val) 9 := by omega
        rw [e1]
    · have e : Nat.ble 2 n = false := by
        rw [← Bool.not_eq_true, Nat.ble_eq]; exact h2
      rw [e, cond_false, h.acc]
      have e1 : min (n + 1 - 2 - 9 * t.val) 9 = min (n - 2 - 9 * t.val) 9 := by omega
      rw [e1]
  obtain ⟨s₃, h3t, h3f, h3w, h3s, ht, hf, hw⟩ := turn_expo a9 a10 a11 a12 a13 rk rv rq n s
  have hsc : 1 ≤ n → n ≤ 18 → ∀ g k c, scG s₃ (slot (n - 1)) g k c = scoreV rk rq (tile (n - 1)) g (n - 1) k c := by
    intro h1 h18 g k c
    rw [h3s, ← h.sc h1 h18]
    cases Nat.ble n 17
    · rfl
    · rw [cond_true, score_all, if_neg]
      intro e
      have : (n - 1) % 2 = n % 2 := congrArg Fin.val e
      omega
  -- the maximum after item n - 1
  have htop : 1 ≤ n → n ≤ 18 → ∀ g c, topG s₃ (tile (n - 1)) g c = Online.top (S rk rq (tile (n - 1)) g c) ((n - 1) % 9)
      ∧ topV (n - 1) s₃ g c = Online.top (S rk rq (tile (n - 1)) g c) ((n - 1) % 9 + 1) := by
    intro h1 h18 g c
    have e0 : topG s₃ (tile (n - 1)) g c = Online.top (S rk rq (tile (n - 1)) g c) ((n - 1) % 9) := by
      rw [h3t, h.top]
      congr 1
      show min (n - 1 - 9 * ((n - 1) / 9 % 2)) 9 = _
      omega
    refine ⟨e0, ?_⟩
    rw [Online.top, topV, e0]
    refine congrArg₂ max rfl ?_
    congr 1
    funext k
    rw [hsc h1 h18, S_mod]
  have hcond : 1 ≤ n → n ≤ 18 → (Nat.ble 1 n && Nat.ble n 18) = true := by
    intro h1 h18
    rw [Bool.and_eq_true, Nat.ble_eq, Nat.ble_eq]; exact ⟨h1, h18⟩
  constructor
  · intro t g c
    rw [ht]
    by_cases hc : 1 ≤ n ∧ n ≤ 18
    · rw [hcond hc.1 hc.2, cond_true, (expo_all a10 a12 (n - 1) s₃ g c).1 t]
      split_ifs with e
      · have htv : t.val = (n - 1) / 9 % 2 := congrArg Fin.val e
        rw [(htop hc.1 hc.2 g c).2, ← e]
        congr 1
        omega
      · have htv : t.val ≠ (n - 1) / 9 % 2 := fun e' => e (Fin.ext e')
        rw [h3t, h.top]
        congr 1
        omega
    · have e : (Nat.ble 1 n && Nat.ble n 18) = false := by
        rw [← Bool.not_eq_true, Bool.and_eq_true, Nat.ble_eq, Nat.ble_eq]; exact hc
      rw [e, cond_false, h3t, h.top]
      congr 1
      omega
  · exact hacc
  · intro _ h17 g k c
    have e : Nat.ble n 17 = true := (by rw [Nat.ble_eq]; omega)
    rw [turn_sc, e, cond_true, score_all, Nat.add_sub_cancel, if_pos rfl]
  · intro h1 h18 g c
    have h1' : 1 ≤ n := by omega
    have h18' : n ≤ 18 := by omega
    have e : n + 1 - 2 = n - 1 := by omega
    rw [hf, hcond h1' h18', cond_true, e, (expo_all a10 a12 (n - 1) s₃ g c).2.1, if_pos rfl, Online.fade,
      (htop h1' h18' g c).1, (htop h1' h18' g c).2]
  · intro h1 h18 g k c
    have h1' : 1 ≤ n := by omega
    have h18' : n ≤ 18 := by omega
    have e : n + 1 - 2 = n - 1 := by omega
    rw [hw, hcond h1' h18', cond_true, e, (expo_all a10 a12 (n - 1) s₃ g c).2.2, if_pos rfl, Online.wt,
      (htop h1' h18' g c).2, hsc h1' h18', S_mod]
  · intro t hn' g d c
    rw [turn_out]
    by_cases hc : 2 ≤ n ∧ (n - 1) % 9 = 0
    · have e : (Nat.ble 2 n && Nat.beq ((n - 1) % 9) 0) = true := by
        rw [Bool.and_eq_true, Nat.ble_eq, Nat.beq_eq]; exact hc
      have e2 : Nat.ble 2 n = true := (by rw [Nat.ble_eq]; exact hc.1)
      rw [e, cond_true, finish_all]
      split_ifs with ht'
      · have htv : t.val = (n - 2) / 9 % 2 := congrArg Fin.val ht'
        have ha := hacc t g
        rw [turn_acc, e2, cond_true] at ha
        unfold outV
        rw [ha, ha]
        have e3 : min (n + 1 - 2 - 9 * t.val) 9 = 9 := by omega
        rw [e3]
      · have htv : t.val ≠ (n - 2) / 9 % 2 := fun e' => ht' (Fin.ext e')
        have : outG (heads (weigh a9 a11 a13 rv (n - 2)) s) = outG s := rfl
        rw [this]
        exact h.out t (by omega) g d c
    · have e : (Nat.ble 2 n && Nat.beq ((n - 1) % 9) 0) = false := by
        rw [← Bool.not_eq_true, Bool.and_eq_true, Nat.ble_eq, Nat.beq_eq]; exact hc
      rw [e, cond_false]
      exact h.out t (by omega) g d c

theorem after_inv (n : ℕ) (hn : n ≤ 20) : Inv rk rv rq n (after a9 a10 a11 a12 a13 rk rv rq n) := by
  induction n with
  | zero => exact start_inv rk rv rq
  | succ n ih => exact turn_inv a9 a10 a11 a12 a13 rk rv rq n (by omega) _ (ih (by omega))

/-- The output block after the loop. -/
theorem after_out (t : Fin 2) (h : Fin 6) (d : Fin 64) (c : Fin 256) :
    outG (after a9 a10 a11 a12 a13 rk rv rq 20) t h d c
      = Online.acc (S rk rq t h c) (V rv h ⟨d.val, by omega⟩) 9 * Ideal.div 1 (Online.acc (S rk rq t h c) (V rv h 64) 9) :=
  (after_inv a9 a10 a11 a12 a13 rk rv rq 20 le_rfl).out t (by omega) h d c

end Cert.KernelIdeal.Att

end
-- ==== Proof.Att.Array.lean ====
/- What the attention leaves in its result, entry by entry, from the query, key and value arrays. -/
module

public import proofs.«01_k».proof.Proof.Att.Point
public import proofs.«01_k».proof.Proof.Att.Loop

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- Key `k` of block `i`, of the nine blocks. -/
def keyAt (i : ℕ) (k : Fin 256) : Fin 2304 := ⟨i % 9 * 256 + k.val, by omega⟩

/-- The score of a latent row and a key, at a head: in base two. -/
def scr (b : Fin 8) (h : Fin 6) (n : Fin 2048) (j : Fin 2304) : EReal :=
  ∑ d : Fin 64, (show EReal from K m c (ix3 b j ⟨h.val / 3 * 64 + d.val, by omega⟩))
    * (show EReal from Q m c (ix3 b ⟨h.val * 64 + d.val, by omega⟩ ⟨256 + n.val, by omega⟩))

theorem idx_key (g : Fin 4) (i : Fin 9) (k : Fin 256) (l : Fin 128) :
    (rKey g i).toLoadRect.idx (ix3 0 k l) = ix3 g ⟨i.val * 256 + k.val, by omega⟩ l := by
  funext a
  fin_cases a <;> exact Fin.ext (by simp [LoadRect.idx, ix3])

theorem idx_val (g : Fin 2) (i : Fin 9) (r : Fin 80) (k : Fin 256) :
    (rVal g i).toLoadRect.idx (ix4 0 0 r k) = ix4 g i r k := by
  funext a
  fin_cases a <;> exact Fin.ext (by simp [LoadRect.idx, ix4])

theorem idx_qry (j : Fin 3) (r : Fin 128) (n : Fin 256) :
    (rQry j).toLoadRect.idx (ix3 0 r n) = ix3 0 ⟨j.val * 128 + r.val, by omega⟩ n := by
  funext a
  fin_cases a <;> exact Fin.ext (by simp [LoadRect.idx, ix3])

theorem loads_at (t : Fin cfg0.N) (u : Fin 2) (j : Fin 3) (r : Fin 128) (n : Fin 256) (hb : t.val < 32) :
    (loads (iblk m c 0 t) (iblk m c 1 t) u j (ix3 0 r n) : EReal)
      = Q m c (ix3 (batch t) ⟨j.val * 128 + r.val, by omega⟩ ⟨256 + (t.val % 4 * 512 + u.val * 256 + n.val), by omega⟩) := by
  have e : ∀ (a b : Fin 2304), a.val = b.val → Q m c (ix3 (batch t) ⟨j.val * 128 + r.val, by omega⟩ a)
      = Q m c (ix3 (batch t) ⟨j.val * 128 + r.val, by omega⟩ b) := fun a b h => by rw [Fin.ext h]
  unfold loads
  rw [idx_qry]
  fin_cases u
  · refine (q0_at m c t _ n hb).trans (e _ _ ?_)
    show 256 + t.val % 4 * 512 + n.val = 256 + (t.val % 4 * 512 + 0 * 256 + n.val)
    omega
  · refine (q1_at m c t _ n hb).trans (e _ _ ?_)
    show 512 + t.val % 4 * 512 + n.val = 256 + (t.val % 4 * 512 + 1 * 256 + n.val)
    omega

theorem score_eq (t : Fin cfg0.N) (u : Fin 2) (h : Fin 6) (i : ℕ) (k n : Fin 256) (hb : t.val < 32) :
    scoreV (ldK m c (batch t)) (loads (iblk m c 0 t) (iblk m c 1 t)) u h i k n
      = scr m c (batch t) h ⟨t.val % 4 * 512 + u.val * 256 + n.val, by omega⟩ (keyAt i k) := by
  unfold scoreV scr
  have hk : ∀ l : Fin 128, (show EReal from ldK m c (batch t) (copyOf h) (block i) (ix3 0 k l))
      = if l.val / 64 = h.val % 2 then
          (fun d : Fin 64 => (show EReal from K m c (ix3 (batch t) (keyAt i k) ⟨h.val / 3 * 64 + d.val, by omega⟩)))
            ⟨l.val % 64, Nat.mod_lt _ (by decide)⟩ else 0 := by
    intro l
    show (got (F := Ideal) (keyPieces (keysOf m c (batch t))) _ : EReal) = _
    rw [idx_key, keys_at]
    have h1 : (copyOf h).val % 2 = h.val % 2 := by show (2 * (h.val / 3) + h.val % 2) % 2 = _; omega
    have h2 : (copyOf h).val / 2 = h.val / 3 := by show (2 * (h.val / 3) + h.val % 2) / 2 = _; omega
    simp only [h1, h2]
    rfl
  refine (Finset.sum_congr rfl fun l _ => congrArg (· * _) (hk l)).trans ((sum_masked
    (fun d : Fin 64 => (show EReal from K m c (ix3 (batch t) (keyAt i k) ⟨h.val / 3 * 64 + d.val, by omega⟩)))
    (fun l => (show EReal from loads (iblk m c 0 t) (iblk m c 1 t) u (⟨h.val / 2, by omega⟩ : Fin 3) (ix3 0 l n))) (h.val % 2) (by omega)).trans ?_)
  refine Finset.sum_congr rfl fun d _ => congrArg (_ * ·) ?_
  refine (loads_at m c t u _ _ n hb).trans ?_
  refine congrArg (Q m c) ?_
  refine congrArg (fun r => ix3 (batch t) r _) (Fin.ext ?_)
  show h.val / 2 * 128 + (h.val % 2 * 64 + d.val) = h.val * 64 + d.val
  omega

theorem ldV_at (b : Fin 8) (g : Fin 2) (i : Fin 9) (r : Fin 80) (k : Fin 256) :
    (ldV m c b g i (ix4 0 0 r k) : EReal)
      = if h : r.val < 64 then W m c (ix3 b ⟨i.val * 256 + k.val, by omega⟩ ⟨g.val * 64 + r.val, by omega⟩)
        else if r.val = 64 then 1 else 0 := by
  unfold ldV
  rw [idx_val]
  exact vals_at (valsOf m c b) g i r k

theorem V_apply (rv : Fin 2 → Fin 9 → Vec Ideal S1x1x80x256 .bf16) (h : Fin 6) (r : Fin 80) (i : ℕ) (k : Fin 256) :
    V rv h r i k = rv (kvOf h) (block i) (ix4 0 0 r k) := rfl

theorem val_eq (b : Fin 8) (h : Fin 6) (d : Fin 64) :
    V (ldV m c b) h ⟨d.val, by omega⟩
      = fun i k => (show EReal from W m c (ix3 b (keyAt i k) ⟨h.val / 3 * 64 + d.val, by omega⟩)) := by
  funext i k
  rw [V_apply, ldV_at, dif_pos d.isLt]
  rfl

theorem one_eq (b : Fin 8) (h : Fin 6) : V (ldV m c b) h 64 = fun _ _ => 1 := by
  funext i k
  have h1 : ¬ (64 : Fin 80).val < 64 := by decide
  have h2 : (64 : Fin 80).val = 64 := by decide
  rw [V_apply, ldV_at, dif_neg h1, if_pos h2]

/-- The block a point leaves, entry by entry. -/
theorem block_at (n : ℕ) (hn : n < cfg0.N) (hb : n < 32) (u : Fin 2) (h : Fin 6) (d : Fin 64) (col : Fin 256) :
    ((outsAt0 m c n hn).1 (ix3 (0 : Fin 1) (⟨u.val * 256 + col.val, by omega⟩ : Fin 512) (⟨h.val * 64 + d.val, by omega⟩ : Fin 384)) : EReal)
      = Online.acc (fun i k => scr m c (batch ⟨n, hn⟩) h ⟨n % 4 * 512 + u.val * 256 + col.val, by omega⟩ (keyAt i k))
          (fun i k => (show EReal from W m c (ix3 (batch ⟨n, hn⟩) (keyAt i k) ⟨h.val / 3 * 64 + d.val, by omega⟩))) 9
        * Ideal.div 1 (Online.acc (fun i k => scr m c (batch ⟨n, hn⟩) h ⟨n % 4 * 512 + u.val * 256 + col.val, by omega⟩ (keyAt i k))
          (fun _ _ => 1) 9) := by
  have hs : S (ldK m c (batch ⟨n, hn⟩)) (loads (iblk m c 0 ⟨n, hn⟩) (iblk m c 1 ⟨n, hn⟩)) u h col
      = fun i k => scr m c (batch ⟨n, hn⟩) h ⟨n % 4 * 512 + u.val * 256 + col.val, by omega⟩ (keyAt i k) :=
    funext fun i => funext fun k => score_eq m c ⟨n, hn⟩ u h i k col hb
  rw [block_left]
  refine (after_out scM0_2 scM0_3 scM0_4 scM0_5 scM0_6 _ _ _ u h d col).trans ?_
  rw [hs, val_eq, one_eq]

/-- The result at a latent row and a lane of a head. -/
theorem result_at (b : Fin 8) (n : Fin 2048) (h : Fin 6) (d : Fin 64) :
    (Cert.KernelIdeal.Value.G4 m c (ix3 b n (⟨h.val * 64 + d.val, by omega⟩ : Fin 384)) : EReal)
      = Online.acc (fun i k => scr m c b h n (keyAt i k))
          (fun i k => (show EReal from W m c (ix3 b (keyAt i k) ⟨h.val / 3 * 64 + d.val, by omega⟩))) 9
        * Ideal.div 1 (Online.acc (fun i k => scr m c b h n (keyAt i k)) (fun _ _ => 1) 9) := by
  have hN : 4 * b.val + n.val / 512 < cfg0.N := Nat.lt_of_lt_of_eq (by omega) N_0.symm
  have hp : Cert.KernelIdeal.Value.pt4Of (ix3 b n (⟨h.val * 64 + d.val, by omega⟩ : Fin 384)) = 4 * b.val + n.val / 512 := by
    show 4 * (b.val / 1 - 0) + 1 * (n.val / 512 - 0) + 1 * ((h.val * 64 + d.val) / 384 - 0) = _
    omega
  have key : ∀ (p : ℕ) (hpN : p < cfg0.N), p = 4 * b.val + n.val / 512 → ∀ y : S1x512x384.Idx,
      (Pipeline.accAt (fun n h => Cert.KernelIdeal.Value.stAt0 m c n h Cert.KernelIdeal.Value.junk0) (Cert.KernelIdeal.Value.stAt0 m c) 0 p (by omega)).1 y
        = (outsAt0 m c (4 * b.val + n.val / 512) hN).1 y := by
    rintro p hpN rfl y
    rw [← Cert.KernelIdeal.Value.outsAt0_sweep]
  have hl : Cert.KernelIdeal.Value.loc4Of (ix3 b n (⟨h.val * 64 + d.val, by omega⟩ : Fin 384))
      = ix3 (0 : Fin 1) (⟨n.val % 512 / 256 * 256 + n.val % 256, by omega⟩ : Fin 512) (⟨h.val * 64 + d.val, by omega⟩ : Fin 384) := by
    funext a
    fin_cases a
    · exact Subsingleton.elim (α := Fin 1) _ _
    · exact Fin.ext (by show n.val % 512 = n.val % 512 / 256 * 256 + n.val % 256; omega)
    · exact Fin.ext (by show (h.val * 64 + d.val) % 384 = h.val * 64 + d.val; omega)
  unfold Cert.KernelIdeal.Value.G4
  rw [dif_pos (by rw [hp]; exact hN), key _ (by rw [hp]; exact hN) hp, hl]
  have hb := block_at m c _ hN (by omega) ⟨n.val % 512 / 256, by omega⟩ h d ⟨n.val % 256, by omega⟩
  have e1 : batch ⟨4 * b.val + n.val / 512, hN⟩ = b := Fin.ext (by show (4 * b.val + n.val / 512) / 4 = b.val; omega)
  have e2 : (⟨(4 * b.val + n.val / 512) % 4 * 512 + n.val % 512 / 256 * 256 + n.val % 256, by omega⟩ : Fin 2048) = n :=
    Fin.ext (by show (4 * b.val + n.val / 512) % 4 * 512 + n.val % 512 / 256 * 256 + n.val % 256 = n.val; omega)
  rw [e1] at hb
  simp only [e2] at hb
  exact hb

end Cert.KernelIdeal.Att

end
-- ==== Proof.Att.Softmax.lean ====
/- With finite scores the recurrence's last sum over its last row sum is the sum of the values weighted by the
   softmax of the scores. -/
module

public import proofs.«01_k».proof.Proof.Att.Online

@[expose] public section

noncomputable section

namespace Online

open Idealize.ShloMosaic

variable {κ : Type} [Fintype κ]

/-- A nonnegative finite factor goes into a sum, whatever the terms. -/
theorem sum_mul_real {ι : Type} (A : Finset ι) (f : ι → EReal) {r : ℝ} (hr : 0 ≤ r) :
    (∑ i ∈ A, f i) * (r : EReal) = ∑ i ∈ A, f i * (r : EReal) := by
  classical
  induction A using Finset.induction_on with
  | empty => simp
  | insert a A ha ih =>
    rw [Finset.sum_insert ha, Finset.sum_insert ha,
      EReal.right_distrib_of_nonneg_of_ne_top (by exact_mod_cast hr) (EReal.coe_ne_top r), ih]

theorem coe_sum {ι : Type} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The maximum after `n` blocks is that of all their scores. -/
theorem top_eq (S : ℕ → κ → EReal) (n : ℕ) :
    top S n = (Finset.range n).sup fun i => Finset.univ.sup fun k => S i k := by
  induction n with
  | zero => rfl
  | succ n ih =>
    rw [Finset.range_add_one, Finset.sup_insert, top, ih, sup_comm]

theorem sup_real [Nonempty κ] (s : κ → ℝ) : ∃ r : ℝ, (Finset.univ.sup fun k => (s k : EReal)) = r := by
  obtain ⟨k, -, hk⟩ := Finset.exists_mem_eq_sup Finset.univ Finset.univ_nonempty (fun k => (s k : EReal))
  exact ⟨s k, hk⟩

theorem top_real [Nonempty κ] (s : ℕ → κ → ℝ) (n : ℕ) : ∃ r : ℝ, top (fun i k => (s i k : EReal)) (n + 1) = r := by
  induction n with
  | zero =>
    obtain ⟨r, hr⟩ := sup_real (s 0)
    exact ⟨r, by rw [top, top, hr, max_bot_left]⟩
  | succ n ih =>
    obtain ⟨a, ha⟩ := ih
    obtain ⟨r, hr⟩ := sup_real (s (n + 1))
    refine ⟨max a r, ?_⟩
    rw [top, ha, hr]
    exact (EReal.coe_strictMono.monotone.map_max).symm

theorem exp2_sub (x y : ℝ) : Ideal.exp2 ((x : EReal) - (y : EReal)) = ((2 : ℝ) ^ (x - y) : ℝ) := by
  rw [← EReal.coe_sub]; rfl

/-- The sums at the maximum `r` after the first `n + 1` blocks. -/
theorem acc_eq [Nonempty κ] (s : ℕ → κ → ℝ) (V : ℕ → κ → EReal) (n : ℕ) : ∀ r : ℝ,
    top (fun i k => (s i k : EReal)) (n + 1) = r →
    acc (fun i k => (s i k : EReal)) V (n + 1)
      = ∑ i ∈ Finset.range (n + 1), ∑ k, V i k * (((2 : ℝ) ^ (s i k - r) : ℝ) : EReal) := by
  induction n with
  | zero =>
    intro r hr
    rw [acc, acc, zero_mul, zero_add, Finset.sum_range_one]
    refine Finset.sum_congr rfl fun k _ => ?_
    rw [wt, hr, exp2_sub]
  | succ n ih =>
    intro r hr
    obtain ⟨a, ha⟩ := top_real s n
    rw [acc, ih a ha, Finset.sum_range_succ _ (n + 1), fade, ha, hr, exp2_sub,
      sum_mul_real _ _ (Real.rpow_nonneg (by norm_num) _)]
    refine congrArg₂ (· + ·) (Finset.sum_congr rfl fun i _ => ?_) (Finset.sum_congr rfl fun k _ => ?_)
    · rw [sum_mul_real _ _ (Real.rpow_nonneg (by norm_num) _)]
      refine Finset.sum_congr rfl fun k _ => ?_
      rw [mul_assoc, ← EReal.coe_mul, ← Real.rpow_add (by norm_num)]
      congr 3
      ring
    · rw [wt, hr, exp2_sub]

/-- A sum in blocks over its row sum. -/
theorem acc_div [Nonempty κ] (s : ℕ → κ → ℝ) (V : ℕ → κ → EReal) (n : ℕ) (r : ℝ)
    (hr : top (fun i k => (s i k : EReal)) (n + 1) = r) :
    acc (fun i k => (s i k : EReal)) V (n + 1)
        * Ideal.div 1 (acc (fun i k => (s i k : EReal)) (fun _ _ => 1) (n + 1))
      = ∑ i ∈ Finset.range (n + 1), ∑ k, V i k
          * Ideal.div (Ideal.exp ((s i k : EReal) * ((Real.log 2 : ℝ) : EReal) - (r : EReal) * ((Real.log 2 : ℝ) : EReal)))
            (∑ i ∈ Finset.range (n + 1), ∑ k,
              Ideal.exp ((s i k : EReal) * ((Real.log 2 : ℝ) : EReal) - (r : EReal) * ((Real.log 2 : ℝ) : EReal))) := by
  have hexp : ∀ i k, Ideal.exp ((s i k : EReal) * ((Real.log 2 : ℝ) : EReal) - (r : EReal) * ((Real.log 2 : ℝ) : EReal))
      = (((2 : ℝ) ^ (s i k - r) : ℝ) : EReal) := by
    intro i k
    rw [← EReal.coe_mul, ← EReal.coe_mul, ← EReal.coe_sub, Ideal.exp_coe, Real.rpow_def_of_pos (by norm_num)]
    congr 2
    ring
  have hsum : (∑ i ∈ Finset.range (n + 1), ∑ k, (((2 : ℝ) ^ (s i k - r) : ℝ) : EReal))
      = ((∑ i ∈ Finset.range (n + 1), ∑ k, (2 : ℝ) ^ (s i k - r) : ℝ) : EReal) := by
    rw [coe_sum]
    exact Finset.sum_congr rfl fun i _ => (coe_sum _ _).symm
  have hpos : 0 < ∑ i ∈ Finset.range (n + 1), ∑ k, (2 : ℝ) ^ (s i k - r) :=
    Finset.sum_pos (fun i _ => Finset.sum_pos (fun k _ => Real.rpow_pos_of_pos (by norm_num) _) Finset.univ_nonempty)
      ⟨0, by simp⟩
  simp only [hexp, hsum, acc_eq s _ n r hr, one_mul]
  simp only [Ideal.div_coe hpos.ne', one_mul]
  rw [sum_mul_real _ _ (by positivity)]
  refine Finset.sum_congr rfl fun i _ => ?_
  rw [sum_mul_real _ _ (by positivity)]
  exact Finset.sum_congr rfl fun k _ => mul_assoc _ _ _

/-- The maximum of the scores times a positive number. -/
theorem top_mul (S : ℕ → κ → EReal) (n : ℕ) {r : ℝ} (hr : 0 < r) :
    top S n * (r : EReal) = (Finset.range n).sup fun i => Finset.univ.sup fun k => S i k * (r : EReal) := by
  have hm : Monotone fun x : EReal => x * (r : EReal) :=
    fun x y h => mul_le_mul_of_nonneg_right h (by exact_mod_cast hr.le)
  have hb : (⊥ : EReal) * (r : EReal) = ⊥ := EReal.bot_mul_coe_of_pos hr
  rw [top_eq, Finset.comp_sup_eq_sup_comp_of_is_total (fun x : EReal => x * (r : EReal)) hm hb]
  congr 1
  funext i
  exact Finset.comp_sup_eq_sup_comp_of_is_total (fun x : EReal => x * (r : EReal)) hm hb

end Online

end
-- ==== Proof.Att.Ref.lean ====
/- What the reference computes, entry by entry. -/
module

public import proofs.«01_k».proof.Proof.Gen.ReferenceIdeal.Read
public import Idealize.ShloMosaic.Lib.Pointwise

@[expose] public section

set_option maxRecDepth 16384

noncomputable section

namespace Cert.ReferenceIdeal.Att

open Idealize.ShloMosaic Idealize.ShloMosaic.TcCoe Idealize.ShloMosaic.Tactic Idealize.SL.Sem
open Cert.ReferenceIdeal Cert.ReferenceIdeal.Gen Cert.ReferenceIdeal.Read

variable (q : FVec Ideal S8x384x2304 .bf16) (k v : FVec Ideal S8x2304x128 .bf16)

theorem score_dot (b : Fin 8) (g : Fin 2) (j : Fin 2304) (n : Fin 2048) (u : Fin 3) :
    val_main_v8 (F := Ideal) q k (ix5 b g j n u)
      = ∑ d : Fin 64, k (ix3 b j ⟨g.val * 64 + d.val, by omega⟩)
          * q (ix3 b ⟨g.val * 192 + u.val * 64 + d.val, by omega⟩ ⟨256 + n.val, by omega⟩) := by
  pointwise [val_main_v8, val_main_v5, val_main_v4, val_main_v3, val_main_v2, val_main_v1, val_main_v0]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

theorem score_at (b : Fin 8) (g : Fin 2) (u : Fin 3) (n : Fin 2048) (j : Fin 2304) :
    val_main_v12 (F := Ideal) q k (ix5 b g u n j)
      = val_main_v8 (F := Ideal) q k (ix5 b g j n u) * ((Real.log 2 : ℝ) : EReal) := by
  pointwise [val_main_v12, val_main_v9, val_main_v11, val_main_v10, val_main_cst]
  rw [log_two]

theorem fold_max {ι : Type} (A : Finset ι) (f : ι → EReal) : Finset.fold max ⊥ f A = A.sup f := rfl

theorem negInf : Ideal.ofBits .f32 0xFF800000#32 = ⊥ := by simp [Ideal.ofBits, Ideal.ieee]

theorem fold_at (b : Fin 8) (g : Fin 2) (u : Fin 3) (n : Fin 2048) :
    val_main_v13 (F := Ideal) q k (ix4 b g u n)
      = Finset.fold max (Ideal.ofBits .f32 0xFF800000#32)
          (fun i : Fin 2304 => val_main_v12 (F := Ideal) q k (ix5 b g u n i)) Finset.univ := by
  pointwise [val_main_v13, val_main_cst_0]

theorem max_at (b : Fin 8) (g : Fin 2) (u : Fin 3) (n : Fin 2048) :
    val_main_v15 (F := Ideal) q k (ix4 b g u n)
      = Finset.univ.sup fun i : Fin 2304 => val_main_v12 (F := Ideal) q k (ix5 b g u n i) := by
  have h : ∀ y : EReal, max (Ideal.ofBits .f32 0xFF800000#32) y = y := fun y => by rw [negInf, max_bot_left]
  have e := fold_at q k b g u n
  rw [negInf, fold_max] at e
  rw [val_main_v15_apply]
  generalize val_main_v13 (F := Ideal) q k (ix4 b g u n) = y at e ⊢
  rw [← e]
  exact h y

theorem exp_at (b : Fin 8) (g : Fin 2) (u : Fin 3) (n : Fin 2048) (j : Fin 2304) :
    val_main_v19 (F := Ideal) q k (ix5 b g u n j)
      = Ideal.exp (val_main_v12 (F := Ideal) q k (ix5 b g u n j) - val_main_v15 (F := Ideal) q k (ix4 b g u n)) := by
  pointwise [val_main_v19, val_main_v18, val_main_v17, val_main_v16]

theorem sum_at (b : Fin 8) (g : Fin 2) (u : Fin 3) (n : Fin 2048) :
    val_main_v20 (F := Ideal) q k (ix4 b g u n) = ∑ i : Fin 2304, val_main_v19 (F := Ideal) q k (ix5 b g u n i) := by
  pointwise [val_main_v20, val_main_cst_2]

theorem prob_at (b : Fin 8) (g : Fin 2) (u : Fin 3) (n : Fin 2048) (j : Fin 2304) :
    val_main_v25 (F := Ideal) q k (ix5 b g u n j)
      = Ideal.div (val_main_v19 (F := Ideal) q k (ix5 b g u n j)) (val_main_v20 (F := Ideal) q k (ix4 b g u n)) := by
  pointwise [val_main_v25, val_main_v24, val_main_v23, val_main_v22, val_main_v21]

theorem out_at (b : Fin 8) (n : Fin 2048) (g : Fin 2) (u : Fin 3) (d : Fin 64) :
    val_main_v29 (F := Ideal) q k v (ix3 b n ⟨g.val * 192 + u.val * 64 + d.val, by omega⟩)
      = ∑ j : Fin 2304, v (ix3 b j ⟨g.val * 64 + d.val, by omega⟩) * val_main_v25 (F := Ideal) q k (ix5 b g u n j) := by
  pointwise [val_main_v29, val_main_v28, val_main_v27, val_main_v26, val_main_v7, val_main_v6]

end Cert.ReferenceIdeal.Att

end
-- ==== Proof.Att.Equation.lean ====
/- The attention's running sums over key blocks are the softmax over all keys, where queries and keys are finite. -/
module

public import proofs.«01_k».proof.Proof.Att.Array
public import proofs.«01_k».proof.Proof.Att.Softmax
public import proofs.«01_k».proof.Proof.Att.Ref

@[expose] public section

set_option maxRecDepth 16384

noncomputable section

namespace Cert.ReferenceIdeal.Att

open Idealize.ShloMosaic Idealize.ShloMosaic.TcCoe Idealize.ShloMosaic.Tactic Idealize.SL.Sem
open Cert.ReferenceIdeal Cert.ReferenceIdeal.Gen Cert.ReferenceIdeal.Read
open Cert.KernelIdeal.Att (keyAt)

theorem sum_keys (f : Fin 2304 → EReal) : ∑ j, f j = ∑ i ∈ Finset.range 9, ∑ k : Fin 256, f (keyAt i k) := by
  rw [Fin.sum_univ_tiles 9 256 rfl f, Finset.sum_range]
  refine Finset.sum_congr rfl fun i _ => Finset.sum_congr rfl fun k _ => congrArg f (Fin.ext ?_)
  show i.val * 256 + k.val = i.val % 9 * 256 + k.val
  omega

theorem sup_keys (f : Fin 2304 → EReal) :
    Finset.univ.sup f = (Finset.range 9).sup fun i => Finset.univ.sup fun k : Fin 256 => f (keyAt i k) := by
  apply le_antisymm
  · refine Finset.sup_le fun j _ => ?_
    have hj : j = keyAt (j.val / 256) ⟨j.val % 256, Nat.mod_lt _ (by decide)⟩ :=
      Fin.ext (by show j.val = j.val / 256 % 9 * 256 + j.val % 256; omega)
    have h1 : f j ≤ Finset.univ.sup fun k : Fin 256 => f (keyAt (j.val / 256) k) := by
      conv_lhs => rw [hj]
      exact Finset.le_sup (f := fun k : Fin 256 => f (keyAt (j.val / 256) k)) (Finset.mem_univ _)
    exact h1.trans (Finset.le_sup (f := fun i => Finset.univ.sup fun k : Fin 256 => f (keyAt i k))
      (Finset.mem_range.2 (by omega)))
  · exact Finset.sup_le fun i _ => Finset.sup_le fun k _ => Finset.le_sup (Finset.mem_univ _)

/-- A softmax over all keys of real scores `s` (in base two), against running sums over the blocks. -/
theorem softmax_blocks (s : Fin 2304 → ℝ) (v : Fin 2304 → EReal) :
    (∑ j, v j * Ideal.div
        (Ideal.exp ((s j : EReal) * ((Real.log 2 : ℝ) : EReal) - Finset.univ.sup fun i : Fin 2304 => (s i : EReal) * ((Real.log 2 : ℝ) : EReal)))
        (∑ l, Ideal.exp ((s l : EReal) * ((Real.log 2 : ℝ) : EReal) - Finset.univ.sup fun i : Fin 2304 => (s i : EReal) * ((Real.log 2 : ℝ) : EReal))))
      = Online.acc (fun i k => ((s (keyAt i k) : ℝ) : EReal)) (fun i k => v (keyAt i k)) 9
        * Ideal.div 1 (Online.acc (fun i k => ((s (keyAt i k) : ℝ) : EReal)) (fun _ _ => 1) 9) := by
  obtain ⟨r, hr⟩ := Online.top_real (fun i (k : Fin 256) => s (keyAt i k)) 8
  have hM : (Finset.univ.sup fun i : Fin 2304 => (s i : EReal) * ((Real.log 2 : ℝ) : EReal))
      = (r : EReal) * ((Real.log 2 : ℝ) : EReal) := by
    rw [sup_keys, ← hr]
    exact (Online.top_mul (fun i (k : Fin 256) => ((s (keyAt i k) : ℝ) : EReal)) 9 (Real.log_pos (by norm_num))).symm
  rw [hM]
  refine Eq.trans ?_ (Online.acc_div (fun i (k : Fin 256) => s (keyAt i k)) (fun i k => v (keyAt i k)) 8 r hr).symm
  rw [sum_keys fun l => Ideal.exp ((s l : EReal) * ((Real.log 2 : ℝ) : EReal) - (r : EReal) * ((Real.log 2 : ℝ) : EReal))]
  exact sum_keys _

variable (q : FVec Ideal S8x384x2304 .bf16) (k v : FVec Ideal S8x2304x128 .bf16)

/-- The scores are real where queries and keys are. -/
theorem score_real (hq : ∀ i, ∃ r : ℝ, (q i : EReal) = r) (hk : ∀ i, ∃ r : ℝ, (k i : EReal) = r)
    (b : Fin 8) (g : Fin 2) (n : Fin 2048) (u : Fin 3) :
    ∃ s : Fin 2304 → ℝ, ∀ j, (val_main_v8 (F := Ideal) q k (ix5 b g j n u) : EReal) = s j := by
  choose rq hrq using hq
  choose rk hrk using hk
  refine ⟨fun j => ∑ d : Fin 64, rk (ix3 b j ⟨g.val * 64 + d.val, by omega⟩)
    * rq (ix3 b ⟨g.val * 192 + u.val * 64 + d.val, by omega⟩ ⟨256 + n.val, by omega⟩), fun j => ?_⟩
  rw [score_dot, Online.coe_sum]
  exact Finset.sum_congr rfl fun d _ => by rw [hrk, hrq, EReal.coe_mul]

theorem attention_eq (hq : ∀ i, ∃ r : ℝ, (q i : EReal) = r) (hk : ∀ i, ∃ r : ℝ, (k i : EReal) = r)
    (b : Fin 8) (n : Fin 2048) (g : Fin 2) (u : Fin 3) (d : Fin 64) :
    (val_main_v29 (F := Ideal) q k v (ix3 b n ⟨g.val * 192 + u.val * 64 + d.val, by omega⟩) : EReal)
      = Online.acc (fun i κ => val_main_v8 (F := Ideal) q k (ix5 b g (keyAt i κ) n u))
          (fun i κ => v (ix3 b (keyAt i κ) ⟨g.val * 64 + d.val, by omega⟩)) 9
        * Ideal.div 1 (Online.acc (fun i κ => val_main_v8 (F := Ideal) q k (ix5 b g (keyAt i κ) n u)) (fun _ _ => 1) 9) := by
  obtain ⟨s, hs⟩ := score_real q k hq hk b g n u
  have h := softmax_blocks s (fun j => v (ix3 b j ⟨g.val * 64 + d.val, by omega⟩))
  simp only [← hs] at h
  rw [out_at]
  simp only [prob_at, sum_at, exp_at, max_at, score_at]
  exact h

end Cert.ReferenceIdeal.Att

end
-- ==== Proof.Att.Value.lean ====
/- The attention's result is the reference's, where the queries and keys are finite. -/
module

public import proofs.«01_k».proof.Defs
public import proofs.«01_k».proof.Proof.Att.Equation
public import proofs.«01_k».proof.Proof.Gen.ReferenceIdeal.Run
public import proofs.«01_k».proof.Proof.Gen.Pre_finite_scores
public import Idealize.ShloMosaic.Lib.Claim

@[expose] public section

set_option maxRecDepth 16384

noncomputable section

namespace Cert.Att

open Idealize.ShloMosaic Idealize.ShloMosaic.TcCoe Idealize.ShloMosaic.Tactic Idealize.SL.Sem

/-- An extended real whose absolute value is below infinity is real. -/
theorem real_of_lt (x : EReal) (h : max x (-x) < ⊤) : ∃ r : ℝ, x = r := by
  induction x with
  | bot => simp at h
  | coe r => exact ⟨r, rfl⟩
  | top => simp at h

theorem posInf : Ideal.ofBits .bf16 0x7F80#16 = ⊤ := by simp [Ideal.ofBits, Ideal.ieee]

theorem of_bit (x : EReal) (h : BitVec.ofBool (decide (x < ⊤)) = 1#1) : x < ⊤ := by
  by_contra hx
  rw [decide_eq_false hx] at h
  exact absurd h (by decide)

open Cert.Pre_finite_scores in
theorem finite_q (q : FVec Ideal S8x384x2304 .bf16) (k v : FVec Ideal S8x2304x128 .bf16)
    (h : (fn (F := Ideal) q k v).1 = fun _ => 1#1) (i : S8x384x2304.Idx) : ∃ r : ℝ, (q i : EReal) = r := by
  have h1 := congrFun h i
  apply real_of_lt
  revert h1
  pointwise [fn]
  rw [posInf]
  exact of_bit _

open Cert.Pre_finite_scores in
theorem finite_k (q : FVec Ideal S8x384x2304 .bf16) (k v : FVec Ideal S8x2304x128 .bf16)
    (h : (fn (F := Ideal) q k v).2 = fun _ => 1#1) (i : S8x2304x128.Idx) : ∃ r : ℝ, (k i : EReal) = r := by
  have h1 := congrFun h i
  apply real_of_lt
  revert h1
  pointwise [fn]
  rw [posInf]
  exact of_bit _

theorem value (m : (ℓ : Loc Cert.KernelIdeal.nD Cert.KernelIdeal.τ Cert.KernelIdeal.sig) → Buf (Elt Ideal) ℓ)
    (c : Dev Cert.KernelIdeal.nD)
    (q : FVec Ideal Cert.KernelIdeal.S8x384x2304 .bf16) (k v : FVec Ideal Cert.KernelIdeal.S8x2304x128 .bf16)
    (eq : m ((c.tc : Thread Cert.KernelIdeal.nD Cert.KernelIdeal.τ).loc Cert.KernelIdeal.main_arg0) = q)
    (ek : m ((c.tc : Thread Cert.KernelIdeal.nD Cert.KernelIdeal.τ).loc Cert.KernelIdeal.main_arg1) = k)
    (ev : m ((c.tc : Thread Cert.KernelIdeal.nD Cert.KernelIdeal.τ).loc Cert.KernelIdeal.main_arg2) = v)
    (hq : ∀ i, ∃ r : ℝ, (q i : EReal) = r) (hk : ∀ i, ∃ r : ℝ, (k i : EReal) = r) :
    Cert.KernelIdeal.Value.G4 m c = Cert.ReferenceIdeal.Read.val_main_v29 (F := Ideal) q k v := by
  have hQ : Cert.KernelIdeal.Att.Q m c = q := eq
  have hK : Cert.KernelIdeal.Att.K m c = k := ek
  have hW : Cert.KernelIdeal.Att.W m c = v := ev
  have main : ∀ (b : Fin 8) (n : Fin 2048) (g : Fin 2) (u : Fin 3) (d : Fin 64),
      Cert.KernelIdeal.Value.G4 m c (ix3 b n (⟨(g.val * 3 + u.val) * 64 + d.val, by omega⟩ : Fin 384))
        = Cert.ReferenceIdeal.Read.val_main_v29 (F := Ideal) q k v (ix3 b n (⟨g.val * 192 + u.val * 64 + d.val, by omega⟩ : Fin 384)) := by
    intro b n g u d
    have hg : (g.val * 3 + u.val) / 3 = g.val := by omega
    have hs : ∀ j, Cert.KernelIdeal.Att.scr m c b ⟨g.val * 3 + u.val, by omega⟩ n j
        = Cert.ReferenceIdeal.Read.val_main_v8 (F := Ideal) q k (ix5 b g j n u) := by
      intro j
      unfold Cert.KernelIdeal.Att.scr
      rw [Cert.ReferenceIdeal.Att.score_dot, hQ, hK]
      refine Finset.sum_congr rfl fun d _ => congrArg₂ (· * ·) ?_ ?_
      · exact congrArg k (congrArg (ix3 b j) (Fin.ext (by show (g.val * 3 + u.val) / 3 * 64 + d.val = _; rw [hg])))
      · exact congrArg q (congrArg (fun a => ix3 b a _) (Fin.ext (by show (g.val * 3 + u.val) * 64 + d.val = g.val * 192 + u.val * 64 + d.val; omega)))
    refine (Cert.KernelIdeal.Att.result_at m c b n ⟨g.val * 3 + u.val, by omega⟩ d).trans ?_
    rw [hW]
    simp only [hs, hg]
    exact (Cert.ReferenceIdeal.Att.attention_eq q k v hq hk b n g u d).symm
  funext y
  obtain ⟨b, n, l, rfl⟩ : ∃ (b : Fin 8) (n : Fin 2048) (l : Fin 384), y = ix3 b n l :=
    ⟨y 0, y 1, y 2, by funext a; fin_cases a <;> rfl⟩
  have h := main b n ⟨l.val / 192, by omega⟩ ⟨l.val / 64 % 3, by omega⟩ ⟨l.val % 64, by omega⟩
  have e1 : (⟨(l.val / 192 * 3 + l.val / 64 % 3) * 64 + l.val % 64, by omega⟩ : Fin 384) = l :=
    Fin.ext (by show (l.val / 192 * 3 + l.val / 64 % 3) * 64 + l.val % 64 = l.val; omega)
  have e2 : (⟨l.val / 192 * 192 + l.val / 64 % 3 * 64 + l.val % 64, by omega⟩ : Fin 384) = l :=
    Fin.ext (by show l.val / 192 * 192 + l.val / 64 % 3 * 64 + l.val % 64 = l.val; omega)
  simp only [e1, e2] at h
  exact h

end Cert.Att

end
-- ==== Proof.Post.Model.lean ====
/- One row of the projection and the MLP, as functions of extended reals. -/
module

public import Idealize.ShloMosaic.Lib.Pointwise

@[expose] public section

set_option maxRecDepth 16384

noncomputable section

namespace Cert.Post

open Idealize.ShloMosaic

/-- A row over the root of its mean square (with the given epsilon), times a gain. -/
def rms (v g : Fin 1024 → EReal) (j : Fin 1024) : EReal :=
  v j * Ideal.rsqrt (Ideal.div (∑ k : Fin 1024, v k * v k) (Ideal.ofBits .f32 0x44800000#32)
    + Ideal.ofBits .f32 0x358637BD#32) * g j

/-- The three mixers' rows, side by side. -/
def mixed (a : Fin 384 → EReal) (r : Fin 256 → EReal) (s : Fin 384 → EReal) (k : Fin 1024) : EReal :=
  if h : k.val < 384 then a ⟨k.val, h⟩
  else if h : k.val - 384 < 256 then r ⟨k.val - 384, h⟩ else s ⟨k.val - 384 - 256, by omega⟩

/-- A row times the output weights. -/
def proj (v : Fin 1024 → EReal) (w : Fin 1024 → Fin 1024 → EReal) (j : Fin 1024) : EReal :=
  ∑ k : Fin 1024, v k * w k j

/-- A residual row plus the gated, normalised row `o`. -/
def gated (x gate o gain : Fin 1024 → EReal) (j : Fin 1024) : EReal := x j + gate j * rms o gain j

/-- The MLP's input: the normalised row, scaled and shifted. -/
def modulated (x gain scale shift : Fin 1024 → EReal) (j : Fin 1024) : EReal :=
  rms x gain j * (1 + scale j) + shift j

/-- The squared ReLU of `h` against one column of weights. -/
def act (h w : Fin 1024 → EReal) : EReal := max (∑ l : Fin 1024, h l * w l) 0 * max (∑ l : Fin 1024, h l * w l) 0

/-- The MLP with a hidden axis of `n` columns. -/
def mlp {n : ℕ} (h : Fin 1024 → EReal) (w1 : Fin 1024 → Fin n → EReal) (w2 : Fin n → Fin 1024 → EReal)
    (j : Fin 1024) : EReal := ∑ k : Fin n, act h (fun l => w1 l k) * w2 k j

/-- The whole row: projection, first residual, MLP, second residual. -/
def layer (mix x gate1 gain1 gain2 scale shift gate2 gain3 : Fin 1024 → EReal) (w : Fin 1024 → Fin 1024 → EReal)
    (w1 : Fin 1024 → Fin 4096 → EReal) (w2 : Fin 4096 → Fin 1024 → EReal) : Fin 1024 → EReal :=
  gated (gated x gate1 (proj mix w) gain1) gate2
    (mlp (modulated (gated x gate1 (proj mix w) gain1) gain2 scale shift) w1 w2) gain3

/-- Column `k` of part `q` of the hidden axis. -/
abbrev part (q : Fin 4) (k : Fin 1024) : Fin 4096 := ⟨q.val * 1024 + k.val, by omega⟩

/-- The hidden axis taken in four parts. -/
theorem mlp_parts (h : Fin 1024 → EReal) (w1 : Fin 1024 → Fin 4096 → EReal) (w2 : Fin 4096 → Fin 1024 → EReal)
    (j : Fin 1024) :
    mlp h w1 w2 j = ∑ q : Fin 4, mlp h (fun l k => w1 l (part q k)) (fun k => w2 (part q k)) j :=
  Fin.sum_univ_tiles 4 1024 rfl fun k => act h (fun l => w1 l k) * w2 k j

end Cert.Post

end
-- ==== Proof.Post.Pay.lean ====
/- The values one grid point computes, read at a row and a column. -/
module

public import proofs.«01_k».proof.Proof.Post.Model
public import proofs.«01_k».proof.Proof.Gen.Kernel2Ideal.Skeleton
public import Idealize.ShloMosaic.Lib.Pointwise

@[expose] public section

set_option maxRecDepth 16384

noncomputable section

namespace Cert.Kernel2Ideal.Post

open Idealize.ShloMosaic Idealize.ShloMosaic.TcCoe Idealize.ShloMosaic.Tactic Idealize.SL.Sem
open Cert.Kernel2Ideal Cert.Kernel2Ideal.Gen

open Cert.Post

section

variable (i : Fin 256) (j : Fin 1024)
  (a s : FVec Ideal S1x256x384 .bf16) (r : FVec Ideal S1x256x256 .bf16) (w : FVec Ideal S1x1024x1024 .f32)
  (o x acc : FVec Ideal S256x1024 .f32) (xb : FVec Ideal S1x256x1024 .f32)
  (gate gain gain' : FVec Ideal S1x1024 .f32) (row scale shift : FVec Ideal S1x1x1024 .f32)
  (h z : FVec Ideal S256x1024 .bf16) (w1 w2 w3 : FVec Ideal S1x1024x1024 .f32)

/-- The mixers' rows times the output weights, first and second tile. -/
theorem pay2_at : k0_pay2 (F := Ideal) a r s w (ix2 i j)
    = proj (mixed (fun k => a (ix3 0 i k)) (fun k => r (ix3 0 i k)) (fun k => s (ix3 0 i k))) (fun k j => w (ix3 0 k j)) j := by
  unfold proj mixed
  pointwise [k0_pay2]

theorem pay3_eq : k0_pay3 (F := Ideal) a r s w = k0_pay2 (F := Ideal) a r s w := rfl

theorem pay4_at : k0_pay4 (F := Ideal) xb (ix2 i j) = xb (ix3 0 i j) := by
  pointwise [k0_pay4]

theorem pay5_at : k0_pay5 (F := Ideal) row (ix2 0 j) = row (ix3 0 0 j) := by
  pointwise [k0_pay5]

theorem pay16_at : k0_pay16 (F := Ideal) row (ix2 0 j) = row (ix3 0 0 j) := by
  pointwise [k0_pay16]

/-- The first residual. -/
theorem pay6_at : k0_pay6 (F := Ideal) o x gate gain (ix2 i j)
    = gated (fun k => x (ix2 i k)) (fun k => gate (ix2 0 k)) (fun k => o (ix2 i k)) (fun k => gain (ix2 0 k)) j := by
  unfold gated rms
  pointwise [k0_pay6]

theorem pay9_at : k0_pay9 (F := Ideal) o xb row gain (ix2 i j)
    = gated (fun k => xb (ix3 0 i k)) (fun k => row (ix3 0 0 k)) (fun k => o (ix2 i k)) (fun k => gain (ix2 0 k)) j := by
  unfold gated rms
  pointwise [k0_pay9]

/-- The MLP's input. -/
theorem pay7_at : k0_pay7 (F := Ideal) o x gate gain gain' scale shift (ix2 i j)
    = modulated (fun k => k0_pay6 (F := Ideal) o x gate gain (ix2 i k)) (fun k => gain' (ix2 0 k))
        (fun k => scale (ix3 0 0 k)) (fun k => shift (ix3 0 0 k)) j := by
  unfold modulated rms
  pointwise [k0_pay7]

theorem pay11_at : k0_pay11 (F := Ideal) (k0_pay9 (F := Ideal) o xb row gain) gain' (k0_pay10 (F := Ideal) o xb row gain)
      (Scalar.ofBits .f32 0x358637BD#32) scale shift (ix2 i j)
    = modulated (fun k => k0_pay9 (F := Ideal) o xb row gain (ix2 i k)) (fun k => gain' (ix2 0 k))
        (fun k => scale (ix3 0 0 k)) (fun k => shift (ix3 0 0 k)) j := by
  unfold modulated rms
  pointwise [k0_pay11, k0_pay10]

/-- One part of the hidden axis. -/
theorem pay8_at : k0_pay8 (F := Ideal) h w1 w2 (ix2 i j)
    = mlp (fun k => h (ix2 i k)) (fun l k : Fin 1024 => w1 (ix3 0 l k)) (fun k j => w2 (ix3 0 k j)) j := by
  unfold mlp act
  pointwise [k0_pay8]

theorem pay15_eq : k0_pay15 (F := Ideal) h w1 w2 = k0_pay8 (F := Ideal) h w1 w2 := rfl

theorem pay12_at : k0_pay12 (F := Ideal) h acc w1 w2 (ix2 i j) = acc (ix2 i j)
    + mlp (fun k => h (ix2 i k)) (fun l k : Fin 1024 => w1 (ix3 0 l k)) (fun k j => w2 (ix3 0 k j)) j := by
  unfold mlp act
  pointwise [k0_pay12]

theorem pay18_eq : k0_pay18 (F := Ideal) h acc w1 w2 = k0_pay12 (F := Ideal) h acc w1 w2 := rfl

theorem pay14_at (w4 : FVec Ideal S1x1024x1024 .f32) :
    k0_pay14 (F := Ideal) h acc (k0_pay13 (F := Ideal) h w1) w2 w3 w4 (ix2 i j) = acc (ix2 i j)
      + mlp (fun k => h (ix2 i k)) (fun l k : Fin 1024 => w1 (ix3 0 l k)) (fun k j => w2 (ix3 0 k j)) j
      + mlp (fun k => h (ix2 i k)) (fun l k : Fin 1024 => w3 (ix3 0 l k)) (fun k j => w4 (ix3 0 k j)) j := by
  unfold mlp act
  pointwise [k0_pay14, k0_pay13]

/-- The second residual. -/
theorem pay17_at : k0_pay17 (F := Ideal) x o gate gain (ix3 0 i j)
    = gated (fun k => x (ix2 i k)) (fun k => gate (ix2 0 k)) (fun k => o (ix2 i k)) (fun k => gain (ix2 0 k)) j := by
  unfold gated rms
  pointwise [k0_pay17]

/-- The second tile's last value is the first tile's, of its own operands. -/
theorem pay20_eq (w4 : FVec Ideal S1x1024x1024 .f32) :
    k0_pay1 (F := Ideal) (k0_pay20 (F := Ideal) x h acc (k0_pay19 (F := Ideal) h w1) w2 w3 w4 row gain)
      = k0_pay17 (F := Ideal) x (k0_pay14 (F := Ideal) h acc (k0_pay13 (F := Ideal) h w1) w2 w3 w4)
          (k0_pay16 (F := Ideal) row) gain := rfl

end

end Cert.Kernel2Ideal.Post

end
-- ==== Proof.Post.Tile.lean ====
/- One tile of 256 rows at a grid point is the row function, whatever it loads. -/
module

public import proofs.«01_k».proof.Proof.Post.Pay

@[expose] public section

set_option maxRecDepth 16384

noncomputable section

namespace Cert.Kernel2Ideal.Post

open Idealize.ShloMosaic Idealize.ShloMosaic.TcCoe Idealize.ShloMosaic.Tactic Idealize.SL.Sem
open Cert.Kernel2Ideal Cert.Kernel2Ideal.Gen

open Cert.Post

variable (a s : FVec Ideal S1x256x384 .bf16) (r : FVec Ideal S1x256x256 .bf16) (w : FVec Ideal S1x1024x1024 .f32)
  (xb : FVec Ideal S1x256x1024 .f32) (row1 scale shift row2 : FVec Ideal S1x1x1024 .f32)
  (gain1 gain2 gain3 : FVec Ideal S1x1024 .f32) (u0 v0 u1 v1 u2 v2 u3 v3 : FVec Ideal S1x1024x1024 .f32)

/-- The first residual of a tile. -/
def mid : FVec Ideal S256x1024 .f32 := k0_pay6 (F := Ideal) (k0_pay2 a r s w) (k0_pay4 xb) (k0_pay5 row1) gain1

/-- The MLP's input of a tile. -/
def inner : FVec Ideal S256x1024 .bf16 :=
  k0_pay7 (F := Ideal) (k0_pay2 a r s w) (k0_pay4 xb) (k0_pay5 row1) gain1 gain2 scale shift

/-- The MLP of a tile's input. -/
def hidden (h : FVec Ideal S256x1024 .bf16) : FVec Ideal S256x1024 .f32 :=
  k0_pay14 (F := Ideal) h (k0_pay12 h (k0_pay8 h u0 v0) u1 v1) (k0_pay13 h u2) v2 u3 v3

/-- The tile the first store writes. -/
def tile : FVec Ideal S1x256x1024 .f32 :=
  k0_pay17 (F := Ideal) (mid a s r w xb row1 gain1)
    (hidden u0 v0 u1 v1 u2 v2 u3 v3 (inner a s r w xb row1 scale shift gain1 gain2)) (k0_pay16 row2) gain3

variable (i : Fin 256) (A S : Fin 384 → EReal) (R : Fin 256 → EReal) (W : Fin 1024 → Fin 1024 → EReal)
  (X G1 N1 N2 Sc Sh G2 N3 : Fin 1024 → EReal) (W1 : Fin 1024 → Fin 4096 → EReal) (W2 : Fin 4096 → Fin 1024 → EReal)

theorem mid_at (ha : ∀ k, a (ix3 0 i k) = A k) (hr : ∀ k, r (ix3 0 i k) = R k) (hs : ∀ k, s (ix3 0 i k) = S k)
    (hw : ∀ k j, w (ix3 0 k j) = W k j) (hx : ∀ j, xb (ix3 0 i j) = X j) (hg : ∀ j, row1 (ix3 0 0 j) = G1 j)
    (hn : ∀ j, gain1 (ix2 0 j) = N1 j) (j : Fin 1024) :
    mid a s r w xb row1 gain1 (ix2 i j) = gated X G1 (proj (mixed A R S) W) N1 j := by
  unfold mid
  rw [pay6_at]
  simp only [pay2_at, pay4_at, pay5_at, ha, hr, hs, hw, hx, hg, hn]

theorem inner_at (hm : ∀ j, mid a s r w xb row1 gain1 (ix2 i j) = X j) (hn : ∀ j, gain2 (ix2 0 j) = N2 j)
    (hc : ∀ j, scale (ix3 0 0 j) = Sc j) (hh : ∀ j, shift (ix3 0 0 j) = Sh j) (j : Fin 1024) :
    inner a s r w xb row1 scale shift gain1 gain2 (ix2 i j) = modulated X N2 Sc Sh j := by
  unfold inner
  rw [pay7_at]
  unfold mid at hm
  simp only [hm, hn, hc, hh]

theorem hidden_at (h : FVec Ideal S256x1024 .bf16) (hh : ∀ j, h (ix2 i j) = X j)
    (hu0 : ∀ l k, u0 (ix3 0 l k) = W1 l (part 0 k)) (hu1 : ∀ l k, u1 (ix3 0 l k) = W1 l (part 1 k))
    (hu2 : ∀ l k, u2 (ix3 0 l k) = W1 l (part 2 k)) (hu3 : ∀ l k, u3 (ix3 0 l k) = W1 l (part 3 k))
    (hv0 : ∀ k j, v0 (ix3 0 k j) = W2 (part 0 k) j) (hv1 : ∀ k j, v1 (ix3 0 k j) = W2 (part 1 k) j)
    (hv2 : ∀ k j, v2 (ix3 0 k j) = W2 (part 2 k) j) (hv3 : ∀ k j, v3 (ix3 0 k j) = W2 (part 3 k) j) (j : Fin 1024) :
    hidden u0 v0 u1 v1 u2 v2 u3 v3 h (ix2 i j) = mlp X W1 W2 j := by
  unfold hidden
  rw [pay14_at, pay12_at, pay8_at, mlp_parts, Fin.sum_univ_four]
  simp only [hh, hu0, hu1, hu2, hu3, hv0, hv1, hv2, hv3]

/-- A row of the tile is the row function of what it loads. -/
theorem tile_at (ha : ∀ k, a (ix3 0 i k) = A k) (hr : ∀ k, r (ix3 0 i k) = R k) (hs : ∀ k, s (ix3 0 i k) = S k)
    (hw : ∀ k j, w (ix3 0 k j) = W k j) (hx : ∀ j, xb (ix3 0 i j) = X j) (hg1 : ∀ j, row1 (ix3 0 0 j) = G1 j)
    (hn1 : ∀ j, gain1 (ix2 0 j) = N1 j) (hn2 : ∀ j, gain2 (ix2 0 j) = N2 j)
    (hc : ∀ j, scale (ix3 0 0 j) = Sc j) (hh : ∀ j, shift (ix3 0 0 j) = Sh j)
    (hg2 : ∀ j, row2 (ix3 0 0 j) = G2 j) (hn3 : ∀ j, gain3 (ix2 0 j) = N3 j)
    (hu0 : ∀ l k, u0 (ix3 0 l k) = W1 l (part 0 k)) (hu1 : ∀ l k, u1 (ix3 0 l k) = W1 l (part 1 k))
    (hu2 : ∀ l k, u2 (ix3 0 l k) = W1 l (part 2 k)) (hu3 : ∀ l k, u3 (ix3 0 l k) = W1 l (part 3 k))
    (hv0 : ∀ k j, v0 (ix3 0 k j) = W2 (part 0 k) j) (hv1 : ∀ k j, v1 (ix3 0 k j) = W2 (part 1 k) j)
    (hv2 : ∀ k j, v2 (ix3 0 k j) = W2 (part 2 k) j) (hv3 : ∀ k j, v3 (ix3 0 k j) = W2 (part 3 k) j) (j : Fin 1024) :
    tile a s r w xb row1 scale shift row2 gain1 gain2 gain3 u0 v0 u1 v1 u2 v2 u3 v3 (ix3 0 i j)
      = layer (mixed A R S) X G1 N1 N2 Sc Sh G2 N3 W W1 W2 j := by
  have hm := mid_at a s r w xb row1 gain1 i A S R W X G1 N1 ha hr hs hw hx hg1 hn1
  have hi := inner_at a s r w xb row1 scale shift gain1 gain2 i _ N2 Sc Sh hm hn2 hc hh
  have hd := hidden_at u0 v0 u1 v1 u2 v2 u3 v3 i _ W1 W2 _ hi hu0 hu1 hu2 hu3 hv0 hv1 hv2 hv3
  unfold tile layer
  rw [pay17_at]
  simp only [hm, hd, pay16_at, hg2, hn3]

/-- The tile the second store writes, over its own loads. -/
theorem second_tile :
    k0_pay1 (F := Ideal) (k0_pay20
        (k0_pay9 (k0_pay3 a r s w) xb row1 gain1)
        (k0_pay11 (k0_pay9 (k0_pay3 a r s w) xb row1 gain1) gain2 (k0_pay10 (k0_pay3 a r s w) xb row1 gain1)
          (FloatOps.ofBits .f32 0x358637BD#32) scale shift)
        (k0_pay18 (k0_pay11 (k0_pay9 (k0_pay3 a r s w) xb row1 gain1) gain2 (k0_pay10 (k0_pay3 a r s w) xb row1 gain1)
            (FloatOps.ofBits .f32 0x358637BD#32) scale shift)
          (k0_pay15 (k0_pay11 (k0_pay9 (k0_pay3 a r s w) xb row1 gain1) gain2 (k0_pay10 (k0_pay3 a r s w) xb row1 gain1)
            (FloatOps.ofBits .f32 0x358637BD#32) scale shift) u0 v0) u1 v1)
        (k0_pay19 (k0_pay11 (k0_pay9 (k0_pay3 a r s w) xb row1 gain1) gain2 (k0_pay10 (k0_pay3 a r s w) xb row1 gain1)
            (FloatOps.ofBits .f32 0x358637BD#32) scale shift) u2) v2 u3 v3 row2 gain3)
      = tile a s r w xb row1 scale shift row2 gain1 gain2 gain3 u0 v0 u1 v1 u2 v2 u3 v3 := by
  have h9 : k0_pay9 (F := Ideal) (k0_pay3 a r s w) xb row1 gain1 = mid a s r w xb row1 gain1 := rfl
  have h11 : k0_pay11 (F := Ideal) (k0_pay9 (k0_pay3 a r s w) xb row1 gain1) gain2
      (k0_pay10 (k0_pay3 a r s w) xb row1 gain1) (FloatOps.ofBits .f32 0x358637BD#32) scale shift
      = inner a s r w xb row1 scale shift gain1 gain2 := rfl
  rw [h11, h9, pay15_eq, pay18_eq, pay20_eq]
  rfl

end Cert.Kernel2Ideal.Post

end
-- ==== Proof.Post.Point.lean ====
/- What a grid point of the projection and the MLP loads, read off the arguments. -/
module

public import proofs.«01_k».proof.Proof.Post.Tile
public import proofs.«01_k».proof.Proof.Gen.Kernel2Ideal.Frame
public import Idealize.ShloMosaic.Lib.Pipeline.ValueKit

@[expose] public section

set_option maxRecDepth 16384

noncomputable section

namespace Cert.Kernel2Ideal.Post

open Idealize.ShloMosaic Idealize.ShloMosaic.TcCoe Idealize.ShloMosaic.Tactic Idealize.SL.Sem
open Cert.Kernel2Ideal Cert.Kernel2Ideal.Gen

open Cert.Post

theorem idx : ∀ t : Fin cfg0.N,
    win0_0.index t = ![t.val / 4, 2 * (t.val % 4), 0] ∧ win0_1.index t = ![t.val / 4, 1 + 2 * (t.val % 4), 0]
      ∧ win0_2.index t = ![t.val / 4, 1 + 2 * (t.val % 4), 0] ∧ win0_3.index t = ![t.val / 4, 2 + 2 * (t.val % 4), 0]
      ∧ win0_4.index t = ![t.val / 4, 1 + 2 * (t.val % 4), 0] ∧ win0_5.index t = ![t.val / 4, 2 + 2 * (t.val % 4), 0]
      ∧ win0_6.index t = ![t.val / 4, 2 * (t.val % 4), 0] ∧ win0_7.index t = ![t.val / 4, 1 + 2 * (t.val % 4), 0]
      ∧ win0_8.index t = ![0, 0, 0] ∧ win0_9.index t = ![0, 0] ∧ win0_10.index t = ![0, 0, 0]
      ∧ win0_11.index t = ![0, 0, 0] ∧ win0_12.index t = ![0, 0, 0] ∧ win0_13.index t = ![t.val / 4, t.val % 4, 0] :=
  (by decide +kernel : ∀ t : Fin grid0.N, _)

theorem off1 : ∀ t : Fin cfg0.N, k0_off1 (grid0.coords t) = ![0, t.val / 4, 2048] :=
  (by decide +kernel : ∀ t : Fin grid0.N, _)

theorem off2 : ∀ t : Fin cfg0.N, k0_off2 (grid0.coords t) = ![0, t.val / 4, 4096] :=
  (by decide +kernel : ∀ t : Fin grid0.N, _)

theorem off3 : ∀ t : Fin cfg0.N, k0_off3 (grid0.coords t) = ![0, t.val / 4, 3072] :=
  (by decide +kernel : ∀ t : Fin grid0.N, _)

theorem off4 : ∀ t : Fin cfg0.N, k0_off4 (grid0.coords t) = ![0, t.val / 4, 5120] :=
  (by decide +kernel : ∀ t : Fin grid0.N, _)

variable (m : (ℓ : Loc nD τ sig) → Buf (Elt Ideal) ℓ) (c : Dev nD)

/-- The arguments' arrays. -/
def aAtt : FVec Ideal S8x2048x384 .bf16 := V m c (Pipeline.arrRef spec0 0)
def aRet : FVec Ideal S8x2304x256 .bf16 := V m c (Pipeline.arrRef spec0 2)
def aSsd : FVec Ideal S8x2304x384 .bf16 := V m c (Pipeline.arrRef spec0 4)
def aX : FVec Ideal S8x2048x1024 .f32 := V m c (Pipeline.arrRef spec0 6)
def aMods : FVec Ideal S2x16x6144 .f32 := V m c (Pipeline.arrRef spec0 8)
def aGain : FVec Ideal S4x1024 .f32 := V m c (Pipeline.arrRef spec0 9)
def aOut : FVec Ideal S2x1024x1024 .f32 := V m c (Pipeline.arrRef spec0 10)
def aFf1 : FVec Ideal S2x1024x4096 .f32 := V m c (Pipeline.arrRef spec0 11)
def aFf2 : FVec Ideal S2x4096x1024 .f32 := V m c (Pipeline.arrRef spec0 12)

theorem lt32 (t : Fin cfg0.N) : t.val < 32 := Nat.lt_of_lt_of_eq t.isLt N_0

/-- The batch of a point. -/
abbrev batch (t : Fin cfg0.N) : Fin 8 := ⟨t.val / 4, by have := lt32 t; omega⟩

/-- Entry `o + j` of the modulation of batch `b`. -/
abbrev modAt (b : Fin 8) (o : ℕ) (ho : o ≤ 5120) (j : Fin 1024) : EReal :=
  aMods m c (ix3 0 ⟨b.val, by omega⟩ ⟨o + j.val, by omega⟩)

/-- The result, entry by entry. -/
def rowOf (b : Fin 8) (n : Fin 2048) (j : Fin 1024) : EReal :=
  layer (mixed (fun k => aAtt m c (ix3 b n k)) (fun k => aRet m c (ix3 b ⟨256 + n.val, by omega⟩ k))
      (fun k => aSsd m c (ix3 b ⟨256 + n.val, by omega⟩ k)))
    (fun j => aX m c (ix3 b n j)) (modAt m c b 2048 (by decide)) (fun j => aGain m c (ix2 1 j)) (fun j => aGain m c (ix2 2 j))
    (modAt m c b 4096 (by decide)) (modAt m c b 3072 (by decide)) (modAt m c b 5120 (by decide)) (fun j => aGain m c (ix2 3 j))
    (fun k j => aOut m c (ix3 0 k j)) (fun l k => aFf1 m c (ix3 0 l k)) (fun k j => aFf2 m c (ix3 0 k j)) j

variable (t : Fin cfg0.N) (i : Fin 256)

/-! ## The blocks -/

theorem att0_at (k : Fin 384) : iblk m c 0 t (ix3 0 i k) = aAtt m c (ix3 (batch t) ⟨t.val % 4 * 512 + i.val, by omega⟩ k) := by
  blk_point [iblk, V, idx t, aAtt]

theorem att1_at (k : Fin 384) : iblk m c 1 t (ix3 0 i k) = aAtt m c (ix3 (batch t) ⟨t.val % 4 * 512 + 256 + i.val, by omega⟩ k) := by
  blk_point [iblk, V, idx t, aAtt]

theorem ret0_at (k : Fin 256) : iblk m c 2 t (ix3 0 i k) = aRet m c (ix3 (batch t) ⟨256 + (t.val % 4 * 512 + i.val), by omega⟩ k) := by
  blk_point [iblk, V, idx t, aRet]

theorem ret1_at (k : Fin 256) : iblk m c 3 t (ix3 0 i k) = aRet m c (ix3 (batch t) ⟨256 + (t.val % 4 * 512 + 256 + i.val), by omega⟩ k) := by
  blk_point [iblk, V, idx t, aRet]

theorem ssd0_at (k : Fin 384) : iblk m c 4 t (ix3 0 i k) = aSsd m c (ix3 (batch t) ⟨256 + (t.val % 4 * 512 + i.val), by omega⟩ k) := by
  blk_point [iblk, V, idx t, aSsd]

theorem ssd1_at (k : Fin 384) : iblk m c 5 t (ix3 0 i k) = aSsd m c (ix3 (batch t) ⟨256 + (t.val % 4 * 512 + 256 + i.val), by omega⟩ k) := by
  blk_point [iblk, V, idx t, aSsd]

theorem x0_at (k : Fin 1024) : iblk m c 6 t (ix3 0 i k) = aX m c (ix3 (batch t) ⟨t.val % 4 * 512 + i.val, by omega⟩ k) := by
  blk_point [iblk, V, idx t, aX]

theorem x1_at (k : Fin 1024) : iblk m c 7 t (ix3 0 i k) = aX m c (ix3 (batch t) ⟨t.val % 4 * 512 + 256 + i.val, by omega⟩ k) := by
  blk_point [iblk, V, idx t, aX]

theorem out_at (k j : Fin 1024) : iblk m c 10 t (ix3 0 k j) = aOut m c (ix3 0 k j) := by
  blk_point [iblk, V, idx t, aOut]

/-! ## The loads of a part of a block -/

theorem row1_at (j : Fin 1024) : View.ld (iblk m c 8 t) (Rect.unit (k0_off1 (grid0.coords t)) S1x1x1024.size (k0_off1_inb _)) (ix3 0 0 j)
    = modAt m c (batch t) 2048 (by decide) j := by
  pointwise
  blk_point [iblk, V, idx t, off1 t, aMods]

theorem scale_at (j : Fin 1024) : View.ld (iblk m c 8 t) (Rect.unit (k0_off2 (grid0.coords t)) S1x1x1024.size (k0_off2_inb _)) (ix3 0 0 j)
    = modAt m c (batch t) 4096 (by decide) j := by
  pointwise
  blk_point [iblk, V, idx t, off2 t, aMods]

theorem shift_at (j : Fin 1024) : View.ld (iblk m c 8 t) (Rect.unit (k0_off3 (grid0.coords t)) S1x1x1024.size (k0_off3_inb _)) (ix3 0 0 j)
    = modAt m c (batch t) 3072 (by decide) j := by
  pointwise
  blk_point [iblk, V, idx t, off3 t, aMods]

theorem row2_at (j : Fin 1024) : View.ld (iblk m c 8 t) (Rect.unit (k0_off4 (grid0.coords t)) S1x1x1024.size (k0_off4_inb _)) (ix3 0 0 j)
    = modAt m c (batch t) 5120 (by decide) j := by
  pointwise
  blk_point [iblk, V, idx t, off4 t, aMods]

theorem gain_at (g : Fin 4) (hg : ∀ a, (![g.val, 0] : Fin 2 → ℕ) a + S1x1024.size a ≤ S4x1024.size a) (j : Fin 1024) :
    View.ld (iblk m c 9 t) (Rect.unit ![g.val, 0] S1x1024.size hg) (ix2 0 j) = aGain m c (ix2 g j) := by
  pointwise
  blk_point [iblk, V, idx t, aGain]

theorem ff1_at (q : Fin 4) (o : ℕ) (ho : o = q.val * 1024)
    (hq : ∀ a, (![0, 0, o] : Fin 3 → ℕ) a + S1x1024x1024.size a ≤ S1x1024x4096.size a) (l k : Fin 1024) :
    View.ld (iblk m c 11 t) (Rect.unit ![0, 0, o] S1x1024x1024.size hq) (ix3 0 l k) = aFf1 m c (ix3 0 l (part q k)) := by
  subst ho
  pointwise
  blk_point [iblk, V, idx t, aFf1]

theorem ff2_at (q : Fin 4) (o : ℕ) (ho : o = q.val * 1024)
    (hq : ∀ a, (![0, o, 0] : Fin 3 → ℕ) a + S1x1024x1024.size a ≤ S1x4096x1024.size a) (k j : Fin 1024) :
    View.ld (iblk m c 12 t) (Rect.unit ![0, o, 0] S1x1024x1024.size hq) (ix3 0 k j) = aFf2 m c (ix3 0 (part q k) j) := by
  subst ho
  pointwise
  blk_point [iblk, V, idx t, aFf2]

end Cert.Kernel2Ideal.Post

end
-- ==== Proof.Post.Array.lean ====
/- What the projection and the MLP leave in the result, entry by entry. -/
module

public import proofs.«01_k».proof.Proof.Post.Point

@[expose] public section

set_option maxRecDepth 16384

noncomputable section

namespace Cert.Kernel2Ideal.Post

open Idealize.ShloMosaic Idealize.ShloMosaic.TcCoe Idealize.ShloMosaic.Tactic Idealize.SL.Sem
open Cert.Kernel2Ideal Cert.Kernel2Ideal.Gen

open Cert.Post

variable (m : (ℓ : Loc nD τ sig) → Buf (Elt Ideal) ℓ) (c : Dev nD) (t : Fin cfg0.N)

/-- A tile over a point's loads, from its rows of the mixers and of the residual. -/
def tileOf (a s : FVec Ideal S1x256x384 .bf16) (r : FVec Ideal S1x256x256 .bf16) (x : FVec Ideal S1x256x1024 .f32) :
    FVec Ideal S1x256x1024 .f32 :=
  tile a s r (iblk m c 10 t) x
    (View.ld (iblk m c 8 t) (Rect.unit (k0_off1 (grid0.coords t)) S1x1x1024.size (k0_off1_inb _)))
    (View.ld (iblk m c 8 t) (Rect.unit (k0_off2 (grid0.coords t)) S1x1x1024.size (k0_off2_inb _)))
    (View.ld (iblk m c 8 t) (Rect.unit (k0_off3 (grid0.coords t)) S1x1x1024.size (k0_off3_inb _)))
    (View.ld (iblk m c 8 t) (Rect.unit (k0_off4 (grid0.coords t)) S1x1x1024.size (k0_off4_inb _)))
    (View.ld (iblk m c 9 t) (Rect.unit ![1, 0] S1x1024.size inb_S4x1024_S1x1024_1_0))
    (View.ld (iblk m c 9 t) (Rect.unit ![2, 0] S1x1024.size inb_S4x1024_S1x1024_2_0))
    (View.ld (iblk m c 9 t) (Rect.unit ![3, 0] S1x1024.size inb_S4x1024_S1x1024_3_0))
    (View.ld (iblk m c 11 t) (Rect.unit ![0, 0, 0] S1x1024x1024.size inb_S1x1024x4096_S1x1024x1024_0_0_0))
    (View.ld (iblk m c 12 t) (Rect.unit ![0, 0, 0] S1x1024x1024.size inb_S1x4096x1024_S1x1024x1024_0_0_0))
    (View.ld (iblk m c 11 t) (Rect.unit ![0, 0, 1024] S1x1024x1024.size inb_S1x1024x4096_S1x1024x1024_0_0_1024))
    (View.ld (iblk m c 12 t) (Rect.unit ![0, 1024, 0] S1x1024x1024.size inb_S1x4096x1024_S1x1024x1024_0_1024_0))
    (View.ld (iblk m c 11 t) (Rect.unit ![0, 0, 2048] S1x1024x1024.size inb_S1x1024x4096_S1x1024x1024_0_0_2048))
    (View.ld (iblk m c 12 t) (Rect.unit ![0, 2048, 0] S1x1024x1024.size inb_S1x4096x1024_S1x1024x1024_0_2048_0))
    (View.ld (iblk m c 11 t) (Rect.unit ![0, 0, 3072] S1x1024x1024.size inb_S1x1024x4096_S1x1024x1024_0_0_3072))
    (View.ld (iblk m c 12 t) (Rect.unit ![0, 3072, 0] S1x1024x1024.size inb_S1x4096x1024_S1x1024x1024_0_3072_0))

theorem tileOf_at (a s : FVec Ideal S1x256x384 .bf16) (r : FVec Ideal S1x256x256 .bf16) (x : FVec Ideal S1x256x1024 .f32)
    (i : Fin 256) (j : Fin 1024) (n : Fin 2048)
    (ha : ∀ k, a (ix3 0 i k) = aAtt m c (ix3 (batch t) n k)) (hr : ∀ k, r (ix3 0 i k) = aRet m c (ix3 (batch t) ⟨256 + n.val, by omega⟩ k))
    (hs : ∀ k, s (ix3 0 i k) = aSsd m c (ix3 (batch t) ⟨256 + n.val, by omega⟩ k)) (hx : ∀ j, x (ix3 0 i j) = aX m c (ix3 (batch t) n j)) :
    tileOf m c t a s r x (ix3 0 i j) = rowOf m c (batch t) n j := by
  unfold tileOf rowOf
  exact tile_at (a := a) (s := s) (r := r) (w := iblk m c 10 t) (xb := x) (i := i) (j := j)
    (ha := ha) (hr := hr) (hs := hs) (hx := hx) (hw := out_at m c t)
    (hg1 := row1_at m c t) (hn1 := gain_at m c t 1 _) (hn2 := gain_at m c t 2 _) (hc := scale_at m c t) (hh := shift_at m c t)
    (hg2 := row2_at m c t) (hn3 := gain_at m c t 3 _)
    (hu0 := ff1_at m c t 0 0 rfl _) (hu1 := ff1_at m c t 1 1024 rfl _) (hu2 := ff1_at m c t 2 2048 rfl _) (hu3 := ff1_at m c t 3 3072 rfl _)
    (hv0 := ff2_at m c t 0 0 rfl _) (hv1 := ff2_at m c t 1 1024 rfl _) (hv2 := ff2_at m c t 2 2048 rfl _) (hv3 := ff2_at m c t 3 3072 rfl _)

theorem tile0_at (i : Fin 256) (j : Fin 1024) :
    tileOf m c t (iblk m c 0 t) (iblk m c 4 t) (iblk m c 2 t) (iblk m c 6 t) (ix3 0 i j)
      = rowOf m c (batch t) ⟨t.val % 4 * 512 + i.val, by omega⟩ j :=
  tileOf_at m c t _ _ _ _ i j _ (att0_at m c t i) (ret0_at m c t i) (ssd0_at m c t i) (x0_at m c t i)

theorem tile1_at (i : Fin 256) (j : Fin 1024) :
    tileOf m c t (iblk m c 1 t) (iblk m c 5 t) (iblk m c 3 t) (iblk m c 7 t) (ix3 0 i j)
      = rowOf m c (batch t) ⟨t.val % 4 * 512 + 256 + i.val, by omega⟩ j :=
  tileOf_at m c t _ _ _ _ i j _ (att1_at m c t i) (ret1_at m c t i) (ssd1_at m c t i) (x1_at m c t i)

theorem idx3_eq (y : S1x256x1024.Idx) : y = ix3 0 (y 1) (y 2) := by
  funext a
  fin_cases a
  · exact Subsingleton.elim (α := Fin 1) _ _
  · rfl
  · rfl

theorem rowOf_congr (b b' : Fin 8) (n : ℕ) (hlt : n < 2048) (n' : Fin 2048) (j j' : Fin 1024) (hb : b.val = b'.val) (hn : n = n'.val)
    (hj : j.val = j'.val) : rowOf m c b ⟨n, hlt⟩ j = rowOf m c b' n' j' := by
  subst hn
  rw [Fin.ext hb, Fin.ext hj]

theorem final : (dats m 0 c).arrAt 13 cfg0.N = fun y : S8x2048x1024.Idx => rowOf m c (y 0) (y 1) (y 2) := by
  refine (dats m 0 c).arrAt_eq_of_covers 13 _ (by decide +kernel) fun t _ y => ?_
  have ht := lt32 t
  blk_simp
  rw [after0_13]
  unfold outsAt0
  frame_out
  canon_tiles y h
  · refine (congrFun (second_tile ..) y).trans ?_
    refine (congrArg (tileOf m c t (iblk m c 1 t) (iblk m c 5 t) (iblk m c 3 t) (iblk m c 7 t)) (idx3_eq y)).trans ?_
    refine (tile1_at m c t (y 1) (y 2)).trans (rowOf_congr m c _ _ _ _ _ _ _ ?_ ?_ ?_)
    all_goals blk_simp [idx t]
    all_goals omega
  · refine (congrArg (tileOf m c t (iblk m c 0 t) (iblk m c 4 t) (iblk m c 2 t) (iblk m c 6 t)) (idx3_eq y)).trans ?_
    refine (tile0_at m c t (y 1) (y 2)).trans (rowOf_congr m c _ _ _ _ _ _ _ ?_ ?_ ?_)
    all_goals blk_simp [idx t]
    all_goals omega

end Cert.Kernel2Ideal.Post

end
-- ==== Proof.Post.Ref.lean ====
/- The reference's result, read at a batch, a row and a column. -/
module

public import proofs.«01_k».proof.Proof.Post.Model
public import proofs.«01_k».proof.Proof.Gen.Reference2Ideal.Read
public import Idealize.ShloMosaic.Lib.Pointwise

@[expose] public section

set_option maxRecDepth 16384

noncomputable section

namespace Cert.Reference2Ideal.Post

open Idealize.ShloMosaic Idealize.ShloMosaic.TcCoe Idealize.ShloMosaic.Tactic Idealize.SL.Sem
open Cert.Reference2Ideal Cert.Reference2Ideal.Gen Cert.Reference2Ideal.Read

open Cert.Post

variable (x0 : FVec Ideal S8x2048x384 .bf16) (x1 : FVec Ideal S8x2304x256 .bf16) (x2 : FVec Ideal S8x2304x384 .bf16)
  (x3 : FVec Ideal S8x2048x1024 .f32) (x4 : FVec Ideal S2x16x6144 .f32) (x5 : FVec Ideal S4x1024 .f32)
  (x6 : FVec Ideal S2x1024x1024 .f32) (x7 : FVec Ideal S2x1024x4096 .f32) (x8 : FVec Ideal S2x4096x1024 .f32)
  (b : Fin 8) (n : Fin 2048) (j : Fin 1024)

/-- Entry `o + j` of the modulation of batch `b`. -/
abbrev modAt (o : ℕ) (ho : o ≤ 5120) (j : Fin 1024) : EReal := x4 (ix3 0 ⟨b.val, by omega⟩ ⟨o + j.val, by omega⟩)

theorem mix_at (k : Fin 1024) :
    val_main_v16 (F := Ideal) x0 x1 x2 (ix2 ⟨b.val * 2048 + n.val, by omega⟩ k)
      = mixed (fun k => x0 (ix3 b n k)) (fun k => x1 (ix3 b ⟨256 + n.val, by omega⟩ k))
          (fun k => x2 (ix3 b ⟨256 + n.val, by omega⟩ k)) k := by
  unfold mixed
  pointwise [val_main_v16, val_main_v15, val_main_v14, val_main_v13, val_main_v12, val_main_v11, val_main_v10,
    val_main_v9, val_main_v8]

theorem proj_at : val_main_v20 (F := Ideal) x0 x1 x2 x6 (ix3 b n j)
      = proj (fun k => val_main_v16 (F := Ideal) x0 x1 x2 (ix2 ⟨b.val * 2048 + n.val, by omega⟩ k)) (fun k j => x6 (ix3 0 k j)) j := by
  unfold proj
  pointwise [val_main_v20, val_main_v19, val_main_v18, val_main_v17]

theorem mid_at : val_main_v39 (F := Ideal) x0 x1 x2 x3 x4 x5 x6 (ix3 b n j)
      = gated (fun j => x3 (ix3 b n j)) (modAt x4 b 2048 (by decide)) (fun j => val_main_v20 (F := Ideal) x0 x1 x2 x6 (ix3 b n j))
          (fun j => x5 (ix2 1 j)) j := by
  unfold gated rms
  pointwise [val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v4, val_main_v1, val_main_v0, val_main_cst, val_main_cst_0, val_main_cst_1]

theorem inner_at : val_main_v62 (F := Ideal) x0 x1 x2 x3 x4 x5 x6 (ix3 b n j)
      = modulated (fun j => val_main_v39 (F := Ideal) x0 x1 x2 x3 x4 x5 x6 (ix3 b n j)) (fun j => x5 (ix2 2 j))
          (modAt x4 b 4096 (by decide)) (modAt x4 b 3072 (by decide)) j := by
  unfold modulated rms
  pointwise [val_main_v62, val_main_v61, val_main_v60, val_main_v59, val_main_v58, val_main_v57, val_main_v56,
    val_main_v55, val_main_v54, val_main_v53, val_main_v52, val_main_v51, val_main_v50, val_main_v49, val_main_v48, val_main_v47,
    val_main_v46, val_main_v45, val_main_v44, val_main_v43, val_main_v42, val_main_v41, val_main_v40,
    val_main_v6, val_main_v5, val_main_v1, val_main_v0, val_main_cst_2, val_main_cst_3, val_main_cst_4, val_main_cst_5]

theorem mlp_at : val_main_v71 (F := Ideal) x0 x1 x2 x3 x4 x5 x6 x7 x8 (ix3 b n j)
      = mlp (fun j => val_main_v62 (F := Ideal) x0 x1 x2 x3 x4 x5 x6 (ix3 b n j)) (fun (l : Fin 1024) (k : Fin 4096) => x7 (ix3 0 l k))
          (fun k j => x8 (ix3 0 k j)) j := by
  unfold mlp act
  pointwise [val_main_v71, val_main_v70, val_main_v69, val_main_v68, val_main_v67, val_main_v66, val_main_v65, val_main_v64, val_main_call0_v0, val_main_call0_cst]

theorem last_at : val_main_v89 (F := Ideal) x0 x1 x2 x3 x4 x5 x6 x7 x8 (ix3 b n j)
      = gated (fun j => val_main_v39 (F := Ideal) x0 x1 x2 x3 x4 x5 x6 (ix3 b n j)) (modAt x4 b 5120 (by decide))
          (fun j => val_main_v71 (F := Ideal) x0 x1 x2 x3 x4 x5 x6 x7 x8 (ix3 b n j)) (fun j => x5 (ix2 3 j)) j := by
  unfold gated rms
  pointwise [val_main_v89, val_main_v88, val_main_v87, val_main_v86, val_main_v85, val_main_v84, val_main_v83,
    val_main_v82, val_main_v81, val_main_v80, val_main_v79, val_main_v78, val_main_v77, val_main_v76, val_main_v75,
    val_main_v74, val_main_v73, val_main_v72, val_main_v63, val_main_v7, val_main_v1, val_main_v0, val_main_cst_6, val_main_cst_7, val_main_cst_8]

/-- The reference's result is the row function of its arguments' rows. -/
theorem result_at : val_main_v89 (F := Ideal) x0 x1 x2 x3 x4 x5 x6 x7 x8 (ix3 b n j)
      = layer (mixed (fun k => x0 (ix3 b n k)) (fun k => x1 (ix3 b ⟨256 + n.val, by omega⟩ k))
            (fun k => x2 (ix3 b ⟨256 + n.val, by omega⟩ k)))
          (fun j => x3 (ix3 b n j)) (modAt x4 b 2048 (by decide)) (fun j => x5 (ix2 1 j)) (fun j => x5 (ix2 2 j)) (modAt x4 b 4096 (by decide)) (modAt x4 b 3072 (by decide))
          (modAt x4 b 5120 (by decide)) (fun j => x5 (ix2 3 j)) (fun k j => x6 (ix3 0 k j)) (fun l k => x7 (ix3 0 l k)) (fun k j => x8 (ix3 0 k j)) j := by
  rw [last_at]
  unfold layer
  simp only [mlp_at, inner_at, mid_at, proj_at, mix_at]

end Cert.Reference2Ideal.Post

end
-- ==== Proof.Post.Value.lean ====
/- The projection with the MLP gives the reference's array. -/
module

public import proofs.«01_k».proof.Defs
public import proofs.«01_k».proof.Proof.Post.Array
public import proofs.«01_k».proof.Proof.Post.Ref
public import proofs.«01_k».proof.Proof.Gen.Kernel2Ideal.Value
public import proofs.«01_k».proof.Proof.Gen.Reference2Ideal.Run
public import Idealize.ShloMosaic.Lib.Claim

@[expose] public section

set_option maxRecDepth 16384

noncomputable section

namespace Cert.Post

open Idealize.ShloMosaic Idealize.ShloMosaic.TcCoe Idealize.ShloMosaic.Tactic Idealize.SL.Sem
open Cert.Kernel2Ideal

variable (m : (ℓ : Loc nD τ sig) → Buf (Elt Ideal) ℓ) (c : Dev nD)

theorem rows_eq : (fun y : S8x2048x1024.Idx => Cert.Kernel2Ideal.Post.rowOf m c (y 0) (y 1) (y 2))
    = Cert.Reference2Ideal.Read.val_main_v89 (F := Ideal) (Cert.Kernel2Ideal.Post.aAtt m c) (Cert.Kernel2Ideal.Post.aRet m c)
        (Cert.Kernel2Ideal.Post.aSsd m c) (Cert.Kernel2Ideal.Post.aX m c) (Cert.Kernel2Ideal.Post.aMods m c)
        (Cert.Kernel2Ideal.Post.aGain m c) (Cert.Kernel2Ideal.Post.aOut m c) (Cert.Kernel2Ideal.Post.aFf1 m c)
        (Cert.Kernel2Ideal.Post.aFf2 m c) := by
  funext y
  obtain ⟨b, n, j, rfl⟩ : ∃ (b : Fin 8) (n : Fin 2048) (j : Fin 1024), y = ix3 b n j :=
    ⟨y 0, y 1, y 2, by funext a; fin_cases a <;> rfl⟩
  exact (Cert.Reference2Ideal.Post.result_at ..).symm

theorem value : (Cert.Kernel2Ideal.Gen.dats m 0 c).arrAt 13 Cert.Kernel2Ideal.cfg0.N
    = Cert.Reference2Ideal.Read.val_main_v89 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) :=
  (Cert.Kernel2Ideal.Post.final m c).trans (rows_eq m c)

end Cert.Post

end
-- ==== Proof.Inp.Model.lean ====
/- One row of the input projection, as functions of extended reals. -/
module

public import proofs.«01_k».proof.Proof.Post.Model
public import proofs.«01_k».proof.Proof.Att.Softmax
public import Idealize.ShloMosaic.Lib.Pointwise

@[expose] public section

set_option maxRecDepth 16384

noncomputable section

namespace Cert.Inp

open Idealize.ShloMosaic

/-- A row against a column of weights. -/
def against (h w : Fin 1024 → EReal) : EReal := ∑ k : Fin 1024, h k * w k

/-- A head over the root of its mean square (with the given epsilon), times a gain. -/
def headed (f : Fin 64 → EReal) (g : EReal) (d : Fin 64) : EReal :=
  f d * Ideal.rsqrt (Ideal.div (∑ e : Fin 64, f e * f e) (Ideal.ofBits .f32 0x42800000#32)
    + Ideal.ofBits .f32 0x358637BD#32) * g

/-- A quarter's partner, signed: minus the upper half below, the lower half above. -/
def partner (f : Fin 64 → EReal) (d : Fin 64) : EReal :=
  if h : d.val % 32 < 16 then -f ⟨d.val + 16, by omega⟩ else f ⟨d.val - 16, by omega⟩

/-- A head rotated by the angles whose cosines and sines are given. -/
def rotated (f c s : Fin 64 → EReal) (d : Fin 64) : EReal := f d * c d + partner f d * s d

/-- The kernel's rotation of 128 lanes, with the two shifted copies. -/
def turned (f c s t : Fin 128 → EReal) (l : Fin 128) : EReal :=
  f l * c l + f ⟨(l.val + 128 - 16) % 128, Nat.mod_lt _ (by decide)⟩ * s l
    + f ⟨(l.val + 128 - 112) % 128, Nat.mod_lt _ (by decide)⟩ * t l

/-- Lane `d` of the head of lane `l`. -/
abbrev inHead (l : Fin 128) (d : Fin 64) : Fin 128 := ⟨l.val / 64 * 64 + d.val, by omega⟩

/-- Lane `l` within its head. -/
abbrev ofHead (l : Fin 128) : Fin 64 := ⟨l.val % 64, by omega⟩

theorem inHead_ofHead (l : Fin 128) : inHead l (ofHead l) = l := Fin.ext (by show l.val / 64 * 64 + l.val % 64 = l.val; omega)

/-- With the sines split by half, the lanes turn as the heads rotate. -/
theorem turned_eq (f c s t : Fin 128 → EReal) (C S : Fin 64 → EReal) (l : Fin 128)
    (hc : c l = C (ofHead l)) (hs : s l = if l.val % 32 < 16 then 0 else S (ofHead l))
    (ht : t l = if l.val % 32 < 16 then -S (ofHead l) else 0) :
    turned f c s t l = rotated (fun d => f (inHead l d)) C S (ofHead l) := by
  unfold turned rotated partner
  have hl : (ofHead l).val % 32 = l.val % 32 := by show l.val % 64 % 32 = l.val % 32; omega
  have hf : f l = f (inHead l (ofHead l)) := by rw [inHead_ofHead]
  rw [hc, hs, ht, hf]
  by_cases h : l.val % 32 < 16
  · rw [if_pos h, if_pos h, dif_pos (by rw [hl]; exact h), mul_zero, add_zero, mul_neg, neg_mul]
    refine congrArg (fun x => f (inHead l (ofHead l)) * C (ofHead l) + -(f x * S (ofHead l))) (Fin.ext ?_)
    show (l.val + 128 - 112) % 128 = l.val / 64 * 64 + (l.val % 64 + 16)
    omega
  · rw [if_neg h, if_neg h, dif_neg (by rw [hl]; exact h), mul_zero, add_zero]
    refine congrArg (fun x => f (inHead l (ofHead l)) * C (ofHead l) + f x * S (ofHead l)) (Fin.ext ?_)
    show (l.val + 128 - 16) % 128 = l.val / 64 * 64 + (l.val % 64 - 16)
    omega

/-- With cosine one and sines zero nothing turns. -/
theorem turned_id (f c s t : Fin 128 → EReal) (l : Fin 128) (hc : c l = 1) (hs : s l = 0) (ht : t l = 0) :
    turned f c s t l = f l := by
  unfold turned
  rw [hc, hs, ht, mul_one, mul_zero, mul_zero, add_zero, add_zero]

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- The mean over a head, from the sum over all lanes against the matrix that averages heads. -/
theorem head_mean (q : Fin 512 → EReal) (j : Fin 512) :
    (∑ k : Fin 512, if k.val / 64 = j.val / 64 then q k * Ideal.ofBits .f32 0x3C800000#32 else 0)
      = Ideal.div (∑ d : Fin 64, q ⟨j.val / 64 * 64 + d.val, by omega⟩) (Ideal.ofBits .f32 0x42800000#32) := by
  have hs : ∀ f : Fin 512 → EReal, ∑ l, f l = ∑ a : Fin 8, ∑ d : Fin 64, f ⟨a.val * 64 + d.val, by omega⟩ :=
    fun f => Fin.sum_univ_tiles 8 64 rfl f
  rw [hs, ofBits_64, Ideal.div_coe (by norm_num), Online.sum_mul_real _ _ (by norm_num), ofBits_64th]
  have h0 : ∀ (a : Fin 8) (d : Fin 64), (a.val * 64 + d.val) / 64 = a.val := fun a d => by omega
  rw [Finset.sum_eq_single (⟨j.val / 64, by omega⟩ : Fin 8)]
  · refine Finset.sum_congr rfl fun d _ => ?_
    rw [if_pos (h0 _ d)]
  · intro a _ ha
    refine Finset.sum_eq_zero fun d _ => ?_
    rw [if_neg (by rw [h0]; exact fun h => ha (Fin.ext h))]
  · intro h
    exact absurd (Finset.mem_univ _) h

end Cert.Inp

end
-- ==== Proof.Inp.Pay.lean ====
/- The values one grid point of the input projection computes, read at a row and a column. -/
module

public import proofs.«01_k».proof.Proof.Inp.Model
public import proofs.«01_k».proof.Proof.Gen.Kernel3Ideal.Skeleton
public import Idealize.ShloMosaic.Lib.Pointwise

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

section

variable (i : Fin 256) (k : Fin 1024) (j : Fin 512) (l : Fin 128) (t : grid0.Coords)
  (h : FVec Ideal S256x1024 .bf16) (w : FVec Ideal S1x1024x512 .bf16) (a : FVec Ideal S256x512 .f32)
  (x c s u : FVec Ideal S256x128 .f32) (xc xl : FVec Ideal S1x256x1024 .f32) (g : FVec Ideal S1x1024 .f32)
  (scale shift : FVec Ideal S1x1x1024 .f32) (gain : FVec Ideal S1x512 .f32)

/-- Column `l` of tile `q` of a group of 512 columns. -/
abbrev ofTile (q : Fin 4) (l : Fin 128) : Fin 512 := ⟨q.val * 128 + l.val, by omega⟩

/-- The modulated row, of the context or of the latents. -/
theorem pay5_at : k0_pay5 (F := Ideal) t xc xl g scale shift (ix2 i k)
    = Post.modulated (fun k => Scalar.select (Scalar.cmpi .slt (BitVec.ofNat 32 (t 1).val) 1#32) (xc (ix3 0 i k)) (xl (ix3 0 i k))) (fun k => g (ix2 0 k))
        (fun k => scale (ix3 0 0 k)) (fun k => shift (ix3 0 0 k)) k := by
  unfold Post.modulated Post.rms
  pointwise [k0_pay5]

/-- A group of 512 columns. -/
theorem pay20_at : k0_pay20 (F := Ideal) h w (ix2 i j)
    = against (fun k => h (ix2 i k)) (fun k => w (ix3 0 k j)) := by
  unfold against
  pointwise [k0_pay20]

theorem pay6_eq : k0_pay6 (F := Ideal) t xc xl g scale shift w
    = k0_pay20 (F := Ideal) (k0_pay5 t xc xl g scale shift) w := rfl
theorem pay35_eq : k0_pay35 (F := Ideal) h w = k0_pay20 (F := Ideal) h w := rfl
theorem pay41_eq : k0_pay41 (F := Ideal) h w = k0_pay20 (F := Ideal) h w := rfl
theorem pay47_eq : k0_pay47 (F := Ideal) h w = k0_pay20 (F := Ideal) h w := rfl
theorem pay52_eq : k0_pay52 (F := Ideal) h w = k0_pay20 (F := Ideal) h w := rfl

/-! ## The tiles stored as they are -/

theorem pay21_at : k0_pay21 (F := Ideal) h w (ix3 0 i l) = k0_pay20 (F := Ideal) h w (ix2 i (ofTile 0 l)) := by
  pointwise [k0_pay21, ofTile]
theorem pay38_at : k0_pay38 (F := Ideal) (k0_pay37 h w) (ix3 0 i l) = k0_pay20 (F := Ideal) h w (ix2 i (ofTile 1 l)) := by
  pointwise [k0_pay38, k0_pay37, pay35_eq, ofTile]
theorem pay39_at : k0_pay39 (F := Ideal) a (ix3 0 i l) = a (ix2 i (ofTile 2 l)) := by
  pointwise [k0_pay39, ofTile]
theorem pay40_at : k0_pay40 (F := Ideal) a (ix3 0 i l) = a (ix2 i (ofTile 3 l)) := by
  pointwise [k0_pay40, ofTile]
theorem pay42_at : k0_pay42 (F := Ideal) h w (ix3 0 i l) = k0_pay20 (F := Ideal) h w (ix2 i (ofTile 0 l)) := by
  pointwise [k0_pay42, pay41_eq, ofTile]
theorem pay43_at : k0_pay43 (F := Ideal) h w (ix3 0 i l) = k0_pay20 (F := Ideal) h w (ix2 i (ofTile 1 l)) := by
  pointwise [k0_pay43, pay41_eq, ofTile]
theorem pay44_at : k0_pay44 (F := Ideal) h w (ix3 0 i l) = k0_pay20 (F := Ideal) h w (ix2 i (ofTile 2 l)) := by
  pointwise [k0_pay44, pay41_eq, ofTile]
theorem pay46_at : k0_pay46 (F := Ideal) (k0_pay45 h w) (ix3 0 i l) = k0_pay20 (F := Ideal) h w (ix2 i (ofTile 3 l)) := by
  pointwise [k0_pay46, k0_pay45, pay41_eq, ofTile]
theorem pay48_at : k0_pay48 (F := Ideal) h w (ix3 0 i l) = k0_pay20 (F := Ideal) h w (ix2 i (ofTile 0 l)) := by
  pointwise [k0_pay48, pay47_eq, ofTile]
theorem pay49_at : k0_pay49 (F := Ideal) h w (ix3 0 i l) = k0_pay20 (F := Ideal) h w (ix2 i (ofTile 1 l)) := by
  pointwise [k0_pay49, pay47_eq, ofTile]
theorem pay50_at : k0_pay50 (F := Ideal) h w (ix3 0 i l) = k0_pay20 (F := Ideal) h w (ix2 i (ofTile 2 l)) := by
  pointwise [k0_pay50, pay47_eq, ofTile]
theorem pay51_at : k0_pay51 (F := Ideal) h w (ix3 0 i l) = k0_pay20 (F := Ideal) h w (ix2 i (ofTile 3 l)) := by
  pointwise [k0_pay51, pay47_eq, ofTile]
theorem pay1_at : k0_pay1 (F := Ideal) (k0_pay53 h w) (ix3 0 i l) = k0_pay20 (F := Ideal) h w (ix2 i (ofTile 0 l)) := by
  pointwise [k0_pay1, k0_pay53, pay52_eq, ofTile]
theorem pay2_at : k0_pay2 (F := Ideal) a (ix3 0 i l) = a (ix2 i (ofTile 1 l)) := by
  pointwise [k0_pay2, ofTile]
theorem pay3_at : k0_pay3 (F := Ideal) a (ix3 0 i l) = a (ix2 i (ofTile 2 l)) := by
  pointwise [k0_pay3, ofTile]
theorem pay4_at : k0_pay4 (F := Ideal) a (ix3 0 i l) = a (ix2 i (ofTile 3 l)) := by
  pointwise [k0_pay4, ofTile]

/-! ## The tiles turned -/

/-- Row `i` of tile `q` of a group, turned. -/
abbrev turnedTile (a : FVec Ideal S256x512 .f32) (c s u : FVec Ideal S256x128 .f32) (q : Fin 4) (i : Fin 256) (l : Fin 128) : EReal :=
  turned (fun l => a (ix2 i (ofTile q l))) (fun l => c (ix2 i l)) (fun l => s (ix2 i l)) (fun l => u (ix2 i l)) l

/-- The columns of queries and keys, normalised by head. -/
abbrev normed (a : FVec Ideal S256x512 .f32) (gain : FVec Ideal S1x512 .f32) : FVec Ideal S256x512 .f32 :=
  k0_pay13 (F := Ideal) a (k0_pay7 a) k0_pay8 k0_pay9 k0_pay10 k0_pay11 k0_pay12 gain

theorem pay14_at : k0_pay14 (F := Ideal) a (k0_pay7 a) k0_pay8 k0_pay9 k0_pay10 k0_pay11 k0_pay12 gain c s u (ix3 0 l i)
    = turnedTile (normed a gain) c s u 0 i l := by
  unfold turnedTile turned
  pointwise [k0_pay14, ofTile]
theorem pay16_at : k0_pay16 (F := Ideal) (k0_pay15 a (k0_pay7 a) k0_pay8 k0_pay9 k0_pay10 k0_pay11 k0_pay12 gain) c s u (ix3 0 l i)
    = turnedTile (normed a gain) c s u 1 i l := by
  unfold turnedTile turned
  pointwise [k0_pay16, k0_pay15, ofTile]
theorem pay17_at : k0_pay17 (F := Ideal) a c s u (ix3 0 l i) = turnedTile a c s u 2 i l := by
  unfold turnedTile turned
  pointwise [k0_pay17, ofTile]
theorem pay19_at : k0_pay19 (F := Ideal) (k0_pay18 a) c s u (ix3 0 i l) = turnedTile a c s u 3 i l := by
  unfold turnedTile turned
  pointwise [k0_pay19, k0_pay18, ofTile]
theorem pay27_at : k0_pay27 (F := Ideal) (k0_pay22 h w) (k0_pay23 s) (k0_pay24 u) (k0_pay25 h w c) (k0_pay26 h w) (ix3 0 i l)
    = turnedTile (k0_pay20 h w) c s u 1 i l := by
  unfold turnedTile turned
  pointwise [k0_pay27, k0_pay22, k0_pay23, k0_pay24, k0_pay25, k0_pay26, ofTile]
theorem pay28_at : k0_pay28 (F := Ideal) a c s u (ix3 0 i l) = turnedTile a c s u 2 i l := by
  unfold turnedTile turned
  pointwise [k0_pay28, ofTile]
theorem pay34_at : k0_pay34 (F := Ideal) (k0_pay29 a) (k0_pay30 s) (k0_pay31 u) (k0_pay32 a c) (k0_pay33 a) (ix3 0 i l)
    = turnedTile a c s u 3 i l * Ideal.ofBits .f32 0x3E000000#32 := by
  unfold turnedTile turned
  pointwise [k0_pay34, k0_pay29, k0_pay30, k0_pay31, k0_pay32, k0_pay33, ofTile]
theorem pay36_at : k0_pay36 (F := Ideal) h w c s u (ix3 0 i l)
    = turnedTile (k0_pay20 h w) c s u 0 i l * Ideal.ofBits .f32 0x3E000000#32 := by
  unfold turnedTile turned
  pointwise [k0_pay36, pay35_eq, ofTile]

/-! ## The norm by head -/

theorem row_head (k j : Fin 512) : k0_pay8 (ix2 k j) = BitVec.ofNat 32 (k.val / 64) := by
  pointwise [k0_pay8]
  revert k
  decide +kernel

theorem col_head (k j : Fin 512) :
    Scalar.select (IntOp.andi (k0_pay10 (ix2 k j)) (IntOp.cmpi .ne (k0_pay11 (ix2 k j)) (k0_pay12 (ix2 k j))))
      (IntOp.subi (k0_pay9 (ix2 k j)) 1#32) (k0_pay9 (ix2 k j)) = BitVec.ofNat 32 (j.val / 64) := by
  pointwise [k0_pay9, k0_pay10, k0_pay11, k0_pay12]
  revert j
  decide +kernel

theorem same_head (k j : Fin 512) (x : EReal) :
    Scalar.select (IntOp.cmpi .eq (BitVec.ofNat 32 (k.val / 64)) (BitVec.ofNat 32 (j.val / 64))) x 0
      = if k.val / 64 = j.val / 64 then x else 0 := by
  have h : ∀ p q : Fin 8, IntOp.cmpi .eq (BitVec.ofNat 32 p.val) (BitVec.ofNat 32 q.val)
      = if p.val = q.val then 1#1 else 0#1 := by decide +kernel
  have hk := h ⟨k.val / 64, by omega⟩ ⟨j.val / 64, by omega⟩
  dsimp only at hk
  rw [hk]
  split_ifs <;> rfl

theorem normed_at : normed a gain (ix2 i j)
    = headed (fun d => a (ix2 i ⟨j.val / 64 * 64 + d.val, by omega⟩)) (gain (ix2 0 j)) ⟨j.val % 64, by omega⟩ := by
  unfold headed
  pointwise [k0_pay13, k0_pay7, row_head]
  simp only [col_head, same_head]
  rw [head_mean (fun k => a (ix2 i k) * a (ix2 i k)) j]
  refine congrArg (fun n => a (ix2 i n) * _ * _) (Fin.ext ?_)
  show j.val = j.val / 64 * 64 + j.val % 64
  omega

end

end Cert.Kernel3Ideal.Inp

end
-- ==== Proof.Inp.Rows.lean ====
/- What the input projection leaves in each result, entry by entry, as functions of the call's arguments. -/
module

public import proofs.«01_k».proof.Proof.Inp.Model

@[expose] public section

set_option maxRecDepth 16384

noncomputable section

namespace Cert.Inp

open Idealize.ShloMosaic

/-- The arguments by coordinates: the rows of context and latents, the modulation and the input weights of the
layer, the first gain, the angles' cosines and sines by lane of a head, the gains of queries and keys. -/
structure Args where
  ctx : Fin 8 → Fin 256 → Fin 1024 → EReal
  lat : Fin 8 → Fin 2048 → Fin 1024 → EReal
  mods : Fin 16 → Fin 6144 → EReal
  gain : Fin 1024 → EReal
  w : Fin 1024 → Fin 3072 → EReal
  cos : Fin 2048 → Fin 64 → EReal
  sin : Fin 2048 → Fin 64 → EReal
  heads : Fin 512 → EReal

variable (A : Args)

/-- A row normalised and modulated by row `r` of the modulation. -/
def hidden (x : Fin 1024 → EReal) (r : Fin 16) : Fin 1024 → EReal :=
  Post.modulated x A.gain (fun k => A.mods r ⟨1024 + k.val, by omega⟩) (fun k => A.mods r ⟨k.val, by omega⟩)

/-- Column `j` of the projection of row `n`: a row of the context, then the latents'. -/
def column (b : Fin 8) (n : Fin 2304) (j : Fin 3072) : EReal :=
  if h : n.val < 256 then against (hidden A (A.ctx b ⟨n.val, h⟩) 8) (fun k => A.w k j)
  else against (hidden A (A.lat b ⟨n.val - 256, by omega⟩) ⟨b.val, by omega⟩) (fun k => A.w k j)

/-- The columns of queries and keys, normalised by head. -/
def normal (b : Fin 8) (n : Fin 2304) (j : Fin 512) : EReal :=
  headed (fun d => column A b n ⟨j.val / 64 * 64 + d.val, by omega⟩) (A.heads j) ⟨j.val % 64, by omega⟩

/-- A latent row's head rotated by its position; the context has none. -/
def placed (f : Fin 64 → EReal) (n : Fin 2304) (d : Fin 64) : EReal :=
  if h : n.val < 256 then f d else rotated f (A.cos ⟨n.val - 256, by omega⟩) (A.sin ⟨n.val - 256, by omega⟩) d

/-- The queries. -/
def queries (b : Fin 8) (n : Fin 2304) (j : Fin 384) : EReal :=
  placed A (fun d => normal A b n ⟨j.val / 64 * 64 + d.val, by omega⟩) n ⟨j.val % 64, by omega⟩

/-- The keys. -/
def keys (b : Fin 8) (n : Fin 2304) (j : Fin 128) : EReal :=
  placed A (fun d => normal A b n ⟨384 + (j.val / 64 * 64 + d.val), by omega⟩) n ⟨j.val % 64, by omega⟩

/-- The retention's queries or keys, from column `o`. -/
def spun (o : ℕ) (ho : o ≤ 2816) (b : Fin 8) (n : Fin 2304) (j : Fin 256) : EReal :=
  placed A (fun d => column A b n ⟨o + (j.val / 64 * 64 + d.val), by omega⟩) n ⟨j.val % 64, by omega⟩

/-- The retention's queries, keys (scaled) and the rest, side by side. -/
def retention (b : Fin 8) (n : Fin 2304) (j : Fin 1024) : EReal :=
  if h : j.val < 256 then spun A 640 (by decide) b n ⟨j.val, h⟩
  else if h : j.val < 512 then spun A 896 (by decide) b n ⟨j.val - 256, by omega⟩ * Ideal.ofBits .f32 0x3E000000#32
  else column A b n ⟨640 + j.val, by omega⟩

end Cert.Inp

end
-- ==== Proof.Inp.Point.lean ====
/- What one grid point of the input projection loads. -/
module

public import proofs.«01_k».proof.Proof.Inp.Pay
public import proofs.«01_k».proof.Proof.Inp.Rows
public import proofs.«01_k».proof.Proof.Gen.Kernel3Ideal.Frame
public import Idealize.ShloMosaic.Lib.Pipeline.ValueKit
public import Idealize.ShloMosaic.Lib.Claim

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

theorem idx : ∀ t : Fin cfg0.N,
    win0_0.index t = ![t.val / 9, 0, 0] ∧ win0_1.index t = ![t.val / 9, t.val % 9 - 1, 0]
      ∧ win0_2.index t = ![0, 0, 0] ∧ win0_3.index t = ![0, 0]
      ∧ win0_4.index t = ![0, 0, 0] ∧ win0_5.index t = ![t.val % 9, 0] ∧ win0_6.index t = ![t.val % 9, 0]
      ∧ win0_7.index t = ![t.val % 9, 0] ∧ win0_8.index t = ![0, 0] ∧ win0_9.index t = ![t.val / 9, 0, t.val % 9]
      ∧ win0_10.index t = ![t.val / 9, t.val % 9, 0] ∧ win0_11.index t = ![t.val / 9, t.val % 9, 0]
      ∧ win0_12.index t = ![t.val / 9, t.val % 9, 0] ∧ win0_13.index t = ![t.val / 9, t.val % 9, 0]
      ∧ win0_14.index t = ![t.val / 9, t.val % 9, 0] ∧ win0_15.index t = ![t.val / 9, t.val % 9, 0] :=
  (by decide +kernel : ∀ t : Fin grid0.N, _)

/-- The row of the modulation a point reads. -/
abbrev modRow (t : ℕ) : ℕ := if t % 9 = 0 then 8 else t / 9

theorem off1 : ∀ t : Fin cfg0.N, k0_off1 (grid0.coords t) = ![0, modRow t.val, 1024] :=
  (by decide +kernel : ∀ t : Fin grid0.N, _)

theorem off2 : ∀ t : Fin cfg0.N, k0_off2 (grid0.coords t) = ![0, modRow t.val, 0] :=
  (by decide +kernel : ∀ t : Fin grid0.N, _)

/-- A point's first tile of rows is the context's. -/
theorem chosen : ∀ t : Fin cfg0.N, Scalar.cmpi .slt (BitVec.ofNat 32 (grid0.coords t 1).val) 1#32
    = if t.val % 9 = 0 then 1#1 else 0#1 :=
  (by decide +kernel : ∀ t : Fin grid0.N, _)

variable (m : (ℓ : Loc nD τ sig) → Buf (Elt Ideal) ℓ) (c : Dev nD)

/-- The arguments' arrays. -/
def aCtx : FVec Ideal S8x256x1024 .f32 := m ((c.tc : Thread nD τ).loc main_arg0)
def aLat : FVec Ideal S8x2048x1024 .f32 := m ((c.tc : Thread nD τ).loc main_arg1)
def aMods : FVec Ideal S2x16x6144 .f32 := m ((c.tc : Thread nD τ).loc main_arg2)
def aGain : FVec Ideal S4x1024 .f32 := m ((c.tc : Thread nD τ).loc main_arg3)
def aIn : FVec Ideal S2x1024x3072 .bf16 := m ((c.tc : Thread nD τ).loc main_arg4)
def aCos : FVec Ideal S2048x2x32 .f32 := m ((c.tc : Thread nD τ).loc main_arg5)
def aSin : FVec Ideal S2048x2x32 .f32 := m ((c.tc : Thread nD τ).loc main_arg6)
def aHeads : FVec Ideal S1x512 .f32 := m ((c.tc : Thread nD τ).loc main_arg7)

/-- The arguments by coordinates. -/
def args : Args where
  ctx b n k := aCtx m c (ix3 b n k)
  lat b n k := aLat m c (ix3 b n k)
  mods r k := aMods m c (ix3 0 r k)
  gain k := aGain m c (ix2 0 k)
  w k j := aIn m c (ix3 0 k j)
  cos n d := aCos m c (ix3 n ⟨d.val / 32, by omega⟩ ⟨d.val % 32, by omega⟩)
  sin n d := aSin m c (ix3 n ⟨d.val / 32, by omega⟩ ⟨d.val % 32, by omega⟩)
  heads j := aHeads m c (ix2 0 j)

theorem lt72 (t : Fin cfg0.N) : t.val < 72 := Nat.lt_of_lt_of_eq t.isLt N_0

/-- The batch of a point. -/
abbrev batch (t : Fin cfg0.N) : Fin 8 := ⟨t.val / 9, by have := lt72 t; omega⟩

/-- The row of a point's row. -/
abbrev row (t : Fin cfg0.N) (i : Fin 256) : Fin 2304 := ⟨t.val % 9 * 256 + i.val, by omega⟩

variable (t : Fin cfg0.N) (i : Fin 256)

/-! ## The blocks -/

theorem ctx_at (k : Fin 1024) : iblk m c 0 t (ix3 0 i k) = aCtx m c (ix3 (batch t) i k) := by
  blk_point [iblk, V, idx t, aCtx]

theorem lat_at (k : Fin 1024) : iblk m c 1 t (ix3 0 i k) = aLat m c (ix3 (batch t) ⟨(t.val % 9 - 1) * 256 + i.val, by omega⟩ k) := by
  blk_point [iblk, V, idx t, aLat]

theorem heads_at (j : Fin 512) : iblk m c 8 t (ix2 0 j) = aHeads m c (ix2 0 j) := by
  blk_point [iblk, V, idx t, aHeads]

theorem gain_at (k : Fin 1024) :
    View.ld (iblk m c 3 t) (Rect.unit ![0, 0] S1x1024.size inb_S4x1024_S1x1024_0_0) (ix2 0 k) = aGain m c (ix2 0 k) := by
  pointwise
  blk_point [iblk, V, idx t, aGain]

theorem scale_at (r : Fin 16) (hr : r.val = modRow t.val) (k : Fin 1024) :
    View.ld (iblk m c 2 t) (Rect.unit (k0_off1 (grid0.coords t)) S1x1x1024.size (k0_off1_inb _)) (ix3 0 0 k)
      = aMods m c (ix3 0 r ⟨1024 + k.val, by omega⟩) := by
  pointwise
  blk_point [iblk, V, idx t, off1 t, aMods]

theorem shift_at (r : Fin 16) (hr : r.val = modRow t.val) (k : Fin 1024) :
    View.ld (iblk m c 2 t) (Rect.unit (k0_off2 (grid0.coords t)) S1x1x1024.size (k0_off2_inb _)) (ix3 0 0 k)
      = aMods m c (ix3 0 r ⟨k.val, by omega⟩) := by
  pointwise
  blk_point [iblk, V, idx t, off2 t, aMods]

theorem in_at (o : ℕ) (ho : ∀ a, (![0, 0, o] : Fin 3 → ℕ) a + S1x1024x512.size a ≤ S1x1024x3072.size a)
    (h : o ≤ 2560) (k : Fin 1024) (j : Fin 512) :
    View.ld (iblk m c 4 t) (Rect.unit ![0, 0, o] S1x1024x512.size ho) (ix3 0 k j) = aIn m c (ix3 0 k ⟨o + j.val, by omega⟩) := by
  pointwise
  blk_point [iblk, V, idx t, aIn]

/-! ## The tables of angles -/

def tCos : FVec Ideal S2304x128 .f32 := V m c main_v16
def tUp : FVec Ideal S2304x128 .f32 := V m c main_v18
def tDown : FVec Ideal S2304x128 .f32 := V m c main_v20

theorem tCos_blk (l : Fin 128) : iblk m c 5 t (ix2 i l) = tCos m c (ix2 (row t i) l) := by
  blk_point [iblk, V, idx t, tCos]

theorem tUp_blk (l : Fin 128) : iblk m c 6 t (ix2 i l) = tUp m c (ix2 (row t i) l) := by
  blk_point [iblk, V, idx t, tUp]

theorem tDown_blk (l : Fin 128) : iblk m c 7 t (ix2 i l) = tDown m c (ix2 (row t i) l) := by
  blk_point [iblk, V, idx t, tDown]

/-- Whether a lane is in a half's upper part, as the program asks it. -/
theorem upper : ∀ l : Fin 128, IntOp.cmpi .sge
      (Scalar.select
        (IntOp.andi
          (IntOp.cmpi .ne
            (IntOp.cmpi .slt (IntOp.remsi .host (BitVec.ofNat 32 l.val)
              (Scalar.select (IntOp.cmpi .eq 32#32 0#32) 1#32 32#32)) 0#32)
            (IntOp.cmpi .slt (Scalar.select (IntOp.cmpi .eq 32#32 0#32) 1#32 32#32) 0#32))
          (IntOp.cmpi .ne (IntOp.remsi .host (BitVec.ofNat 32 l.val)
            (Scalar.select (IntOp.cmpi .eq 32#32 0#32) 1#32 32#32)) 0#32))
        (IntOp.addi (IntOp.remsi .host (BitVec.ofNat 32 l.val) (Scalar.select (IntOp.cmpi .eq 32#32 0#32) 1#32 32#32))
          (Scalar.select (IntOp.cmpi .eq 32#32 0#32) 1#32 32#32))
        (IntOp.remsi .host (BitVec.ofNat 32 l.val) (Scalar.select (IntOp.cmpi .eq 32#32 0#32) 1#32 32#32)))
      16#32 = if l.val % 32 < 16 then 0#1 else 1#1 := by
  decide +kernel

theorem select_zero (a b : EReal) : Scalar.select (0#1) a b = b := rfl
theorem select_one (a b : EReal) : Scalar.select (1#1) a b = a := rfl

theorem tCos_at (n : Fin 2304) (l : Fin 128) : tCos m c (ix2 n l)
    = if h : n.val < 256 then 1 else aCos m c (ix3 ⟨n.val - 256, by omega⟩ ⟨l.val % 64 / 32, by omega⟩ ⟨l.val % 64 % 32, by omega⟩) := by
  unfold tCos aCos V
  simp only [List.flatten_cons, List.flatten_nil, hostOps0, hostOps0_1, hostOps0_2, hostOps0_3, hostOps0_4, hostOps0_5, hostOps0_6,
    List.cons_append, List.nil_append, List.append_nil]
  entry_read
  pointwise

theorem tUp_at (n : Fin 2304) (l : Fin 128) : tUp m c (ix2 n l)
    = if h : n.val < 256 then 0 else if l.val % 32 < 16 then 0
      else aSin m c (ix3 ⟨n.val - 256, by omega⟩ ⟨l.val % 64 / 32, by omega⟩ ⟨l.val % 64 % 32, by omega⟩) := by
  unfold tUp aSin V
  simp only [List.flatten_cons, List.flatten_nil, hostOps0, hostOps0_1, hostOps0_2, hostOps0_3, hostOps0_4, hostOps0_5, hostOps0_6,
    List.cons_append, List.nil_append, List.append_nil]
  entry_read
  simp -implicitDefEqProofs only [StableHlo.TRef.toBuf, StableHlo.TRef.ofBuf, cast_cast, cast_eq]
  pointwise
  simp only [upper]
  by_cases h : l.val % 32 < 16 <;> simp only [h, if_true, if_false, select_zero, select_one] <;> rfl

theorem tDown_at (n : Fin 2304) (l : Fin 128) : tDown m c (ix2 n l)
    = if h : n.val < 256 then 0 else if l.val % 32 < 16 then
        -aSin m c (ix3 ⟨n.val - 256, by omega⟩ ⟨l.val % 64 / 32, by omega⟩ ⟨l.val % 64 % 32, by omega⟩) else 0 := by
  unfold tDown aSin V
  simp only [List.flatten_cons, List.flatten_nil, hostOps0, hostOps0_1, hostOps0_2, hostOps0_3, hostOps0_4, hostOps0_5, hostOps0_6,
    List.cons_append, List.nil_append, List.append_nil]
  entry_read
  simp -implicitDefEqProofs only [StableHlo.TRef.toBuf, StableHlo.TRef.ofBuf, cast_cast, cast_eq]
  pointwise
  simp only [upper]
  by_cases h : l.val % 32 < 16 <;> simp only [h, if_true, if_false, select_zero, select_one] <;> rfl

end Cert.Kernel3Ideal.Inp

end
-- ==== Proof.Inp.Tile.lean ====
/- The rows one grid point computes are the arguments' rows projected. -/
module

public import proofs.«01_k».proof.Proof.Inp.Point

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

variable (m : (ℓ : Loc nD τ sig) → Buf (Elt Ideal) ℓ) (c : Dev nD) (t : Fin cfg0.N) (i : Fin 256)

/-- A point's rows, normalised and modulated. -/
def inner : FVec Ideal S256x1024 .bf16 :=
  k0_pay5 (F := Ideal) (grid0.coords t) (iblk m c 0 t) (iblk m c 1 t)
    (View.ld (iblk m c 3 t) (Rect.unit ![0, 0] S1x1024.size inb_S4x1024_S1x1024_0_0))
    (View.ld (iblk m c 2 t) (Rect.unit (k0_off1 (grid0.coords t)) S1x1x1024.size (k0_off1_inb _)))
    (View.ld (iblk m c 2 t) (Rect.unit (k0_off2 (grid0.coords t)) S1x1x1024.size (k0_off2_inb _)))

/-- A group of 512 columns, from column `o`. -/
def group (o : ℕ) (ho : ∀ a, (![0, 0, o] : Fin 3 → ℕ) a + S1x1024x512.size a ≤ S1x1024x3072.size a) :
    FVec Ideal S256x512 .f32 :=
  k0_pay20 (F := Ideal) (inner m c t) (View.ld (iblk m c 4 t) (Rect.unit ![0, 0, o] S1x1024x512.size ho))

theorem inner_ctx (h : t.val % 9 = 0) (k : Fin 1024) :
    inner m c t (ix2 i k) = hidden (args m c) ((args m c).ctx (batch t) i) 8 k := by
  unfold inner
  rw [pay5_at]
  simp only [chosen t, if_pos h, select_one, ctx_at, scale_at m c t 8 (if_pos h).symm, shift_at m c t 8 (if_pos h).symm]
  exact congrArg (fun g => Cert.Post.modulated _ g _ _ k) (funext (gain_at m c t))

theorem inner_lat (h : ¬t.val % 9 = 0) (k : Fin 1024) :
    inner m c t (ix2 i k) = hidden (args m c) ((args m c).lat (batch t) ⟨(t.val % 9 - 1) * 256 + i.val, by omega⟩)
      ⟨(batch t).val, by have := (batch t).isLt; omega⟩ k := by
  unfold inner
  rw [pay5_at]
  have hr := scale_at m c t ⟨(batch t).val, by have := (batch t).isLt; omega⟩ (if_neg h).symm
  have hs := shift_at m c t ⟨(batch t).val, by have := (batch t).isLt; omega⟩ (if_neg h).symm
  simp only [chosen t, if_neg h, select_zero, lat_at, hr, hs]
  exact congrArg (fun g => Cert.Post.modulated _ g _ _ k) (funext (gain_at m c t))

theorem group_at (o : ℕ) (ho : ∀ a, (![0, 0, o] : Fin 3 → ℕ) a + S1x1024x512.size a ≤ S1x1024x3072.size a)
    (h : o ≤ 2560) (j : Fin 512) :
    group m c t o ho (ix2 i j) = column (args m c) (batch t) (row t i) ⟨o + j.val, by omega⟩ := by
  unfold group column
  rw [pay20_at]
  simp only [in_at m c t o ho h]
  by_cases h0 : t.val % 9 = 0
  · have hn : (row t i).val = i.val := by show t.val % 9 * 256 + i.val = i.val; omega
    have hlt : (row t i).val < 256 := hn.symm ▸ i.isLt
    rw [dif_pos hlt]
    simp only [inner_ctx m c t i h0]
    have hi : (⟨(row t i).val, hlt⟩ : Fin 256) = i := Fin.ext hn
    rw [hi]
    rfl
  · have hn : ¬(row t i).val < 256 := by show ¬t.val % 9 * 256 + i.val < 256; omega
    rw [dif_neg hn]
    simp only [inner_lat m c t i h0]
    have hi : (⟨(row t i).val - 256, by have := (row t i).isLt; omega⟩ : Fin 2048) = ⟨(t.val % 9 - 1) * 256 + i.val, by omega⟩ :=
      Fin.ext (by show t.val % 9 * 256 + i.val - 256 = (t.val % 9 - 1) * 256 + i.val; omega)
    rw [hi]
    rfl

/-- The first group, normalised by head. -/
theorem group_normal (ho : ∀ a, (![0, 0, 0] : Fin 3 → ℕ) a + S1x1024x512.size a ≤ S1x1024x3072.size a) (j : Fin 512) :
    normed (group m c t 0 ho) (iblk m c 8 t) (ix2 i j) = normal (args m c) (batch t) (row t i) j := by
  rw [normed_at]
  unfold normal
  simp only [group_at m c t i 0 ho (by decide), heads_at, Nat.zero_add]
  rfl

/-- Lanes turned by a row's angles are its heads rotated by its position. -/
theorem turned_placed (A : Args) (f C S T : Fin 128 → EReal) (n : Fin 2304) (l : Fin 128)
    (hc : C l = if h : n.val < 256 then 1 else A.cos ⟨n.val - 256, by omega⟩ (ofHead l))
    (hs : S l = if h : n.val < 256 then 0 else if l.val % 32 < 16 then 0 else A.sin ⟨n.val - 256, by omega⟩ (ofHead l))
    (ht : T l = if h : n.val < 256 then 0 else if l.val % 32 < 16 then -A.sin ⟨n.val - 256, by omega⟩ (ofHead l) else 0) :
    turned f C S T l = placed A (fun d => f (inHead l d)) n (ofHead l) := by
  unfold placed
  by_cases h : n.val < 256
  · rw [dif_pos h] at hc hs ht ⊢
    refine (turned_id f C S T l hc hs ht).trans ?_
    show f l = f (inHead l (ofHead l))
    rw [inHead_ofHead]
  · rw [dif_neg h] at hc hs ht ⊢
    exact turned_eq f C S T _ _ l hc hs ht

theorem turned_row (f : Fin 128 → EReal) (n : Fin 2304) (l : Fin 128) :
    turned f (fun l => tCos m c (ix2 n l)) (fun l => tUp m c (ix2 n l)) (fun l => tDown m c (ix2 n l)) l
      = placed (args m c) (fun d => f (inHead l d)) n (ofHead l) :=
  turned_placed (args m c) f _ _ _ n l (tCos_at m c n l) (tUp_at m c n l) (tDown_at m c n l)

theorem turned_at (a : FVec Ideal S256x512 .f32) (q : Fin 4) (l : Fin 128) :
    turnedTile a (iblk m c 5 t) (iblk m c 6 t) (iblk m c 7 t) q i l
      = placed (args m c) (fun d => a (ix2 i (ofTile q (inHead l d)))) (row t i) (ofHead l) := by
  refine Eq.trans ?_ (turned_row m c (fun l => a (ix2 i (ofTile q l))) (row t i) l)
  have h1 := funext (tCos_blk m c t i)
  have h2 := funext (tUp_blk m c t i)
  have h3 := funext (tDown_blk m c t i)
  unfold turnedTile
  rw [h1, h2, h3]

end Cert.Kernel3Ideal.Inp

end
-- ==== Proof.Inp.Piece.lean ====
/- What one stored tile of a grid point holds, in the arguments' terms. -/
module

public import proofs.«01_k».proof.Proof.Inp.Tile

@[expose] public section

set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

theorem placed_congr (A : Args) {f f' : Fin 64 → EReal} {n n' : Fin 2304} {d d' : Fin 64} (hf : ∀ d, f d = f' d)
    (hn : n = n') (hd : d = d') : placed A f n d = placed A f' n' d' := by
  rw [funext hf, hn, hd]

theorem column_congr (A : Args) {b b' : Fin 8} {n n' : Fin 2304} {j j' : Fin 3072} (hb : b = b') (hn : n = n')
    (hj : j = j') : column A b n j = column A b' n' j' := by
  rw [hb, hn, hj]

theorem normal_congr (A : Args) {b b' : Fin 8} {n n' : Fin 2304} {j j' : Fin 512} (hb : b = b') (hn : n = n')
    (hj : j = j') : normal A b n j = normal A b' n' j' := by
  rw [hb, hn, hj]

theorem idx3_tile (y : S1x256x128.Idx) : y = ix3 0 (y 1) (y 2) := by
  funext a
  fin_cases a
  · exact Subsingleton.elim (α := Fin 1) _ _
  · rfl
  · rfl

theorem idx3_turn (y : S1x128x256.Idx) : y = ix3 0 (y 1) (y 2) := by
  funext a
  fin_cases a
  · exact Subsingleton.elim (α := Fin 1) _ _
  · rfl
  · rfl

variable (m : (ℓ : Loc nD τ sig) → Buf (Elt Ideal) ℓ) (c : Dev nD) (t : Fin cfg0.N)

section

variable (o : ℕ) (ho : ∀ a, (![0, 0, o] : Fin 3 → ℕ) a + S1x1024x512.size a ≤ S1x1024x3072.size a) (h : o ≤ 2560) (q : Fin 4)
  (P : S1x256x128.Idx → EReal) (y : S1x256x128.Idx) (b : Fin 8) (n : Fin 2304)

include h

theorem column_piece (hP : ∀ i l, P (ix3 0 i l) = group m c t o ho (ix2 i (ofTile q l))) (j : Fin 3072)
    (hb : t.val / 9 = b.val) (hn : t.val % 9 * 256 + (y 1).val = n.val) (hj : o + (q.val * 128 + (y 2).val) = j.val) :
    P y = column (args m c) b n j := by
  refine (congrArg P (idx3_tile y)).trans ((hP (y 1) (y 2)).trans ((group_at m c t (y 1) o ho h _).trans ?_))
  exact column_congr _ (Fin.ext hb) (Fin.ext hn) (Fin.ext hj)

theorem column_from (hP : ∀ i l, P (ix3 0 i l) = group m c t o ho (ix2 i (ofTile q l))) (o' k : ℕ) (hk : o' + k < 3072)
    (hb : t.val / 9 = b.val) (hn : t.val % 9 * 256 + (y 1).val = n.val) (hj : o + (q.val * 128 + (y 2).val) = o' + k) :
    P y = column (args m c) b n ⟨o' + k, hk⟩ :=
  column_piece m c t o ho h q P y b n hP _ hb hn hj

theorem spun_tile (i : Fin 256) (l : Fin 128) (o' : ℕ) (ho' : o' ≤ 2816) (j : Fin 256) (e : ℕ)
    (hb : t.val / 9 = b.val) (hn : t.val % 9 * 256 + i.val = n.val) (hj : e * 128 + l.val = j.val)
    (he : o + q.val * 128 = o' + e * 128) :
    turnedTile (group m c t o ho) (iblk m c 5 t) (iblk m c 6 t) (iblk m c 7 t) q i l = spun (args m c) o' ho' b n j := by
  refine (turned_at m c t i _ q l).trans (placed_congr _ (fun d => ?_) (Fin.ext hn) (Fin.ext ?_))
  · refine (group_at m c t i o ho h _).trans (column_congr _ (Fin.ext hb) (Fin.ext hn) (Fin.ext ?_))
    show o + (q.val * 128 + (l.val / 64 * 64 + d.val)) = o' + (j.val / 64 * 64 + d.val)
    omega
  · show l.val % 64 = j.val % 64
    omega

theorem rest_piece (hP : ∀ i l, P (ix3 0 i l) = group m c t o ho (ix2 i (ofTile q l))) (j : Fin 1024)
    (hb : t.val / 9 = b.val) (hn : t.val % 9 * 256 + (y 1).val = n.val) (hj : o + (q.val * 128 + (y 2).val) = 640 + j.val)
    (hlo : 512 ≤ j.val) : P y = retention (args m c) b n j := by
  unfold retention
  rw [dif_neg (by omega), dif_neg (by omega)]
  exact column_piece m c t o ho h q P y b n hP _ hb hn hj

theorem query_spun (e : ℕ) (hP : ∀ i l, P (ix3 0 i l)
      = turnedTile (group m c t o ho) (iblk m c 5 t) (iblk m c 6 t) (iblk m c 7 t) q i l)
    (he : o + q.val * 128 = 640 + e * 128) (hlt : e < 2) (j : Fin 1024)
    (hb : t.val / 9 = b.val) (hn : t.val % 9 * 256 + (y 1).val = n.val) (hj : e * 128 + (y 2).val = j.val) :
    P y = retention (args m c) b n j := by
  have hy : (y 2).val < 128 := (y 2).isLt
  unfold retention
  rw [dif_pos (by omega)]
  refine (congrArg P (idx3_tile y)).trans ((hP (y 1) (y 2)).trans ?_)
  exact spun_tile m c t o ho h q b n (y 1) (y 2) 640 (by decide) _ e hb hn hj he

theorem key_spun (e : ℕ) (hP : ∀ i l, P (ix3 0 i l)
      = turnedTile (group m c t o ho) (iblk m c 5 t) (iblk m c 6 t) (iblk m c 7 t) q i l * Ideal.ofBits .f32 0x3E000000#32)
    (he : o + q.val * 128 = 896 + e * 128) (hlt : e < 2) (j : Fin 1024)
    (hb : t.val / 9 = b.val) (hn : t.val % 9 * 256 + (y 1).val = n.val) (hj : 256 + (e * 128 + (y 2).val) = j.val) :
    P y = retention (args m c) b n j := by
  have hy : (y 2).val < 128 := (y 2).isLt
  unfold retention
  rw [dif_neg (by omega), dif_pos (by omega)]
  refine (congrArg P (idx3_tile y)).trans ((hP (y 1) (y 2)).trans ?_)
  refine congrArg (· * Ideal.ofBits .f32 0x3E000000#32) ?_
  exact spun_tile m c t o ho h q b n (y 1) (y 2) 896 (by decide) _ e hb hn (by show e * 128 + (y 2).val = j.val - 256; omega) he

end

section

variable (ho : ∀ a, (![0, 0, 0] : Fin 3 → ℕ) a + S1x1024x512.size a ≤ S1x1024x3072.size a) (b : Fin 8) (n : Fin 2304)

theorem normal_tile (q : Fin 4) (i : Fin 256) (l : Fin 128) (f : Fin 64 → EReal) (d : Fin 64)
    (hf : ∀ d, normal (args m c) b n (ofTile q (inHead l d)) = f d)
    (hb : t.val / 9 = b.val) (hn : t.val % 9 * 256 + i.val = n.val) (hd : l.val % 64 = d.val) :
    turnedTile (normed (group m c t 0 ho) (iblk m c 8 t)) (iblk m c 5 t) (iblk m c 6 t) (iblk m c 7 t) q i l
      = placed (args m c) f n d := by
  refine (turned_at m c t i _ q l).trans (placed_congr _ (fun d => ?_) (Fin.ext hn) (Fin.ext hd))
  exact (group_normal m c t i ho _).trans ((normal_congr _ (Fin.ext hb) (Fin.ext hn) rfl).trans (hf d))

theorem query_piece (q : Fin 4) (P : S1x128x256.Idx → EReal) (y : S1x128x256.Idx) (hP : ∀ i l, P (ix3 0 l i)
      = turnedTile (normed (group m c t 0 ho) (iblk m c 8 t)) (iblk m c 5 t) (iblk m c 6 t) (iblk m c 7 t) q i l)
    (j : Fin 384) (hb : t.val / 9 = b.val) (hn : t.val % 9 * 256 + (y 2).val = n.val) (hj : q.val * 128 + (y 1).val = j.val) :
    P y = queries (args m c) b n j := by
  refine (congrArg P (idx3_turn y)).trans ((hP (y 2) (y 1)).trans ?_)
  refine normal_tile m c t ho b n q (y 2) (y 1) _ _ (fun d => normal_congr _ rfl rfl (Fin.ext ?_)) hb hn ?_
  · show q.val * 128 + ((y 1).val / 64 * 64 + d.val) = j.val / 64 * 64 + d.val
    omega
  · show (y 1).val % 64 = j.val % 64
    omega

theorem key_piece (P : S1x256x128.Idx → EReal) (y : S1x256x128.Idx) (hP : ∀ i l, P (ix3 0 i l)
      = turnedTile (normed (group m c t 0 ho) (iblk m c 8 t)) (iblk m c 5 t) (iblk m c 6 t) (iblk m c 7 t) 3 i l)
    (j : Fin 128) (hb : t.val / 9 = b.val) (hn : t.val % 9 * 256 + (y 1).val = n.val) (hj : (y 2).val = j.val) :
    P y = keys (args m c) b n j := by
  refine (congrArg P (idx3_tile y)).trans ((hP (y 1) (y 2)).trans ?_)
  refine normal_tile m c t ho b n 3 (y 1) (y 2) _ _ (fun d => normal_congr _ rfl rfl (Fin.ext ?_)) hb hn ?_
  · show 3 * 128 + ((y 2).val / 64 * 64 + d.val) = 384 + (j.val / 64 * 64 + d.val)
    omega
  · show (y 2).val % 64 = j.val % 64
    omega

end

end Cert.Kernel3Ideal.Inp

end
-- ==== Proof.Inp.Heads.lean ====
/- The queries and keys the kernel leaves, and its columns stored in one tile. -/
module

public import proofs.«01_k».proof.Proof.Inp.Piece

@[expose] public section

set_option maxHeartbeats 2000000
set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

variable (m : (ℓ : Loc nD τ sig) → Buf (Elt Ideal) ℓ) (c : Dev nD)

theorem final9 : (dats m 0 c).arrAt 9 cfg0.N = fun y : S8x384x2304.Idx => queries (args m c) (y 0) (y 2) (y 1) := by
  refine (dats m 0 c).arrAt_eq_of_covers 9 _ (by decide +kernel) fun t _ y => ?_
  have ht := lt72 t
  blk_simp
  rw [after0_9]
  unfold outsAt0
  frame_out
  canon_tiles y h
  · refine query_piece m c t inb_S1x1024x3072_S1x1024x512_0_0_0 _ _ 2 _ y (fun i l => ?_) _ ?_ ?_ ?_
    · exact pay17_at _ _ _ _ _ _
    all_goals blk_simp [idx t]
    all_goals omega
  · refine query_piece m c t inb_S1x1024x3072_S1x1024x512_0_0_0 _ _ 1 _ y (fun i l => ?_) _ ?_ ?_ ?_
    · exact pay16_at _ _ _ _ _ _ _
    all_goals blk_simp [idx t]
    all_goals omega
  · refine query_piece m c t inb_S1x1024x3072_S1x1024x512_0_0_0 _ _ 0 _ y (fun i l => ?_) _ ?_ ?_ ?_
    · exact pay14_at _ _ _ _ _ _ _
    all_goals blk_simp [idx t]
    all_goals omega

theorem final10 : (dats m 0 c).arrAt 10 cfg0.N = fun y : S8x2304x128.Idx => keys (args m c) (y 0) (y 1) (y 2) := by
  refine (dats m 0 c).arrAt_eq_of_covers 10 _ (by decide +kernel) fun t _ y => ?_
  have ht := lt72 t
  blk_simp
  rw [after0_10]
  unfold outsAt0
  frame_out
  refine key_piece m c t inb_S1x1024x3072_S1x1024x512_0_0_0 _ _ _ y (fun i l => ?_) _ ?_ ?_ ?_
  · exact pay19_at _ _ _ _ _ _
  all_goals blk_simp [idx t]
  all_goals omega

theorem final11 : (dats m 0 c).arrAt 11 cfg0.N = fun y : S8x2304x128.Idx =>
    column (args m c) (y 0) (y 1) ⟨512 + (y 2).val, Nat.lt_of_lt_of_le (Nat.add_lt_add_left (y 2).isLt 512) (by decide)⟩ := by
  refine (dats m 0 c).arrAt_eq_of_covers 11 _ (by decide +kernel) fun t _ y => ?_
  have ht := lt72 t
  blk_simp
  rw [after0_11]
  unfold outsAt0
  frame_out
  refine column_from m c t 512 inb_S1x1024x3072_S1x1024x512_0_0_512 (by decide) 0 _ y _ _ (fun i l => ?_) 512 _ _ ?_ ?_ ?_
  · exact pay21_at _ _ _ _
  all_goals blk_simp [idx t]
  all_goals omega

theorem final15 : (dats m 0 c).arrAt 15 cfg0.N = fun y : S8x2304x128.Idx =>
    column (args m c) (y 0) (y 1) ⟨2944 + (y 2).val, Nat.lt_of_lt_of_le (Nat.add_lt_add_left (y 2).isLt 2944) (by decide)⟩ := by
  refine (dats m 0 c).arrAt_eq_of_covers 15 _ (by decide +kernel) fun t _ y => ?_
  have ht := lt72 t
  blk_simp
  rw [after0_15]
  unfold outsAt0
  frame_out
  refine column_from m c t 2560 inb_S1x1024x3072_S1x1024x512_0_0_2560 (by decide) 3 _ y _ _ (fun i l => ?_) 2944 _ _ ?_ ?_ ?_
  · exact pay4_at _ _ _
  all_goals blk_simp [idx t]
  all_goals omega

end Cert.Kernel3Ideal.Inp

end
-- ==== Proof.Inp.Ret.lean ====
/- The retention rows the kernel leaves. -/
module

public import proofs.«01_k».proof.Proof.Inp.Piece

@[expose] public section

set_option maxHeartbeats 2000000
set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

variable (m : (ℓ : Loc nD τ sig) → Buf (Elt Ideal) ℓ) (c : Dev nD)

theorem final12 : (dats m 0 c).arrAt 12 cfg0.N = fun y : S8x2304x1024.Idx => retention (args m c) (y 0) (y 1) (y 2) := by
  refine (dats m 0 c).arrAt_eq_of_covers 12 _ (by decide +kernel) fun t _ y => ?_
  have ht := lt72 t
  blk_simp
  rw [after0_12]
  unfold outsAt0
  frame_out
  canon_tiles y h
  · refine rest_piece m c t 1536 inb_S1x1024x3072_S1x1024x512_0_0_1536 (by decide) 0 _ y _ _ (fun i l => ?_) _ ?_ ?_ ?_ ?_
    · exact pay42_at _ _ _ _
    all_goals blk_simp [idx t]
    all_goals omega
  · refine rest_piece m c t 1024 inb_S1x1024x3072_S1x1024x512_0_0_1024 (by decide) 3 _ y _ _ (fun i l => ?_) _ ?_ ?_ ?_ ?_
    · exact pay40_at _ _ _
    all_goals blk_simp [idx t]
    all_goals omega
  · refine rest_piece m c t 1024 inb_S1x1024x3072_S1x1024x512_0_0_1024 (by decide) 2 _ y _ _ (fun i l => ?_) _ ?_ ?_ ?_ ?_
    · exact pay39_at _ _ _
    all_goals blk_simp [idx t]
    all_goals omega
  · refine rest_piece m c t 1024 inb_S1x1024x3072_S1x1024x512_0_0_1024 (by decide) 1 _ y _ _ (fun i l => ?_) _ ?_ ?_ ?_ ?_
    · exact pay38_at _ _ _ _
    all_goals blk_simp [idx t]
    all_goals omega
  · refine key_spun m c t 1024 inb_S1x1024x3072_S1x1024x512_0_0_1024 (by decide) 0 _ y _ _ 1 (fun i l => ?_) (by decide) (by decide) _ ?_ ?_ ?_
    · exact pay36_at _ _ _ _ _ _ _
    all_goals blk_simp [idx t]
    all_goals omega
  · refine key_spun m c t 512 inb_S1x1024x3072_S1x1024x512_0_0_512 (by decide) 3 _ y _ _ 0 (fun i l => ?_) (by decide) (by decide) _ ?_ ?_ ?_
    · exact pay34_at _ _ _ _ _ _
    all_goals blk_simp [idx t]
    all_goals omega
  · refine query_spun m c t 512 inb_S1x1024x3072_S1x1024x512_0_0_512 (by decide) 2 _ y _ _ 1 (fun i l => ?_) (by decide) (by decide) _ ?_ ?_ ?_
    · exact pay28_at _ _ _ _ _ _
    all_goals blk_simp [idx t]
    all_goals omega
  · refine query_spun m c t 512 inb_S1x1024x3072_S1x1024x512_0_0_512 (by decide) 1 _ y _ _ 0 (fun i l => ?_) (by decide) (by decide) _ ?_ ?_ ?_
    · exact pay27_at _ _ _ _ _ _ _
    all_goals blk_simp [idx t]
    all_goals omega

end Cert.Kernel3Ideal.Inp

end
-- ==== Proof.Inp.Cols.lean ====
/- The columns the kernel stores in several tiles. -/
module

public import proofs.«01_k».proof.Proof.Inp.Piece

@[expose] public section

set_option maxHeartbeats 2000000
set_option maxRecDepth 16384

noncomputable section

namespace Cert.Kernel3Ideal.Inp

open Idealize.ShloMosaic Idealize.ShloMosaic.TcCoe Idealize.ShloMosaic.Tactic Idealize.SL.Sem
open Cert.Kernel3Ideal Cert.Kernel3Ideal.Gen

open Cert.Inp

variable (m : (ℓ : Loc nD τ sig) → Buf (Elt Ideal) ℓ) (c : Dev nD)

theorem final13 : (dats m 0 c).arrAt 13 cfg0.N = fun y : S8x2304x384.Idx =>
    column (args m c) (y 0) (y 1) ⟨1664 + (y 2).val, Nat.lt_of_lt_of_le (Nat.add_lt_add_left (y 2).isLt 1664) (by decide)⟩ := by
  refine (dats m 0 c).arrAt_eq_of_covers 13 _ (by decide +kernel) fun t _ y => ?_
  have ht := lt72 t
  blk_simp
  rw [after0_13]
  unfold outsAt0
  frame_out
  canon_tiles y h
  · refine column_from m c t 1536 inb_S1x1024x3072_S1x1024x512_0_0_1536 (by decide) 3 _ y _ _ (fun i l => ?_) 1664 _ _ ?_ ?_ ?_
    · exact pay46_at _ _ _ _
    all_goals blk_simp [idx t]
    all_goals omega
  · refine column_from m c t 1536 inb_S1x1024x3072_S1x1024x512_0_0_1536 (by decide) 2 _ y _ _ (fun i l => ?_) 1664 _ _ ?_ ?_ ?_
    · exact pay44_at _ _ _ _
    all_goals blk_simp [idx t]
    all_goals omega
  · refine column_from m c t 1536 inb_S1x1024x3072_S1x1024x512_0_0_1536 (by decide) 1 _ y _ _ (fun i l => ?_) 1664 _ _ ?_ ?_ ?_
    · exact pay43_at _ _ _ _
    all_goals blk_simp [idx t]
    all_goals omega

theorem final14 : (dats m 0 c).arrAt 14 cfg0.N = fun y : S8x2304x896.Idx =>
    column (args m c) (y 0) (y 1) ⟨2048 + (y 2).val, Nat.lt_of_lt_of_le (Nat.add_lt_add_left (y 2).isLt 2048) (by decide)⟩ := by
  refine (dats m 0 c).arrAt_eq_of_covers 14 _ (by decide +kernel) fun t _ y => ?_
  have ht := lt72 t
  blk_simp
  rw [after0_14]
  unfold outsAt0
  frame_out
  canon_tiles y h
  · refine column_from m c t 2560 inb_S1x1024x3072_S1x1024x512_0_0_2560 (by decide) 2 _ y _ _ (fun i l => ?_) 2048 _ _ ?_ ?_ ?_
    · exact pay3_at _ _ _
    all_goals blk_simp [idx t]
    all_goals omega
  · refine column_from m c t 2560 inb_S1x1024x3072_S1x1024x512_0_0_2560 (by decide) 1 _ y _ _ (fun i l => ?_) 2048 _ _ ?_ ?_ ?_
    · exact pay2_at _ _ _
    all_goals blk_simp [idx t]
    all_goals omega
  · refine column_from m c t 2560 inb_S1x1024x3072_S1x1024x512_0_0_2560 (by decide) 0 _ y _ _ (fun i l => ?_) 2048 _ _ ?_ ?_ ?_
    · exact pay1_at _ _ _ _
    all_goals blk_simp [idx t]
    all_goals omega
  · refine column_from m c t 2048 inb_S1x1024x3072_S1x1024x512_0_0_2048 (by decide) 3 _ y _ _ (fun i l => ?_) 2048 _ _ ?_ ?_ ?_
    · exact pay51_at _ _ _ _
    all_goals blk_simp [idx t]
    all_goals omega
  · refine column_from m c t 2048 inb_S1x1024x3072_S1x1024x512_0_0_2048 (by decide) 2 _ y _ _ (fun i l => ?_) 2048 _ _ ?_ ?_ ?_
    · exact pay50_at _ _ _ _
    all_goals blk_simp [idx t]
    all_goals omega
  · refine column_from m c t 2048 inb_S1x1024x3072_S1x1024x512_0_0_2048 (by decide) 1 _ y _ _ (fun i l => ?_) 2048 _ _ ?_ ?_ ?_
    · exact pay49_at _ _ _ _
    all_goals blk_simp [idx t]
    all_goals omega
  · refine column_from m c t 2048 inb_S1x1024x3072_S1x1024x512_0_0_2048 (by decide) 0 _ y _ _ (fun i l => ?_) 2048 _ _ ?_ ?_ ?_
    · exact pay48_at _ _ _ _
    all_goals blk_simp [idx t]
    all_goals omega

end Cert.Kernel3Ideal.Inp

end
-- ==== Proof.Inp.Given.lean ====
/- The hidden rows and the columns of the reference. -/
module

public import proofs.«01_k».proof.Proof.Inp.Rows
public import proofs.«01_k».proof.Proof.Gen.Reference3Ideal.Read
public import Idealize.ShloMosaic.Lib.Pointwise

@[expose] public section

set_option maxRecDepth 16384

noncomputable section

namespace Cert.Reference3Ideal.Inp

open Idealize.ShloMosaic Idealize.ShloMosaic.TcCoe Idealize.ShloMosaic.Tactic Idealize.SL.Sem
open Cert.Reference3Ideal Cert.Reference3Ideal.Gen Cert.Reference3Ideal.Read

open Cert.Inp

variable (x0 : FVec Ideal S8x256x1024 .f32) (x1 : FVec Ideal S8x2048x1024 .f32) (x2 : FVec Ideal S2x16x6144 .f32)
  (x3 : FVec Ideal S4x1024 .f32) (x4 : FVec Ideal S2x1024x3072 .bf16) (x5 x6 : FVec Ideal S2048x2x32 .f32)
  (x7 : FVec Ideal S1x512 .f32)

/-- The arguments of the call. -/
def given : Args where
  ctx b n k := x0 (ix3 b n k)
  lat b n k := x1 (ix3 b n k)
  mods r k := x2 (ix3 0 r k)
  gain k := x3 (ix2 0 k)
  w k j := x4 (ix3 0 k j)
  cos n d := x5 (ix3 n ⟨d.val / 32, by omega⟩ ⟨d.val % 32, by omega⟩)
  sin n d := x6 (ix3 n ⟨d.val / 32, by omega⟩ ⟨d.val % 32, by omega⟩)
  heads j := x7 (ix2 0 j)

variable (b : Fin 8)

theorem lat_hidden (n : Fin 2048) (k : Fin 1024) : val_main_v32 (F := Ideal) x1 x2 x3 (ix3 b n k)
    = Post.modulated (fun k => x1 (ix3 b n k)) (fun k => x3 (ix2 0 k)) (fun k => x2 (ix3 0 ⟨b.val, by omega⟩ ⟨1024 + k.val, by omega⟩))
        (fun k => x2 (ix3 0 ⟨b.val, by omega⟩ ⟨k.val, by omega⟩)) k := by
  unfold Post.modulated Post.rms
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v3, val_main_v2, val_main_v1, val_main_v0, val_main_cst, val_main_cst_0, val_main_cst_1, val_main_cst_2]

theorem ctx_hidden (n : Fin 256) (k : Fin 1024) : val_main_v59 (F := Ideal) x0 x2 x3 (ix3 b n k)
    = Post.modulated (fun k => x0 (ix3 b n k)) (fun k => x3 (ix2 0 k)) (fun k => x2 (ix3 0 8 ⟨1024 + k.val, by omega⟩))
        (fun k => x2 (ix3 0 8 ⟨k.val, by omega⟩)) k := by
  unfold Post.modulated Post.rms
  pointwise [val_main_v59, val_main_v58, val_main_v57, val_main_v56, val_main_v55, val_main_v54, val_main_v53, val_main_v52,
    val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v3, val_main_v2, val_main_v1, val_main_v0, val_main_cst_3,
    val_main_cst_4, val_main_cst_5, val_main_cst_6]

theorem lat_against (n : Fin 2048) (j : Fin 3072) : val_main_v63 (F := Ideal) x1 x2 x3 x4 (ix3 b n j)
    = against (fun k => val_main_v32 (F := Ideal) x1 x2 x3 (ix3 b n k)) (fun k => x4 (ix3 0 k j)) := by
  unfold against
  pointwise [val_main_v63, val_main_v62, val_main_v61, val_main_v60]

theorem ctx_against (n : Fin 256) (j : Fin 3072) : val_main_v73 (F := Ideal) x0 x2 x3 x4 (ix3 b n j)
    = against (fun k => val_main_v59 (F := Ideal) x0 x2 x3 (ix3 b n k)) (fun k => x4 (ix3 0 k j)) := by
  unfold against
  pointwise [val_main_v73, val_main_v62, val_main_v61, val_main_v60]

theorem ctx_column (n : Fin 2304) (h : n.val < 256) (j : Fin 3072) :
    val_main_v73 (F := Ideal) x0 x2 x3 x4 (ix3 b ⟨n.val, h⟩ j) = column (given x0 x1 x2 x3 x4 x5 x6 x7) b n j := by
  unfold column
  rw [dif_pos h, ctx_against, funext (ctx_hidden x0 x2 x3 b ⟨n.val, h⟩)]
  rfl

theorem lat_column (n : Fin 2304) (h : ¬n.val < 256) (j : Fin 3072) :
    val_main_v63 (F := Ideal) x1 x2 x3 x4 (ix3 b ⟨n.val - 256, by omega⟩ j) = column (given x0 x1 x2 x3 x4 x5 x6 x7) b n j := by
  unfold column
  rw [dif_neg h, lat_against, funext (lat_hidden x1 x2 x3 b ⟨n.val - 256, by omega⟩)]
  rfl

end Cert.Reference3Ideal.Inp

end
-- ==== Proof.Inp.RefHead.lean ====
/- The reference's heads: norm and rotation. -/
module

public import proofs.«01_k».proof.Proof.Inp.Given
public import Idealize.ShloMosaic.Lib.Pointwise

@[expose] public section

set_option maxRecDepth 16384

noncomputable section

namespace Cert.Reference3Ideal.Inp

open Idealize.ShloMosaic Idealize.ShloMosaic.TcCoe Idealize.ShloMosaic.Tactic Idealize.SL.Sem
open Cert.Reference3Ideal Cert.Reference3Ideal.Gen Cert.Reference3Ideal.Read

open Cert.Inp

variable (x0 : FVec Ideal S8x256x1024 .f32) (x1 : FVec Ideal S8x2048x1024 .f32) (x2 : FVec Ideal S2x16x6144 .f32)
  (x3 : FVec Ideal S4x1024 .f32) (x4 : FVec Ideal S2x1024x3072 .bf16) (x5 x6 : FVec Ideal S2048x2x32 .f32)
  (x7 : FVec Ideal S1x512 .f32)

/-- A half's partner, signed, by half and place in it. -/
def swapped (f : Fin 64 → EReal) (g : Fin 2) (r : Fin 32) : EReal :=
  if h : r.val < 16 then -f ⟨g.val * 32 + (16 + r.val), by omega⟩ else f ⟨g.val * 32 + (r.val - 16), by omega⟩

theorem swapped_eq (f : Fin 64 → EReal) (g : Fin 2) (r : Fin 32) :
    swapped f g r = partner f ⟨g.val * 32 + r.val, by omega⟩ := by
  unfold swapped partner
  by_cases h : r.val < 16
  · rw [dif_pos h, dif_pos (by show (g.val * 32 + r.val) % 32 < 16; omega)]
    exact congrArg (fun d => -f d) (Fin.ext (by show g.val * 32 + (16 + r.val) = g.val * 32 + r.val + 16; omega))
  · rw [dif_neg h, dif_neg (by show ¬(g.val * 32 + r.val) % 32 < 16; omega)]
    exact congrArg f (Fin.ext (by show g.val * 32 + (r.val - 16) = g.val * 32 + r.val - 16; omega))

/-- A head rotated, half by half. -/
theorem rotated_parts (f : Fin 64 → EReal) (n : Fin 2048) (g : Fin 2) (r : Fin 32) (d : Fin 64) (hd : g.val * 32 + r.val = d.val) :
    f ⟨g.val * 32 + r.val, by omega⟩ * x5 (ix3 n g r) + swapped f g r * x6 (ix3 n g r)
      = rotated f ((given x0 x1 x2 x3 x4 x5 x6 x7).cos n) ((given x0 x1 x2 x3 x4 x5 x6 x7).sin n) d := by
  have hg : (⟨d.val / 32, by omega⟩ : Fin 2) = g := Fin.ext (by show d.val / 32 = g.val; omega)
  have hr : (⟨d.val % 32, by omega⟩ : Fin 32) = r := Fin.ext (by show d.val % 32 = r.val; omega)
  have hi : (⟨g.val * 32 + r.val, by omega⟩ : Fin 64) = d := Fin.ext hd
  rw [swapped_eq, hi]
  unfold rotated
  have h5 : (given x0 x1 x2 x3 x4 x5 x6 x7).cos n d = x5 (ix3 n g r) := by rw [← hg, ← hr]; rfl
  have h6 : (given x0 x1 x2 x3 x4 x5 x6 x7).sin n d = x6 (ix3 n g r) := by rw [← hg, ← hr]; rfl
  rw [h5, h6]

theorem headed_normal (A : Args) (f : Fin 64 → EReal) (x : EReal) (b : Fin 8) (n : Fin 2304) (j : Fin 512) (d : Fin 64)
    (hf : ∀ e, f e = column A b n ⟨j.val / 64 * 64 + e.val, by omega⟩) (hx : x = A.heads j) (hd : d.val = j.val % 64) :
    headed f x d = normal A b n j := by
  unfold normal
  rw [funext hf, hx, show d = ⟨j.val % 64, by omega⟩ from Fin.ext hd]

theorem column_at (A : Args) (b : Fin 8) (n : Fin 2304) {j j' : Fin 3072} (h : j.val = j'.val) :
    column A b n j = column A b n j' := by
  rw [Fin.ext h]

end Cert.Reference3Ideal.Inp

end
-- ==== Proof.Inp.RefQuery.lean ====
/- The reference's queries, read at a batch, a column and a row. -/
module

public import proofs.«01_k».proof.Proof.Inp.RefHead
public import Idealize.ShloMosaic.Lib.Pointwise

@[expose] public section

set_option maxRecDepth 16384

noncomputable section

namespace Cert.Reference3Ideal.Inp

open Idealize.ShloMosaic Idealize.ShloMosaic.TcCoe Idealize.ShloMosaic.Tactic Idealize.SL.Sem
open Cert.Reference3Ideal Cert.Reference3Ideal.Gen Cert.Reference3Ideal.Read

open Cert.Inp

variable (x0 : FVec Ideal S8x256x1024 .f32) (x1 : FVec Ideal S8x2048x1024 .f32) (x2 : FVec Ideal S2x16x6144 .f32)
  (x3 : FVec Ideal S4x1024 .f32) (x4 : FVec Ideal S2x1024x3072 .bf16) (x5 x6 : FVec Ideal S2048x2x32 .f32)
  (x7 : FVec Ideal S1x512 .f32)

variable (b : Fin 8)

theorem ctx_query (n : Fin 256) (p : Fin 6) (d : Fin 64) : val_main_v104 (F := Ideal) x0 x2 x3 x4 x7 (ix4 b n p d)
    = headed (fun e => val_main_v73 (F := Ideal) x0 x2 x3 x4 (ix3 b n ⟨p.val * 64 + e.val, by omega⟩)) (x7 (ix2 0 ⟨p.val * 64 + d.val, by omega⟩)) d := by
  unfold headed
  pointwise [val_main_v104, val_main_v103, val_main_v102, val_main_v101, val_main_v100, val_main_v99, val_main_v98, val_main_v97,
    val_main_v96, val_main_v95, val_main_v94, val_main_v93, val_main_v92, val_main_v91, val_main_v86, val_main_v85, val_main_v84,
    val_main_v83, val_main_v74, val_main_cst_7, val_main_cst_8, val_main_cst_9]

theorem lat_query (n : Fin 2048) (p : Fin 6) (d : Fin 64) : val_main_v118 (F := Ideal) x1 x2 x3 x4 x7 (ix4 b n p d)
    = headed (fun e => val_main_v63 (F := Ideal) x1 x2 x3 x4 (ix3 b n ⟨p.val * 64 + e.val, by omega⟩)) (x7 (ix2 0 ⟨p.val * 64 + d.val, by omega⟩)) d := by
  unfold headed
  pointwise [val_main_v118, val_main_v117, val_main_v116, val_main_v115, val_main_v114, val_main_v113, val_main_v112, val_main_v111,
    val_main_v110, val_main_v109, val_main_v108, val_main_v107, val_main_v106, val_main_v105, val_main_v86, val_main_v85,
    val_main_v84, val_main_v83, val_main_v64, val_main_cst_10, val_main_cst_11, val_main_cst_12]

theorem query_turn (n : Fin 2048) (p : Fin 6) (g : Fin 2) (r : Fin 32) : val_main_v132 (F := Ideal) x1 x2 x3 x4 x5 x6 x7 (ix5 b n p g r)
    = (fun d => val_main_v118 (F := Ideal) x1 x2 x3 x4 x7 (ix4 b n p d)) ⟨g.val * 32 + r.val, by omega⟩ * x5 (ix3 n g r)
      + swapped (fun d => val_main_v118 (F := Ideal) x1 x2 x3 x4 x7 (ix4 b n p d)) g r * x6 (ix3 n g r) := by
  unfold swapped
  pointwise [val_main_v132, val_main_v131, val_main_v130, val_main_v129, val_main_v128, val_main_v127, val_main_v126, val_main_v125,
    val_main_v124, val_main_v123, val_main_v122, val_main_v121, val_main_v120, val_main_v119]

theorem query_join (n : Fin 2304) (j : Fin 384) : val_main_v224 (F := Ideal) x0 x1 x2 x3 x4 x5 x6 x7 (ix3 b j n)
    = if h : n.val < 256 then val_main_v104 (F := Ideal) x0 x2 x3 x4 x7 (ix4 b ⟨n.val, h⟩ ⟨j.val / 64, by omega⟩ ⟨j.val % 64, by omega⟩)
      else val_main_v132 (F := Ideal) x1 x2 x3 x4 x5 x6 x7
        (ix5 b ⟨n.val - 256, by omega⟩ ⟨j.val / 64, by omega⟩ ⟨j.val / 32 % 2, by omega⟩ ⟨j.val % 32, by omega⟩) := by
  pointwise [val_main_v224, val_main_v223, val_main_v136, val_main_v135, val_main_v134, val_main_v133]

/-- The reference's queries. -/
theorem query_at (n : Fin 2304) (j : Fin 384) : val_main_v224 (F := Ideal) x0 x1 x2 x3 x4 x5 x6 x7 (ix3 b j n)
    = queries (given x0 x1 x2 x3 x4 x5 x6 x7) b n j := by
  rw [query_join]
  unfold queries placed
  by_cases h : n.val < 256
  · rw [dif_pos h, dif_pos h, ctx_query]
    show _ = normal (given x0 x1 x2 x3 x4 x5 x6 x7) b n ⟨j.val / 64 * 64 + j.val % 64, by omega⟩
    refine headed_normal (given x0 x1 x2 x3 x4 x5 x6 x7) _ _ b n _ _ (fun e => ?_) rfl
      (by show j.val % 64 = (j.val / 64 * 64 + j.val % 64) % 64; omega)
    exact (ctx_column x0 x1 x2 x3 x4 x5 x6 x7 b n h _).trans (column_at _ b n (by
      show j.val / 64 * 64 + e.val = (j.val / 64 * 64 + j.val % 64) / 64 * 64 + e.val; omega))
  · rw [dif_neg h, dif_neg h]
    refine (query_turn ..).trans ((rotated_parts x0 x1 x2 x3 x4 x5 x6 x7
      (fun d => val_main_v118 (F := Ideal) x1 x2 x3 x4 x7 (ix4 b ⟨n.val - 256, by omega⟩ ⟨j.val / 64, by omega⟩ d))
      ⟨n.val - 256, by omega⟩ ⟨j.val / 32 % 2, by omega⟩ ⟨j.val % 32, by omega⟩ ⟨j.val % 64, by omega⟩
      (by show j.val / 32 % 2 * 32 + j.val % 32 = j.val % 64; omega)).trans ?_)
    refine congrArg (fun f => rotated f _ _ _) (funext fun d => ?_)
    rw [lat_query]
    refine headed_normal (given x0 x1 x2 x3 x4 x5 x6 x7) _ _ b n ⟨j.val / 64 * 64 + d.val, by omega⟩ _ (fun e => ?_) rfl
      (by show d.val = (j.val / 64 * 64 + d.val) % 64; omega)
    exact (lat_column x0 x1 x2 x3 x4 x5 x6 x7 b n h _).trans (column_at _ b n (by
      show j.val / 64 * 64 + e.val = (j.val / 64 * 64 + d.val) / 64 * 64 + e.val; omega))

end Cert.Reference3Ideal.Inp

end
-- ==== Proof.Inp.RefKey.lean ====
/- The reference's keys, read at a batch, a row and a column. -/
module

public import proofs.«01_k».proof.Proof.Inp.RefHead
public import Idealize.ShloMosaic.Lib.Pointwise

@[expose] public section

set_option maxRecDepth 16384

noncomputable section

namespace Cert.Reference3Ideal.Inp

open Idealize.ShloMosaic Idealize.ShloMosaic.TcCoe Idealize.ShloMosaic.Tactic Idealize.SL.Sem
open Cert.Reference3Ideal Cert.Reference3Ideal.Gen Cert.Reference3Ideal.Read

open Cert.Inp

variable (x0 : FVec Ideal S8x256x1024 .f32) (x1 : FVec Ideal S8x2048x1024 .f32) (x2 : FVec Ideal S2x16x6144 .f32)
  (x3 : FVec Ideal S4x1024 .f32) (x4 : FVec Ideal S2x1024x3072 .bf16) (x5 x6 : FVec Ideal S2048x2x32 .f32)
  (x7 : FVec Ideal S1x512 .f32)

variable (b : Fin 8)

theorem ctx_key (n : Fin 256) (p : Fin 2) (d : Fin 64) : val_main_v150 (F := Ideal) x0 x2 x3 x4 x7 (ix4 b n p d)
    = headed (fun e => val_main_v73 (F := Ideal) x0 x2 x3 x4 (ix3 b n ⟨384 + (p.val * 64 + e.val), by omega⟩))
        (x7 (ix2 0 ⟨384 + (p.val * 64 + d.val), by omega⟩)) d := by
  unfold headed
  pointwise [val_main_v150, val_main_v149, val_main_v148, val_main_v147, val_main_v146, val_main_v145, val_main_v144,
    val_main_v143, val_main_v142, val_main_v141, val_main_v140, val_main_v139, val_main_v138, val_main_v137,
    val_main_v90, val_main_v89, val_main_v88, val_main_v87, val_main_v75, val_main_cst_13, val_main_cst_14,
    val_main_cst_15]

theorem lat_key (n : Fin 2048) (p : Fin 2) (d : Fin 64) : val_main_v164 (F := Ideal) x1 x2 x3 x4 x7 (ix4 b n p d)
    = headed (fun e => val_main_v63 (F := Ideal) x1 x2 x3 x4 (ix3 b n ⟨384 + (p.val * 64 + e.val), by omega⟩))
        (x7 (ix2 0 ⟨384 + (p.val * 64 + d.val), by omega⟩)) d := by
  unfold headed
  pointwise [val_main_v164, val_main_v163, val_main_v162, val_main_v161, val_main_v160, val_main_v159, val_main_v158,
    val_main_v157, val_main_v156, val_main_v155, val_main_v154, val_main_v153, val_main_v152, val_main_v151,
    val_main_v90, val_main_v89, val_main_v88, val_main_v87, val_main_v65, val_main_cst_16, val_main_cst_17,
    val_main_cst_18]

theorem key_turn (n : Fin 2048) (p : Fin 2) (g : Fin 2) (r : Fin 32) : val_main_v178 (F := Ideal) x1 x2 x3 x4 x5 x6 x7 (ix5 b n p g r)
    = (fun d => val_main_v164 (F := Ideal) x1 x2 x3 x4 x7 (ix4 b n p d)) ⟨g.val * 32 + r.val, by omega⟩ * x5 (ix3 n g r)
      + swapped (fun d => val_main_v164 (F := Ideal) x1 x2 x3 x4 x7 (ix4 b n p d)) g r * x6 (ix3 n g r) := by
  unfold swapped
  pointwise [val_main_v178, val_main_v177, val_main_v176, val_main_v175, val_main_v174, val_main_v173, val_main_v172,
    val_main_v171, val_main_v170, val_main_v169, val_main_v168, val_main_v167, val_main_v166, val_main_v165]

theorem key_join (n : Fin 2304) (j : Fin 128) : val_main_v225 (F := Ideal) x0 x1 x2 x3 x4 x5 x6 x7 (ix3 b n j)
    = if h : n.val < 256 then val_main_v150 (F := Ideal) x0 x2 x3 x4 x7 (ix4 b ⟨n.val, h⟩ ⟨j.val / 64, by omega⟩ ⟨j.val % 64, by omega⟩)
      else val_main_v178 (F := Ideal) x1 x2 x3 x4 x5 x6 x7
        (ix5 b ⟨n.val - 256, by omega⟩ ⟨j.val / 64, by omega⟩ ⟨j.val / 32 % 2, by omega⟩ ⟨j.val % 32, by omega⟩) := by
  pointwise [val_main_v225, val_main_v182, val_main_v181, val_main_v180, val_main_v179]

/-- The reference's keys. -/
theorem key_at (n : Fin 2304) (j : Fin 128) : val_main_v225 (F := Ideal) x0 x1 x2 x3 x4 x5 x6 x7 (ix3 b n j)
    = keys (given x0 x1 x2 x3 x4 x5 x6 x7) b n j := by
  rw [key_join]
  unfold keys placed
  by_cases h : n.val < 256
  · rw [dif_pos h, dif_pos h, ctx_key]
    show _ = normal (given x0 x1 x2 x3 x4 x5 x6 x7) b n ⟨384 + (j.val / 64 * 64 + j.val % 64), by omega⟩
    refine headed_normal (given x0 x1 x2 x3 x4 x5 x6 x7) _ _ b n _ _ (fun e => ?_) rfl
      (by show j.val % 64 = (384 + (j.val / 64 * 64 + j.val % 64)) % 64; omega)
    exact (ctx_column x0 x1 x2 x3 x4 x5 x6 x7 b n h _).trans (column_at _ b n (by
      show 384 + (j.val / 64 * 64 + e.val) = (384 + (j.val / 64 * 64 + j.val % 64)) / 64 * 64 + e.val; omega))
  · rw [dif_neg h, dif_neg h]
    refine (key_turn ..).trans ((rotated_parts x0 x1 x2 x3 x4 x5 x6 x7
      (fun d => val_main_v164 (F := Ideal) x1 x2 x3 x4 x7 (ix4 b ⟨n.val - 256, by omega⟩ ⟨j.val / 64, by omega⟩ d))
      ⟨n.val - 256, by omega⟩ ⟨j.val / 32 % 2, by omega⟩ ⟨j.val % 32, by omega⟩ ⟨j.val % 64, by omega⟩
      (by show j.val / 32 % 2 * 32 + j.val % 32 = j.val % 64; omega)).trans ?_)
    refine congrArg (fun f => rotated f _ _ _) (funext fun d => ?_)
    rw [lat_key]
    refine headed_normal (given x0 x1 x2 x3 x4 x5 x6 x7) _ _ b n ⟨384 + (j.val / 64 * 64 + d.val), by omega⟩ _ (fun e => ?_) rfl
      (by show d.val = (384 + (j.val / 64 * 64 + d.val)) % 64; omega)
    exact (lat_column x0 x1 x2 x3 x4 x5 x6 x7 b n h _).trans (column_at _ b n (by
      show 384 + (j.val / 64 * 64 + e.val) = (384 + (j.val / 64 * 64 + d.val)) / 64 * 64 + e.val; omega))

end Cert.Reference3Ideal.Inp

end
-- ==== Proof.Inp.RefRest.lean ====
/- The reference's retention rows and the columns stored as they are. -/
module

public import proofs.«01_k».proof.Proof.Inp.RefHead
public import Idealize.ShloMosaic.Lib.Pointwise

@[expose] public section

set_option maxRecDepth 16384

noncomputable section

namespace Cert.Reference3Ideal.Inp

open Idealize.ShloMosaic Idealize.ShloMosaic.TcCoe Idealize.ShloMosaic.Tactic Idealize.SL.Sem
open Cert.Reference3Ideal Cert.Reference3Ideal.Gen Cert.Reference3Ideal.Read

open Cert.Inp

variable (x0 : FVec Ideal S8x256x1024 .f32) (x1 : FVec Ideal S8x2048x1024 .f32) (x2 : FVec Ideal S2x16x6144 .f32)
  (x3 : FVec Ideal S4x1024 .f32) (x4 : FVec Ideal S2x1024x3072 .bf16) (x5 x6 : FVec Ideal S2048x2x32 .f32)
  (x7 : FVec Ideal S1x512 .f32)

variable (b : Fin 8)

theorem v_at (n : Fin 2304) (j : Fin 128) : val_main_v227 (F := Ideal) x0 x1 x2 x3 x4 (ix3 b n j)
    = if h : n.val < 256 then val_main_v73 (F := Ideal) x0 x2 x3 x4 (ix3 b ⟨n.val, h⟩ ⟨512 + j.val, by omega⟩)
      else val_main_v63 (F := Ideal) x1 x2 x3 x4 (ix3 b ⟨n.val - 256, by omega⟩ ⟨512 + j.val, by omega⟩) := by
  pointwise [val_main_v227, val_main_v226, val_main_v76, val_main_v66]

theorem z_at (n : Fin 2304) (j : Fin 384) : val_main_v230 (F := Ideal) x0 x1 x2 x3 x4 (ix3 b n j)
    = if h : n.val < 256 then val_main_v73 (F := Ideal) x0 x2 x3 x4 (ix3 b ⟨n.val, h⟩ ⟨1664 + j.val, by omega⟩)
      else val_main_v63 (F := Ideal) x1 x2 x3 x4 (ix3 b ⟨n.val - 256, by omega⟩ ⟨1664 + j.val, by omega⟩) := by
  pointwise [val_main_v230, val_main_v229, val_main_v80, val_main_v70]

theorem xbc_at (n : Fin 2304) (j : Fin 896) : val_main_v232 (F := Ideal) x0 x1 x2 x3 x4 (ix3 b n j)
    = if h : n.val < 256 then val_main_v73 (F := Ideal) x0 x2 x3 x4 (ix3 b ⟨n.val, h⟩ ⟨2048 + j.val, by omega⟩)
      else val_main_v63 (F := Ideal) x1 x2 x3 x4 (ix3 b ⟨n.val - 256, by omega⟩ ⟨2048 + j.val, by omega⟩) := by
  pointwise [val_main_v232, val_main_v231, val_main_v81, val_main_v71]

theorem dt_at (n : Fin 2304) (j : Fin 128) : val_main_v233 (F := Ideal) x0 x1 x2 x3 x4 (ix3 b n j)
    = if h : n.val < 256 then val_main_v73 (F := Ideal) x0 x2 x3 x4 (ix3 b ⟨n.val, h⟩ ⟨2944 + j.val, by omega⟩)
      else val_main_v63 (F := Ideal) x1 x2 x3 x4 (ix3 b ⟨n.val - 256, by omega⟩ ⟨2944 + j.val, by omega⟩) := by
  pointwise [val_main_v233, val_main_v82, val_main_v72]

/-- The reference's columns stored as they are. -/
theorem columns_join (n : Fin 2304) (j : Fin 3072) :
    (if h : n.val < 256 then val_main_v73 (F := Ideal) x0 x2 x3 x4 (ix3 b ⟨n.val, h⟩ j)
      else val_main_v63 (F := Ideal) x1 x2 x3 x4 (ix3 b ⟨n.val - 256, by omega⟩ j))
      = column (given x0 x1 x2 x3 x4 x5 x6 x7) b n j := by
  split_ifs with h
  · exact ctx_column x0 x1 x2 x3 x4 x5 x6 x7 b n h j
  · exact lat_column x0 x1 x2 x3 x4 x5 x6 x7 b n h j

theorem ret_join (n : Fin 2304) (j : Fin 1024) : val_main_v228 (F := Ideal) x0 x1 x2 x3 x4 x5 x6 (ix3 b n j)
    = if h : j.val < 256 then val_main_v200 (F := Ideal) x0 x1 x2 x3 x4 x5 x6 (ix3 b n ⟨j.val, h⟩)
      else if h : j.val - 256 < 256 then
        val_main_v218 (F := Ideal) x0 x1 x2 x3 x4 x5 x6 (ix3 b n ⟨j.val - 256, h⟩) * Ideal.ofBits .f32 0x3E000000#32
      else val_main_v221 (F := Ideal) x0 x1 x2 x3 x4 (ix3 b n ⟨j.val - 256 - 256, by omega⟩) := by
  pointwise [val_main_v228, val_main_v222, val_main_v220, val_main_v219, val_main_cst_19]

theorem rest_at (n : Fin 2304) (j : Fin 512) : val_main_v221 (F := Ideal) x0 x1 x2 x3 x4 (ix3 b n j)
    = if h : n.val < 256 then val_main_v73 (F := Ideal) x0 x2 x3 x4 (ix3 b ⟨n.val, h⟩ ⟨1152 + j.val, by omega⟩)
      else val_main_v63 (F := Ideal) x1 x2 x3 x4 (ix3 b ⟨n.val - 256, by omega⟩ ⟨1152 + j.val, by omega⟩) := by
  pointwise [val_main_v221, val_main_v79, val_main_v69]

theorem query_halves (n : Fin 2304) (j : Fin 256) : val_main_v200 (F := Ideal) x0 x1 x2 x3 x4 x5 x6 (ix3 b n j)
    = if h : n.val < 256 then val_main_v73 (F := Ideal) x0 x2 x3 x4 (ix3 b ⟨n.val, h⟩ ⟨640 + j.val, by omega⟩)
      else val_main_v197 (F := Ideal) x1 x2 x3 x4 x5 x6
        (ix5 b ⟨n.val - 256, by omega⟩ ⟨j.val / 64, by omega⟩ ⟨j.val / 32 % 2, by omega⟩ ⟨j.val % 32, by omega⟩) := by
  pointwise [val_main_v200, val_main_v199, val_main_v198, val_main_v77]

theorem key_halves (n : Fin 2304) (j : Fin 256) : val_main_v218 (F := Ideal) x0 x1 x2 x3 x4 x5 x6 (ix3 b n j)
    = if h : n.val < 256 then val_main_v73 (F := Ideal) x0 x2 x3 x4 (ix3 b ⟨n.val, h⟩ ⟨896 + j.val, by omega⟩)
      else val_main_v215 (F := Ideal) x1 x2 x3 x4 x5 x6
        (ix5 b ⟨n.val - 256, by omega⟩ ⟨j.val / 64, by omega⟩ ⟨j.val / 32 % 2, by omega⟩ ⟨j.val % 32, by omega⟩) := by
  pointwise [val_main_v218, val_main_v217, val_main_v216, val_main_v78]

theorem query_angles (n : Fin 2048) (p : Fin 4) (g : Fin 2) (r : Fin 32) : val_main_v197 (F := Ideal) x1 x2 x3 x4 x5 x6 (ix5 b n p g r)
    = (fun d : Fin 64 => val_main_v63 (F := Ideal) x1 x2 x3 x4 (ix3 b n ⟨640 + (p.val * 64 + d.val), by omega⟩)) ⟨g.val * 32 + r.val, by omega⟩ * x5 (ix3 n g r)
      + swapped (fun d : Fin 64 => val_main_v63 (F := Ideal) x1 x2 x3 x4 (ix3 b n ⟨640 + (p.val * 64 + d.val), by omega⟩)) g r * x6 (ix3 n g r) := by
  unfold swapped
  pointwise [val_main_v197, val_main_v196, val_main_v195, val_main_v194, val_main_v193, val_main_v192, val_main_v191, val_main_v190,
    val_main_v189, val_main_v188, val_main_v187, val_main_v186, val_main_v185, val_main_v184, val_main_v183, val_main_v67]
  simp only [Nat.add_assoc]

theorem key_angles (n : Fin 2048) (p : Fin 4) (g : Fin 2) (r : Fin 32) : val_main_v215 (F := Ideal) x1 x2 x3 x4 x5 x6 (ix5 b n p g r)
    = (fun d : Fin 64 => val_main_v63 (F := Ideal) x1 x2 x3 x4 (ix3 b n ⟨896 + (p.val * 64 + d.val), by omega⟩)) ⟨g.val * 32 + r.val, by omega⟩ * x5 (ix3 n g r)
      + swapped (fun d : Fin 64 => val_main_v63 (F := Ideal) x1 x2 x3 x4 (ix3 b n ⟨896 + (p.val * 64 + d.val), by omega⟩)) g r * x6 (ix3 n g r) := by
  unfold swapped
  pointwise [val_main_v215, val_main_v214, val_main_v213, val_main_v212, val_main_v211, val_main_v210, val_main_v209, val_main_v208,
    val_main_v207, val_main_v206, val_main_v205, val_main_v204, val_main_v203, val_main_v202, val_main_v201, val_main_v68]
  simp only [Nat.add_assoc]

theorem query_spun (n : Fin 2304) (j : Fin 256) : val_main_v200 (F := Ideal) x0 x1 x2 x3 x4 x5 x6 (ix3 b n j)
    = spun (given x0 x1 x2 x3 x4 x5 x6 x7) 640 (by decide) b n j := by
  rw [query_halves]
  unfold spun placed
  by_cases h : n.val < 256
  · rw [dif_pos h, dif_pos h]
    exact (ctx_column x0 x1 x2 x3 x4 x5 x6 x7 b n h _).trans (column_at (given x0 x1 x2 x3 x4 x5 x6 x7) b n (by
      show 640 + j.val = 640 + (j.val / 64 * 64 + j.val % 64); omega))
  · rw [dif_neg h, dif_neg h]
    refine (query_angles ..).trans ((rotated_parts x0 x1 x2 x3 x4 x5 x6 x7
      (fun d : Fin 64 => val_main_v63 (F := Ideal) x1 x2 x3 x4
        (ix3 b ⟨n.val - 256, by omega⟩ ⟨640 + (j.val / 64 * 64 + d.val), by omega⟩))
      ⟨n.val - 256, by omega⟩ ⟨j.val / 32 % 2, by omega⟩ ⟨j.val % 32, by omega⟩ ⟨j.val % 64, by omega⟩
      (by show j.val / 32 % 2 * 32 + j.val % 32 = j.val % 64; omega)).trans ?_)
    refine congrArg (fun f => rotated f _ _ _) (funext fun d => ?_)
    exact lat_column x0 x1 x2 x3 x4 x5 x6 x7 b n h _

theorem key_spun (n : Fin 2304) (j : Fin 256) : val_main_v218 (F := Ideal) x0 x1 x2 x3 x4 x5 x6 (ix3 b n j)
    = spun (given x0 x1 x2 x3 x4 x5 x6 x7) 896 (by decide) b n j := by
  rw [key_halves]
  unfold spun placed
  by_cases h : n.val < 256
  · rw [dif_pos h, dif_pos h]
    exact (ctx_column x0 x1 x2 x3 x4 x5 x6 x7 b n h _).trans (column_at (given x0 x1 x2 x3 x4 x5 x6 x7) b n (by
      show 896 + j.val = 896 + (j.val / 64 * 64 + j.val % 64); omega))
  · rw [dif_neg h, dif_neg h]
    refine (key_angles ..).trans ((rotated_parts x0 x1 x2 x3 x4 x5 x6 x7
      (fun d : Fin 64 => val_main_v63 (F := Ideal) x1 x2 x3 x4
        (ix3 b ⟨n.val - 256, by omega⟩ ⟨896 + (j.val / 64 * 64 + d.val), by omega⟩))
      ⟨n.val - 256, by omega⟩ ⟨j.val / 32 % 2, by omega⟩ ⟨j.val % 32, by omega⟩ ⟨j.val % 64, by omega⟩
      (by show j.val / 32 % 2 * 32 + j.val % 32 = j.val % 64; omega)).trans ?_)
    refine congrArg (fun f => rotated f _ _ _) (funext fun d => ?_)
    exact lat_column x0 x1 x2 x3 x4 x5 x6 x7 b n h _

/-- The reference's retention rows. -/
theorem ret_at (n : Fin 2304) (j : Fin 1024) : val_main_v228 (F := Ideal) x0 x1 x2 x3 x4 x5 x6 (ix3 b n j)
    = retention (given x0 x1 x2 x3 x4 x5 x6 x7) b n j := by
  rw [ret_join]
  unfold retention
  by_cases h : j.val < 256
  · rw [dif_pos h, dif_pos h, query_spun x0 x1 x2 x3 x4 x5 x6 x7]
  · rw [dif_neg h, dif_neg h]
    by_cases h' : j.val < 512
    · rw [dif_pos (show j.val - 256 < 256 by omega), dif_pos h', key_spun x0 x1 x2 x3 x4 x5 x6 x7]
    · rw [dif_neg (show ¬j.val - 256 < 256 by omega), dif_neg h', rest_at, columns_join x0 x1 x2 x3 x4 x5 x6 x7]
      exact column_at _ b n (by show 1152 + (j.val - 256 - 256) = 640 + j.val; omega)

end Cert.Reference3Ideal.Inp

end
-- ==== Proof.Inp.Value.lean ====
/- The input projection gives the reference's arrays. -/
module

public import proofs.«01_k».proof.Defs
public import proofs.«01_k».proof.Proof.Inp.Heads
public import proofs.«01_k».proof.Proof.Inp.Ret
public import proofs.«01_k».proof.Proof.Inp.Cols
public import proofs.«01_k».proof.Proof.Inp.RefQuery
public import proofs.«01_k».proof.Proof.Inp.RefKey
public import proofs.«01_k».proof.Proof.Inp.RefRest
public import proofs.«01_k».proof.Proof.Gen.Kernel3Ideal.Value
public import proofs.«01_k».proof.Proof.Gen.Reference3Ideal.Run
public import Idealize.ShloMosaic.Lib.Claim

@[expose] public section

set_option maxRecDepth 16384

noncomputable section

namespace Cert.Inp

open Idealize.ShloMosaic Idealize.ShloMosaic.TcCoe Idealize.ShloMosaic.Tactic Idealize.SL.Sem
open Cert.Kernel3Ideal

variable (m : (ℓ : Loc nD τ sig) → Buf (Elt Ideal) ℓ) (c : Dev nD)

theorem idx3_split {p q r : ℕ} (y : (⟨3, ![p, q, r]⟩ : Shape).Idx) :
    ∃ (a : Fin p) (b : Fin q) (d : Fin r), y = ix3 a b d :=
  ⟨y 0, y 1, y 2, by funext a; fin_cases a <;> rfl⟩

theorem queries_eq : (Cert.Kernel3Ideal.Gen.dats m 0 c).arrAt 9 Cert.Kernel3Ideal.cfg0.N
    = Cert.Reference3Ideal.Read.val_main_v224 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (Cert.Kernel3Ideal.Inp.final9 m c).trans (funext fun y => ?_)
  obtain ⟨b, n, j, rfl⟩ := idx3_split (p := 8) (q := 384) (r := 2304) y
  exact (Cert.Reference3Ideal.Inp.query_at
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..).symm

theorem keys_eq : (Cert.Kernel3Ideal.Gen.dats m 0 c).arrAt 10 Cert.Kernel3Ideal.cfg0.N
    = Cert.Reference3Ideal.Read.val_main_v225 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (Cert.Kernel3Ideal.Inp.final10 m c).trans (funext fun y => ?_)
  obtain ⟨b, n, j, rfl⟩ := idx3_split (p := 8) (q := 2304) (r := 128) y
  exact (Cert.Reference3Ideal.Inp.key_at
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..).symm

theorem values_eq : (Cert.Kernel3Ideal.Gen.dats m 0 c).arrAt 11 Cert.Kernel3Ideal.cfg0.N
    = Cert.Reference3Ideal.Read.val_main_v227 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (Cert.Kernel3Ideal.Inp.final11 m c).trans (funext fun y => ?_)
  obtain ⟨b, n, j, rfl⟩ := idx3_split (p := 8) (q := 2304) (r := 128) y
  exact ((Cert.Reference3Ideal.Inp.v_at ..).trans (Cert.Reference3Ideal.Inp.columns_join
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..)).symm

theorem retained_eq : (Cert.Kernel3Ideal.Gen.dats m 0 c).arrAt 12 Cert.Kernel3Ideal.cfg0.N
    = Cert.Reference3Ideal.Read.val_main_v228 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  refine (Cert.Kernel3Ideal.Inp.final12 m c).trans (funext fun y => ?_)
  obtain ⟨b, n, j, rfl⟩ := idx3_split (p := 8) (q := 2304) (r := 1024) y
  exact (Cert.Reference3Ideal.Inp.ret_at
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..).symm

theorem gates_eq : (Cert.Kernel3Ideal.Gen.dats m 0 c).arrAt 13 Cert.Kernel3Ideal.cfg0.N
    = Cert.Reference3Ideal.Read.val_main_v230 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (Cert.Kernel3Ideal.Inp.final13 m c).trans (funext fun y => ?_)
  obtain ⟨b, n, j, rfl⟩ := idx3_split (p := 8) (q := 2304) (r := 384) y
  exact ((Cert.Reference3Ideal.Inp.z_at ..).trans (Cert.Reference3Ideal.Inp.columns_join
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..)).symm

theorem scanned_eq : (Cert.Kernel3Ideal.Gen.dats m 0 c).arrAt 14 Cert.Kernel3Ideal.cfg0.N
    = Cert.Reference3Ideal.Read.val_main_v232 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (Cert.Kernel3Ideal.Inp.final14 m c).trans (funext fun y => ?_)
  obtain ⟨b, n, j, rfl⟩ := idx3_split (p := 8) (q := 2304) (r := 896) y
  exact ((Cert.Reference3Ideal.Inp.xbc_at ..).trans (Cert.Reference3Ideal.Inp.columns_join
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..)).symm

theorem steps_eq : (Cert.Kernel3Ideal.Gen.dats m 0 c).arrAt 15 Cert.Kernel3Ideal.cfg0.N
    = Cert.Reference3Ideal.Read.val_main_v233 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (Cert.Kernel3Ideal.Inp.final15 m c).trans (funext fun y => ?_)
  obtain ⟨b, n, j, rfl⟩ := idx3_split (p := 8) (q := 2304) (r := 128) y
  exact ((Cert.Reference3Ideal.Inp.dt_at ..).trans (Cert.Reference3Ideal.Inp.columns_join
      (Cert.Kernel3Ideal.Inp.aCtx m c) (Cert.Kernel3Ideal.Inp.aLat m c) (Cert.Kernel3Ideal.Inp.aMods m c)
      (Cert.Kernel3Ideal.Inp.aGain m c) (Cert.Kernel3Ideal.Inp.aIn m c) (Cert.Kernel3Ideal.Inp.aCos m c)
      (Cert.Kernel3Ideal.Inp.aSin m c) (Cert.Kernel3Ideal.Inp.aHeads m c) ..)).symm

end Cert.Inp

end
-- ==== Proof.Mod.Point.lean ====
/- What the modulation leaves in the result, entry by entry. -/
module

public import proofs.«01_k».proof.Proof.Gen.Kernel4Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Mod

open Idealize.ShloMosaic

/-- The conditioning vectors of the batches, then the context's, then zeros. -/
def conds (u : Fin 8 → Fin 1024 → EReal) (v : Fin 1024 → EReal) (r : Fin 16) (k : Fin 1024) : EReal :=
  if h : r.val < 8 then u ⟨r.val, h⟩ k else if r.val - 8 < 1 then v k else 0

/-- One entry of the modulation: a conditioning vector through SiLU, against a column of weights, plus a bias. -/
def entry (s w : Fin 1024 → EReal) (b : EReal) : EReal := (∑ k : Fin 1024, s k * Ideal.logistic (s k) * w k) + b

end Cert.Mod

namespace Cert.Kernel4Ideal.Mod

open Idealize.ShloMosaic Idealize.ShloMosaic.TcCoe Idealize.ShloMosaic.Tactic Idealize.SL.Sem
open Cert.Kernel4Ideal Cert.Kernel4Ideal.Gen

open Cert.Mod

theorem pay1_at (v : FVec Ideal S16x1024 .f32) (w : FVec Ideal S1x1024x1536 .f32) (b : FVec Ideal S1x1x1536 .f32)
    (r : Fin 16) (j : Fin 1536) : k0_pay1 (F := Ideal) v w b (ix3 0 r j)
      = entry (fun k => v (ix2 r k)) (fun k => w (ix3 0 k j)) (b (ix3 0 0 j)) := by
  unfold entry
  pointwise [k0_pay1]

theorem idx : ∀ t : Fin cfg0.N,
    win0_0.index t = ![0, 0] ∧ win0_1.index t = ![t.val / 4, 0, t.val % 4] ∧ win0_2.index t = ![t.val / 4, 0, t.val % 4]
      ∧ win0_3.index t = ![t.val / 4, 0, t.val % 4] :=
  (by decide +kernel : ∀ t : Fin grid0.N, _)

variable (m : (ℓ : Loc nD τ sig) → Buf (Elt Ideal) ℓ) (c : Dev nD)

/-- The arguments' arrays. -/
def aLat : FVec Ideal S8x1024 .f32 := m ((c.tc : Thread nD τ).loc main_arg0)
def aCtx : FVec Ideal S1024 .f32 := m ((c.tc : Thread nD τ).loc main_arg1)
def aW : FVec Ideal S2x1024x6144 .f32 := m ((c.tc : Thread nD τ).loc main_arg2)
def aB : FVec Ideal S2x6144 .f32 := m ((c.tc : Thread nD τ).loc main_arg3)

/-- The arrays the host's operations leave. -/
def tCond : FVec Ideal S16x1024 .f32 := V m c main_v2
def tBias : FVec Ideal S2x1x6144 .f32 := V m c main_v3

theorem tCond_at (r : Fin 16) (k : Fin 1024) : tCond m c (ix2 r k)
    = conds (fun b k => aLat m c (ix2 b k)) (fun k => aCtx m c (ix1 k)) r k := by
  unfold tCond aLat aCtx V conds
  simp only [hostOps0]
  after_reads_simp
  pointwise
  after_reads_simp
  pointwise
  rfl

theorem tBias_at (l : Fin 2) (j : Fin 6144) : tBias m c (ix3 l 0 j) = aB m c (ix2 l j) := by
  unfold tBias aB V
  simp only [hostOps0]
  entry_read
  pointwise

theorem lt8 (t : Fin cfg0.N) : t.val < 8 := Nat.lt_of_lt_of_eq t.isLt N_0

/-- The layer of a point. -/
abbrev lay (t : Fin cfg0.N) : Fin 2 := ⟨t.val / 4, by have := lt8 t; omega⟩

/-- The column of a point's column. -/
abbrev col (t : Fin cfg0.N) (j : Fin 1536) : Fin 6144 := ⟨t.val % 4 * 1536 + j.val, by omega⟩

variable (t : Fin cfg0.N)

theorem cond_at (r : Fin 16) (k : Fin 1024) : iblk m c 0 t (ix2 r k)
    = conds (fun b k => aLat m c (ix2 b k)) (fun k => aCtx m c (ix1 k)) r k := by
  rw [← tCond_at]
  blk_point [iblk, V, idx t, tCond]

theorem w_at (k : Fin 1024) (j : Fin 1536) : iblk m c 1 t (ix3 0 k j) = aW m c (ix3 (lay t) k (col t j)) := by
  have h : V m c main_arg2 = aW m c := V_main_arg2 m c
  rw [← h]
  blk_point [iblk, idx t]

theorem bias_at (j : Fin 1536) : iblk m c 2 t (ix3 0 0 j) = aB m c (ix2 (lay t) (col t j)) := by
  rw [← tBias_at]
  blk_point [iblk, V, idx t, tBias]

/-- The result, entry by entry. -/
def rowOf (l : Fin 2) (r : Fin 16) (j : Fin 6144) : EReal :=
  entry (conds (fun b k => aLat m c (ix2 b k)) (fun k => aCtx m c (ix1 k)) r) (fun k => aW m c (ix3 l k j)) (aB m c (ix2 l j))

theorem tile_at (r : Fin 16) (j : Fin 1536) :
    k0_pay1 (F := Ideal) (iblk m c 0 t) (iblk m c 1 t) (iblk m c 2 t) (ix3 0 r j) = rowOf m c (lay t) r (col t j) := by
  rw [pay1_at]
  unfold rowOf
  simp only [cond_at, w_at, bias_at]

theorem idx3_eq (y : S1x16x1536.Idx) : y = ix3 0 (y 1) (y 2) := by
  funext a
  fin_cases a
  · exact Subsingleton.elim (α := Fin 1) _ _
  · rfl
  · rfl

theorem rowOf_congr (l l' : Fin 2) (r r' : Fin 16) (j j' : Fin 6144) (hl : l.val = l'.val) (hr : r.val = r'.val)
    (hj : j.val = j'.val) : rowOf m c l r j = rowOf m c l' r' j' := by
  rw [Fin.ext hl, Fin.ext hr, Fin.ext hj]

theorem final : (dats m 0 c).arrAt 3 cfg0.N = fun y : S2x16x6144.Idx => rowOf m c (y 0) (y 1) (y 2) := by
  refine (dats m 0 c).arrAt_eq_of_covers 3 _ (by decide +kernel) fun t _ y => ?_
  have ht := lt8 t
  blk_simp
  rw [after0_3]
  frame_out
  refine (congrArg (k0_pay1 (F := Ideal) (iblk m c 0 t) (iblk m c 1 t) (iblk m c 2 t)) (idx3_eq y)).trans ?_
  refine (tile_at m c t (y 1) (y 2)).trans (rowOf_congr m c _ _ _ _ _ _ ?_ ?_ ?_)
  all_goals blk_simp [idx t]

end Cert.Kernel4Ideal.Mod

end
-- ==== Proof.Mod.Value.lean ====
/- The modulation gives the reference's array. -/
module

public import proofs.«01_k».proof.Proof.Mod.Point
public import proofs.«01_k».proof.Proof.Gen.Reference4Ideal.Read

@[expose] public section

set_option maxRecDepth 16384

noncomputable section

namespace Cert.Reference4Ideal.Mod

open Idealize.ShloMosaic Idealize.ShloMosaic.TcCoe Idealize.ShloMosaic.Tactic Idealize.SL.Sem
open Cert.Reference4Ideal Cert.Reference4Ideal.Gen Cert.Reference4Ideal.Read

open Cert.Mod

variable (x0 : FVec Ideal S8x1024 .f32) (x1 : FVec Ideal S1024 .f32) (x2 : FVec Ideal S2x1024x6144 .f32)
  (x3 : FVec Ideal S2x6144 .f32)

theorem cond_at (r : Fin 16) (k : Fin 1024) : val_main_v2 (F := Ideal) x0 x1 (ix2 r k)
    = conds (fun b k => x0 (ix2 b k)) (fun k => x1 (ix1 k)) r k := by
  unfold conds
  pointwise [val_main_v2, val_main_v1, val_main_v0, val_main_cst]
  rfl

theorem silu_at (r : Fin 16) (k : Fin 1024) : val_main_v3 (F := Ideal) x0 x1 (ix2 r k)
    = val_main_v2 (F := Ideal) x0 x1 (ix2 r k) * Ideal.logistic (val_main_v2 (F := Ideal) x0 x1 (ix2 r k)) := by
  pointwise [val_main_v3, val_main_call0_v5, val_main_call0_v4, val_main_call0_v3, val_main_call0_v2, val_main_call0_v1,
    val_main_call0_v0, val_main_call0_cst, val_main_call0_cst_0]
  rfl

theorem result_at (l : Fin 2) (r : Fin 16) (j : Fin 6144) : val_main_v8 (F := Ideal) x0 x1 x2 x3 (ix3 l r j)
    = entry (conds (fun b k => x0 (ix2 b k)) (fun k => x1 (ix1 k)) r) (fun k => x2 (ix3 l k j)) (x3 (ix2 l j)) := by
  have h : val_main_v8 (F := Ideal) x0 x1 x2 x3 (ix3 l r j)
      = (∑ k : Fin 1024, x2 (ix3 l k j) * val_main_v3 (F := Ideal) x0 x1 (ix2 r k)) + x3 (ix2 l j) := by
    pointwise [val_main_v8, val_main_v7, val_main_v6, val_main_v5, val_main_v4]
  rw [h]
  unfold entry
  simp only [silu_at, cond_at, mul_comm]

end Cert.Reference4Ideal.Mod

namespace Cert.Mod

open Idealize.ShloMosaic Idealize.ShloMosaic.TcCoe Idealize.ShloMosaic.Tactic Idealize.SL.Sem
open Cert.Kernel4Ideal

variable (m : (ℓ : Loc nD τ sig) → Buf (Elt Ideal) ℓ) (c : Dev nD)

theorem value : (Cert.Kernel4Ideal.Gen.dats m 0 c).arrAt 3 Cert.Kernel4Ideal.cfg0.N
    = Cert.Reference4Ideal.Read.val_main_v8 (F := Ideal) (m ((c.tc : Thread nD τ).loc main_arg0))
        (m ((c.tc : Thread nD τ).loc main_arg1)) (m ((c.tc : Thread nD τ).loc main_arg2)) (m ((c.tc : Thread nD τ).loc main_arg3)) := by
  refine (Cert.Kernel4Ideal.Mod.final m c).trans ?_
  funext y
  obtain ⟨l, r, j, rfl⟩ : ∃ (l : Fin 2) (r : Fin 16) (j : Fin 6144), y = ix3 l r j :=
    ⟨y 0, y 1, y 2, by funext a; fin_cases a <;> rfl⟩
  exact (Cert.Reference4Ideal.Mod.result_at ..).symm

end Cert.Mod

end
-- ==== Proof.Ctx.Pay.lean ====
/- The context rows' projection and MLP: one tile of rows at a grid point is the row function, whatever it loads. -/
module

public import proofs.«01_k».proof.Proof.Post.Model
public import proofs.«01_k».proof.Proof.Gen.Kernel5Ideal.Skeleton
public import Idealize.ShloMosaic.Lib.Pointwise

@[expose] public section

set_option maxHeartbeats 1000000
set_option maxRecDepth 16384

noncomputable section

namespace Cert.Kernel5Ideal.Ctx

open Idealize.ShloMosaic Idealize.ShloMosaic.TcCoe Idealize.ShloMosaic.Tactic Idealize.SL.Sem
open Cert.Kernel5Ideal Cert.Kernel5Ideal.Gen

open Cert.Post

variable (a s : FVec Ideal S1x256x384 .bf16) (r : FVec Ideal S1x256x256 .bf16) (w : FVec Ideal S1x1024x1024 .f32)
  (xb : FVec Ideal S1x256x1024 .f32) (row1 scale shift row2 : FVec Ideal S1x1x1024 .f32)
  (gain1 gain2 gain3 : FVec Ideal S1x1024 .f32) (u0 v0 u1 v1 u2 v2 u3 v3 : FVec Ideal S1x1024x1024 .f32)
  (x acc o : FVec Ideal S256x1024 .f32) (h : FVec Ideal S256x1024 .bf16) (i : Fin 256) (j : Fin 1024)

/-- The first residual. -/
theorem pay2_at : k0_pay2 (F := Ideal) a r s w xb row1 gain1 (ix2 i j)
    = gated (fun k => xb (ix3 0 i k)) (fun k => row1 (ix3 0 0 k))
        (proj (mixed (fun k => a (ix3 0 i k)) (fun k => r (ix3 0 i k)) (fun k => s (ix3 0 i k))) (fun k j => w (ix3 0 k j)))
        (fun k => gain1 (ix2 0 k)) j := by
  unfold gated rms proj mixed
  pointwise [k0_pay2]

/-- The MLP's input. -/
theorem pay3_at : k0_pay3 (F := Ideal) x gain2 scale shift (ix2 i j)
    = modulated (fun k => x (ix2 i k)) (fun k => gain2 (ix2 0 k)) (fun k => scale (ix3 0 0 k)) (fun k => shift (ix3 0 0 k)) j := by
  unfold modulated rms
  pointwise [k0_pay3]

/-- The first part of the hidden axis, of the MLP's input. -/
theorem first_at : k0_pay4 (F := Ideal) x gain2 scale shift u0 v0 (ix2 i j)
    = mlp (fun k => k0_pay3 (F := Ideal) x gain2 scale shift (ix2 i k)) (fun l k : Fin 1024 => u0 (ix3 0 l k))
        (fun k j => v0 (ix3 0 k j)) j := by
  unfold mlp act
  pointwise [k0_pay4]

/-- The other parts, added to the first. -/
theorem rest_at : k0_pay6 (F := Ideal) h acc (k0_pay5 (F := Ideal) u1) v1 u2 v2 u3 v3 (ix2 i j) = acc (ix2 i j)
    + mlp (fun k => h (ix2 i k)) (fun l k : Fin 1024 => u1 (ix3 0 l k)) (fun k j => v1 (ix3 0 k j)) j
    + mlp (fun k => h (ix2 i k)) (fun l k : Fin 1024 => u2 (ix3 0 l k)) (fun k j => v2 (ix3 0 k j)) j
    + mlp (fun k => h (ix2 i k)) (fun l k : Fin 1024 => u3 (ix3 0 l k)) (fun k j => v3 (ix3 0 k j)) j := by
  unfold mlp act
  pointwise [k0_pay6, k0_pay5]

/-- The second residual. -/
theorem pay1_at : k0_pay1 (F := Ideal) x o row2 gain3 (ix3 0 i j)
    = gated (fun k => x (ix2 i k)) (fun k => row2 (ix3 0 0 k)) (fun k => o (ix2 i k)) (fun k => gain3 (ix2 0 k)) j := by
  unfold gated rms
  pointwise [k0_pay1]

/-- The MLP of a tile of residual rows. -/
def hidden : FVec Ideal S256x1024 .f32 :=
  k0_pay6 (F := Ideal) (k0_pay3 x gain2 scale shift) (k0_pay4 x gain2 scale shift u0 v0) (k0_pay5 u1) v1 u2 v2 u3 v3

/-- The tile a point stores. -/
def tile : FVec Ideal S1x256x1024 .f32 :=
  k0_pay1 (F := Ideal) (k0_pay2 a r s w xb row1 gain1)
    (hidden scale shift gain2 u0 v0 u1 v1 u2 v2 u3 v3 (k0_pay2 a r s w xb row1 gain1)) row2 gain3

variable (A S : Fin 384 → EReal) (R : Fin 256 → EReal) (W : Fin 1024 → Fin 1024 → EReal)
  (X G1 N1 N2 Sc Sh G2 N3 : Fin 1024 → EReal) (W1 : Fin 1024 → Fin 4096 → EReal) (W2 : Fin 4096 → Fin 1024 → EReal)

theorem hidden_at (hx : ∀ j, x (ix2 i j) = X j) (hn : ∀ j, gain2 (ix2 0 j) = N2 j)
    (hc : ∀ j, scale (ix3 0 0 j) = Sc j) (hh : ∀ j, shift (ix3 0 0 j) = Sh j)
    (hu0 : ∀ l k, u0 (ix3 0 l k) = W1 l (part 0 k)) (hu1 : ∀ l k, u1 (ix3 0 l k) = W1 l (part 1 k))
    (hu2 : ∀ l k, u2 (ix3 0 l k) = W1 l (part 2 k)) (hu3 : ∀ l k, u3 (ix3 0 l k) = W1 l (part 3 k))
    (hv0 : ∀ k j, v0 (ix3 0 k j) = W2 (part 0 k) j) (hv1 : ∀ k j, v1 (ix3 0 k j) = W2 (part 1 k) j)
    (hv2 : ∀ k j, v2 (ix3 0 k j) = W2 (part 2 k) j) (hv3 : ∀ k j, v3 (ix3 0 k j) = W2 (part 3 k) j) (j : Fin 1024) :
    hidden scale shift gain2 u0 v0 u1 v1 u2 v2 u3 v3 x (ix2 i j) = mlp (modulated X N2 Sc Sh) W1 W2 j := by
  unfold hidden
  rw [rest_at, first_at, mlp_parts, Fin.sum_univ_four]
  simp only [pay3_at, hx, hn, hc, hh, hu0, hu1, hu2, hu3, hv0, hv1, hv2, hv3]

/-- A row of the tile is the row function of what the point loads. -/
theorem tile_at (ha : ∀ k, a (ix3 0 i k) = A k) (hr : ∀ k, r (ix3 0 i k) = R k) (hs : ∀ k, s (ix3 0 i k) = S k)
    (hw : ∀ k j, w (ix3 0 k j) = W k j) (hx : ∀ j, xb (ix3 0 i j) = X j) (hg1 : ∀ j, row1 (ix3 0 0 j) = G1 j)
    (hn1 : ∀ j, gain1 (ix2 0 j) = N1 j) (hn2 : ∀ j, gain2 (ix2 0 j) = N2 j)
    (hc : ∀ j, scale (ix3 0 0 j) = Sc j) (hh : ∀ j, shift (ix3 0 0 j) = Sh j)
    (hg2 : ∀ j, row2 (ix3 0 0 j) = G2 j) (hn3 : ∀ j, gain3 (ix2 0 j) = N3 j)
    (hu0 : ∀ l k, u0 (ix3 0 l k) = W1 l (part 0 k)) (hu1 : ∀ l k, u1 (ix3 0 l k) = W1 l (part 1 k))
    (hu2 : ∀ l k, u2 (ix3 0 l k) = W1 l (part 2 k)) (hu3 : ∀ l k, u3 (ix3 0 l k) = W1 l (part 3 k))
    (hv0 : ∀ k j, v0 (ix3 0 k j) = W2 (part 0 k) j) (hv1 : ∀ k j, v1 (ix3 0 k j) = W2 (part 1 k) j)
    (hv2 : ∀ k j, v2 (ix3 0 k j) = W2 (part 2 k) j) (hv3 : ∀ k j, v3 (ix3 0 k j) = W2 (part 3 k) j) (j : Fin 1024) :
    tile a s r w xb row1 scale shift row2 gain1 gain2 gain3 u0 v0 u1 v1 u2 v2 u3 v3 (ix3 0 i j)
      = layer (mixed A R S) X G1 N1 N2 Sc Sh G2 N3 W W1 W2 j := by
  have hm : ∀ j, k0_pay2 (F := Ideal) a r s w xb row1 gain1 (ix2 i j) = gated X G1 (proj (mixed A R S) W) N1 j := fun j => by
    rw [pay2_at]
    simp only [ha, hr, hs, hw, hx, hg1, hn1]
  have hd := hidden_at scale shift gain2 u0 v0 u1 v1 u2 v2 u3 v3 _ i _ N2 Sc Sh W1 W2 hm hn2 hc hh hu0 hu1 hu2 hu3 hv0 hv1 hv2 hv3
  unfold tile layer
  rw [pay1_at]
  simp only [hm, hd, hg2, hn3]

end Cert.Kernel5Ideal.Ctx

end
-- ==== Proof.Ctx.Point.lean ====
/- What the projection and the MLP leave in the context's rows, entry by entry. -/
module

public import proofs.«01_k».proof.Proof.Ctx.Pay
public import proofs.«01_k».proof.Proof.Gen.Kernel5Ideal.Frame
public import Idealize.ShloMosaic.Lib.Pipeline.ValueKit

@[expose] public section

set_option maxRecDepth 16384

noncomputable section

namespace Cert.Kernel5Ideal.Ctx

open Idealize.ShloMosaic Idealize.ShloMosaic.TcCoe Idealize.ShloMosaic.Tactic Idealize.SL.Sem
open Cert.Kernel5Ideal Cert.Kernel5Ideal.Gen

open Cert.Post

theorem idx : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![0, 0, 0] ∧ win0_5.index t = ![0, 0]
      ∧ win0_6.index t = ![0, 0, 0] ∧ win0_7.index t = ![0, 0, 0] ∧ win0_8.index t = ![0, 0, 0]
      ∧ win0_9.index t = ![t.val, 0, 0] :=
  (by decide +kernel : ∀ t : Fin grid0.N, _)

variable (m : (ℓ : Loc nD τ sig) → Buf (Elt Ideal) ℓ) (c : Dev nD)

/-- The arguments' arrays. -/
def aAtt : FVec Ideal S8x256x384 .bf16 := V m c (Pipeline.arrRef spec0 0)
def aRet : FVec Ideal S8x2304x256 .bf16 := V m c (Pipeline.arrRef spec0 1)
def aSsd : FVec Ideal S8x2304x384 .bf16 := V m c (Pipeline.arrRef spec0 2)
def aX : FVec Ideal S8x256x1024 .f32 := V m c (Pipeline.arrRef spec0 3)
def aMods : FVec Ideal S2x16x6144 .f32 := V m c (Pipeline.arrRef spec0 4)
def aGain : FVec Ideal S4x1024 .f32 := V m c (Pipeline.arrRef spec0 5)
def aOut : FVec Ideal S2x1024x1024 .f32 := V m c (Pipeline.arrRef spec0 6)
def aFf1 : FVec Ideal S2x1024x4096 .f32 := V m c (Pipeline.arrRef spec0 7)
def aFf2 : FVec Ideal S2x4096x1024 .f32 := V m c (Pipeline.arrRef spec0 8)

theorem lt8 (t : Fin cfg0.N) : t.val < 8 := Nat.lt_of_lt_of_eq t.isLt N_0

/-- The batch of a point. -/
abbrev batch (t : Fin cfg0.N) : Fin 8 := ⟨t.val, lt8 t⟩

/-- Entry `o + j` of the shared modulation. -/
abbrev modAt (o : ℕ) (ho : o ≤ 5120) (j : Fin 1024) : EReal := aMods m c (ix3 0 8 ⟨o + j.val, by omega⟩)

/-- The result, entry by entry. -/
def rowOf (b : Fin 8) (n : Fin 256) (j : Fin 1024) : EReal :=
  layer (mixed (fun k => aAtt m c (ix3 b n k)) (fun k => aRet m c (ix3 b ⟨n.val, by omega⟩ k))
      (fun k => aSsd m c (ix3 b ⟨n.val, by omega⟩ k)))
    (fun j => aX m c (ix3 b n j)) (modAt m c 2048 (by decide)) (fun j => aGain m c (ix2 1 j)) (fun j => aGain m c (ix2 2 j))
    (modAt m c 4096 (by decide)) (modAt m c 3072 (by decide)) (modAt m c 5120 (by decide)) (fun j => aGain m c (ix2 3 j))
    (fun k j => aOut m c (ix3 0 k j)) (fun l k => aFf1 m c (ix3 0 l k)) (fun k j => aFf2 m c (ix3 0 k j)) j

variable (t : Fin cfg0.N) (i : Fin 256)

theorem att_at (k : Fin 384) : iblk m c 0 t (ix3 0 i k) = aAtt m c (ix3 (batch t) i k) := by
  blk_point [iblk, V, idx t, aAtt]

theorem ret_at (k : Fin 256) : iblk m c 1 t (ix3 0 i k) = aRet m c (ix3 (batch t) ⟨i.val, by omega⟩ k) := by
  blk_point [iblk, V, idx t, aRet]

theorem ssd_at (k : Fin 384) : iblk m c 2 t (ix3 0 i k) = aSsd m c (ix3 (batch t) ⟨i.val, by omega⟩ k) := by
  blk_point [iblk, V, idx t, aSsd]

theorem x_at (k : Fin 1024) : iblk m c 3 t (ix3 0 i k) = aX m c (ix3 (batch t) i k) := by
  blk_point [iblk, V, idx t, aX]

theorem out_at (k j : Fin 1024) : iblk m c 6 t (ix3 0 k j) = aOut m c (ix3 0 k j) := by
  blk_point [iblk, V, idx t, aOut]

theorem mods_at (o : ℕ) (ho : o ≤ 5120) (hq : ∀ a, (![0, 8, o] : Fin 3 → ℕ) a + S1x1x1024.size a ≤ S1x16x6144.size a)
    (j : Fin 1024) : View.ld (iblk m c 4 t) (Rect.unit ![0, 8, o] S1x1x1024.size hq) (ix3 0 0 j) = modAt m c o ho j := by
  pointwise
  blk_point [iblk, V, idx t, aMods]

theorem gain_at (g : Fin 4) (hg : ∀ a, (![g.val, 0] : Fin 2 → ℕ) a + S1x1024.size a ≤ S4x1024.size a) (j : Fin 1024) :
    View.ld (iblk m c 5 t) (Rect.unit ![g.val, 0] S1x1024.size hg) (ix2 0 j) = aGain m c (ix2 g j) := by
  pointwise
  blk_point [iblk, V, idx t, aGain]

theorem ff1_at (q : Fin 4) (o : ℕ) (ho : o = q.val * 1024)
    (hq : ∀ a, (![0, 0, o] : Fin 3 → ℕ) a + S1x1024x1024.size a ≤ S1x1024x4096.size a) (l k : Fin 1024) :
    View.ld (iblk m c 7 t) (Rect.unit ![0, 0, o] S1x1024x1024.size hq) (ix3 0 l k) = aFf1 m c (ix3 0 l (part q k)) := by
  subst ho
  pointwise
  blk_point [iblk, V, idx t, aFf1]

theorem ff2_at (q : Fin 4) (o : ℕ) (ho : o = q.val * 1024)
    (hq : ∀ a, (![0, o, 0] : Fin 3 → ℕ) a + S1x1024x1024.size a ≤ S1x4096x1024.size a) (k j : Fin 1024) :
    View.ld (iblk m c 8 t) (Rect.unit ![0, o, 0] S1x1024x1024.size hq) (ix3 0 k j) = aFf2 m c (ix3 0 (part q k) j) := by
  subst ho
  pointwise
  blk_point [iblk, V, idx t, aFf2]

/-- The tile of a point, over its loads. -/
def tileOf : FVec Ideal S1x256x1024 .f32 :=
  tile (iblk m c 0 t) (iblk m c 2 t) (iblk m c 1 t) (iblk m c 6 t) (iblk m c 3 t)
    (View.ld (iblk m c 4 t) (Rect.unit ![0, 8, 2048] S1x1x1024.size inb_S1x16x6144_S1x1x1024_0_8_2048))
    (View.ld (iblk m c 4 t) (Rect.unit ![0, 8, 4096] S1x1x1024.size inb_S1x16x6144_S1x1x1024_0_8_4096))
    (View.ld (iblk m c 4 t) (Rect.unit ![0, 8, 3072] S1x1x1024.size inb_S1x16x6144_S1x1x1024_0_8_3072))
    (View.ld (iblk m c 4 t) (Rect.unit ![0, 8, 5120] S1x1x1024.size inb_S1x16x6144_S1x1x1024_0_8_5120))
    (View.ld (iblk m c 5 t) (Rect.unit ![1, 0] S1x1024.size inb_S4x1024_S1x1024_1_0))
    (View.ld (iblk m c 5 t) (Rect.unit ![2, 0] S1x1024.size inb_S4x1024_S1x1024_2_0))
    (View.ld (iblk m c 5 t) (Rect.unit ![3, 0] S1x1024.size inb_S4x1024_S1x1024_3_0))
    (View.ld (iblk m c 7 t) (Rect.unit ![0, 0, 0] S1x1024x1024.size inb_S1x1024x4096_S1x1024x1024_0_0_0))
    (View.ld (iblk m c 8 t) (Rect.unit ![0, 0, 0] S1x1024x1024.size inb_S1x4096x1024_S1x1024x1024_0_0_0))
    (View.ld (iblk m c 7 t) (Rect.unit ![0, 0, 1024] S1x1024x1024.size inb_S1x1024x4096_S1x1024x1024_0_0_1024))
    (View.ld (iblk m c 8 t) (Rect.unit ![0, 1024, 0] S1x1024x1024.size inb_S1x4096x1024_S1x1024x1024_0_1024_0))
    (View.ld (iblk m c 7 t) (Rect.unit ![0, 0, 2048] S1x1024x1024.size inb_S1x1024x4096_S1x1024x1024_0_0_2048))
    (View.ld (iblk m c 8 t) (Rect.unit ![0, 2048, 0] S1x1024x1024.size inb_S1x4096x1024_S1x1024x1024_0_2048_0))
    (View.ld (iblk m c 7 t) (Rect.unit ![0, 0, 3072] S1x1024x1024.size inb_S1x1024x4096_S1x1024x1024_0_0_3072))
    (View.ld (iblk m c 8 t) (Rect.unit ![0, 3072, 0] S1x1024x1024.size inb_S1x4096x1024_S1x1024x1024_0_3072_0))

theorem tileOf_at (j : Fin 1024) : tileOf m c t (ix3 0 i j) = rowOf m c (batch t) i j := by
  unfold tileOf rowOf
  exact tile_at (a := iblk m c 0 t) (s := iblk m c 2 t) (r := iblk m c 1 t) (w := iblk m c 6 t) (xb := iblk m c 3 t) (i := i) (j := j)
    (ha := att_at m c t i) (hr := ret_at m c t i) (hs := ssd_at m c t i) (hx := x_at m c t i) (hw := out_at m c t)
    (hg1 := mods_at m c t 2048 (by decide) _) (hc := mods_at m c t 4096 (by decide) _) (hh := mods_at m c t 3072 (by decide) _)
    (hg2 := mods_at m c t 5120 (by decide) _) (hn1 := gain_at m c t 1 _) (hn2 := gain_at m c t 2 _) (hn3 := gain_at m c t 3 _)
    (hu0 := ff1_at m c t 0 0 rfl _) (hu1 := ff1_at m c t 1 1024 rfl _) (hu2 := ff1_at m c t 2 2048 rfl _) (hu3 := ff1_at m c t 3 3072 rfl _)
    (hv0 := ff2_at m c t 0 0 rfl _) (hv1 := ff2_at m c t 1 1024 rfl _) (hv2 := ff2_at m c t 2 2048 rfl _) (hv3 := ff2_at m c t 3 3072 rfl _)

theorem idx3_eq (y : S1x256x1024.Idx) : y = ix3 0 (y 1) (y 2) := by
  funext a
  fin_cases a
  · exact Subsingleton.elim (α := Fin 1) _ _
  · rfl
  · rfl

theorem rowOf_congr (b b' : Fin 8) (n n' : Fin 256) (j j' : Fin 1024) (hb : b.val = b'.val) (hn : n.val = n'.val)
    (hj : j.val = j'.val) : rowOf m c b n j = rowOf m c b' n' j' := by
  rw [Fin.ext hb, Fin.ext hn, Fin.ext hj]

theorem final : (dats m 0 c).arrAt 9 cfg0.N = fun y : S8x256x1024.Idx => rowOf m c (y 0) (y 1) (y 2) := by
  refine (dats m 0 c).arrAt_eq_of_covers 9 _ (by decide +kernel) fun t _ y => ?_
  have ht := lt8 t
  blk_simp
  rw [after0_9]
  unfold_out out0_9
  frame_out
  refine (congrArg (tileOf m c t) (idx3_eq y)).trans ?_
  refine (tileOf_at m c t (y 1) (y 2)).trans (rowOf_congr m c _ _ _ _ _ _ ?_ ?_ ?_)
  all_goals blk_simp [idx t]

end Cert.Kernel5Ideal.Ctx

end
-- ==== Proof.Ctx.Ref.lean ====
/- The reference's result for the context's rows, read at a batch, a row and a column. -/
module

public import proofs.«01_k».proof.Proof.Post.Model
public import proofs.«01_k».proof.Proof.Gen.Reference5Ideal.Read
public import Idealize.ShloMosaic.Lib.Pointwise

@[expose] public section

set_option maxRecDepth 16384

noncomputable section

namespace Cert.Reference5Ideal.Ctx

open Idealize.ShloMosaic Idealize.ShloMosaic.TcCoe Idealize.ShloMosaic.Tactic Idealize.SL.Sem
open Cert.Reference5Ideal Cert.Reference5Ideal.Gen Cert.Reference5Ideal.Read

open Cert.Post

variable (x0 : FVec Ideal S8x256x384 .bf16) (x1 : FVec Ideal S8x2304x256 .bf16) (x2 : FVec Ideal S8x2304x384 .bf16)
  (x3 : FVec Ideal S8x256x1024 .f32) (x4 : FVec Ideal S2x16x6144 .f32) (x5 : FVec Ideal S4x1024 .f32)
  (x6 : FVec Ideal S2x1024x1024 .f32) (x7 : FVec Ideal S2x1024x4096 .f32) (x8 : FVec Ideal S2x4096x1024 .f32)
  (b : Fin 8) (n : Fin 256) (j : Fin 1024)

/-- Entry `o + j` of the modulation the context's rows share. -/
abbrev modAt (o : ℕ) (ho : o ≤ 5120) (j : Fin 1024) : EReal := x4 (ix3 0 8 ⟨o + j.val, by omega⟩)

theorem mix_at (k : Fin 1024) :
    val_main_v17 (F := Ideal) x0 x1 x2 (ix2 ⟨b.val * 256 + n.val, by omega⟩ k)
      = mixed (fun k => x0 (ix3 b n k)) (fun k => x1 (ix3 b ⟨n.val, by omega⟩ k))
          (fun k => x2 (ix3 b ⟨n.val, by omega⟩ k)) k := by
  unfold mixed
  pointwise [val_main_v17, val_main_v16, val_main_v15, val_main_v14, val_main_v13, val_main_v12, val_main_v11,
    val_main_v10, val_main_v9]

theorem proj_at : val_main_v21 (F := Ideal) x0 x1 x2 x6 (ix3 b n j)
      = proj (fun k => val_main_v17 (F := Ideal) x0 x1 x2 (ix2 ⟨b.val * 256 + n.val, by omega⟩ k)) (fun k j => x6 (ix3 0 k j)) j := by
  unfold proj
  pointwise [val_main_v21, val_main_v20, val_main_v19, val_main_v18]

theorem mid_at : val_main_v40 (F := Ideal) x0 x1 x2 x3 x4 x5 x6 (ix3 b n j)
      = gated (fun j => x3 (ix3 b n j)) (modAt x4 2048 (by decide)) (fun j => val_main_v21 (F := Ideal) x0 x1 x2 x6 (ix3 b n j))
          (fun j => x5 (ix2 1 j)) j := by
  unfold gated rms
  pointwise [val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v5, val_main_v2, val_main_v1, val_main_v0, val_main_cst, val_main_cst_0, val_main_cst_1]

theorem inner_at : val_main_v63 (F := Ideal) x0 x1 x2 x3 x4 x5 x6 (ix3 b n j)
      = modulated (fun j => val_main_v40 (F := Ideal) x0 x1 x2 x3 x4 x5 x6 (ix3 b n j)) (fun j => x5 (ix2 2 j))
          (modAt x4 4096 (by decide)) (modAt x4 3072 (by decide)) j := by
  unfold modulated rms
  pointwise [val_main_v63, val_main_v62, val_main_v61, val_main_v60, val_main_v59, val_main_v58, val_main_v57,
    val_main_v56, val_main_v55, val_main_v54, val_main_v53, val_main_v52, val_main_v51, val_main_v50, val_main_v49, val_main_v48,
    val_main_v47, val_main_v46, val_main_v45, val_main_v44, val_main_v43, val_main_v42, val_main_v41,
    val_main_v7, val_main_v6, val_main_v2, val_main_v1, val_main_v0, val_main_cst_2, val_main_cst_3, val_main_cst_4, val_main_cst_5]

theorem mlp_at : val_main_v72 (F := Ideal) x0 x1 x2 x3 x4 x5 x6 x7 x8 (ix3 b n j)
      = mlp (fun j => val_main_v63 (F := Ideal) x0 x1 x2 x3 x4 x5 x6 (ix3 b n j)) (fun (l : Fin 1024) (k : Fin 4096) => x7 (ix3 0 l k))
          (fun k j => x8 (ix3 0 k j)) j := by
  unfold mlp act
  pointwise [val_main_v72, val_main_v71, val_main_v70, val_main_v69, val_main_v68, val_main_v67, val_main_v66, val_main_v65, val_main_call0_v0, val_main_call0_cst]

theorem last_at : val_main_v90 (F := Ideal) x0 x1 x2 x3 x4 x5 x6 x7 x8 (ix3 b n j)
      = gated (fun j => val_main_v40 (F := Ideal) x0 x1 x2 x3 x4 x5 x6 (ix3 b n j)) (modAt x4 5120 (by decide))
          (fun j => val_main_v72 (F := Ideal) x0 x1 x2 x3 x4 x5 x6 x7 x8 (ix3 b n j)) (fun j => x5 (ix2 3 j)) j := by
  unfold gated rms
  pointwise [val_main_v90, val_main_v89, val_main_v88, val_main_v87, val_main_v86, val_main_v85, val_main_v84,
    val_main_v83, val_main_v82, val_main_v81, val_main_v80, val_main_v79, val_main_v78, val_main_v77, val_main_v76,
    val_main_v75, val_main_v74, val_main_v73, val_main_v64, val_main_v8, val_main_v2, val_main_v1, val_main_v0, val_main_cst_6, val_main_cst_7, val_main_cst_8]

/-- The reference's result is the row function of its arguments' rows. -/
theorem result_at : val_main_v90 (F := Ideal) x0 x1 x2 x3 x4 x5 x6 x7 x8 (ix3 b n j)
      = layer (mixed (fun k => x0 (ix3 b n k)) (fun k => x1 (ix3 b ⟨n.val, by omega⟩ k))
            (fun k => x2 (ix3 b ⟨n.val, by omega⟩ k)))
          (fun j => x3 (ix3 b n j)) (modAt x4 2048 (by decide)) (fun j => x5 (ix2 1 j)) (fun j => x5 (ix2 2 j)) (modAt x4 4096 (by decide)) (modAt x4 3072 (by decide))
          (modAt x4 5120 (by decide)) (fun j => x5 (ix2 3 j)) (fun k j => x6 (ix3 0 k j)) (fun l k => x7 (ix3 0 l k)) (fun k j => x8 (ix3 0 k j)) j := by
  rw [last_at]
  unfold layer
  simp only [mlp_at, inner_at, mid_at, proj_at, mix_at]

end Cert.Reference5Ideal.Ctx

end
-- ==== Proof.Ctx.Value.lean ====
/- The context rows' projection with the MLP gives the reference's array. -/
module

public import proofs.«01_k».proof.Proof.Ctx.Point
public import proofs.«01_k».proof.Proof.Ctx.Ref

@[expose] public section

set_option maxRecDepth 16384

noncomputable section

namespace Cert.Ctx

open Idealize.ShloMosaic Idealize.ShloMosaic.TcCoe Idealize.ShloMosaic.Tactic Idealize.SL.Sem
open Cert.Kernel5Ideal

variable (m : (ℓ : Loc nD τ sig) → Buf (Elt Ideal) ℓ) (c : Dev nD)

theorem rows_eq : (fun y : S8x256x1024.Idx => Cert.Kernel5Ideal.Ctx.rowOf m c (y 0) (y 1) (y 2))
    = Cert.Reference5Ideal.Read.val_main_v90 (F := Ideal) (Cert.Kernel5Ideal.Ctx.aAtt m c) (Cert.Kernel5Ideal.Ctx.aRet m c)
        (Cert.Kernel5Ideal.Ctx.aSsd m c) (Cert.Kernel5Ideal.Ctx.aX m c) (Cert.Kernel5Ideal.Ctx.aMods m c)
        (Cert.Kernel5Ideal.Ctx.aGain m c) (Cert.Kernel5Ideal.Ctx.aOut m c) (Cert.Kernel5Ideal.Ctx.aFf1 m c)
        (Cert.Kernel5Ideal.Ctx.aFf2 m c) := by
  funext y
  obtain ⟨b, n, j, rfl⟩ : ∃ (b : Fin 8) (n : Fin 256) (j : Fin 1024), y = ix3 b n j :=
    ⟨y 0, y 1, y 2, by funext a; fin_cases a <;> rfl⟩
  exact (Cert.Reference5Ideal.Ctx.result_at ..).symm

theorem value : (Cert.Kernel5Ideal.Gen.dats m 0 c).arrAt 9 Cert.Kernel5Ideal.cfg0.N
    = Cert.Reference5Ideal.Read.val_main_v90 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) :=
  (Cert.Kernel5Ideal.Ctx.final m c).trans (rows_eq m c)

end Cert.Ctx

end
-- ==== Proof.Own.Model.lean ====
/- One grid point of the context rows' own attention: the pieces its stores leave in the buffers, one query tile
   against one block of keys. -/
module

public import proofs.«01_k».proof.Proof.Att.Prep
public import proofs.«01_k».proof.Proof.Att.Pay
public import proofs.«01_k».proof.Proof.Gen.Kernel6Ideal.Frame

@[expose] public section

set_option maxRecDepth 16384

noncomputable section

namespace Cert.Kernel6Ideal.Own

open Idealize.ShloMosaic Idealize.ShloMosaic.TcCoe Idealize.ShloMosaic.Tactic Idealize.SL.Sem
open Cert.Kernel6Ideal Cert.Kernel6Ideal.Gen
open Cert.KernelIdeal.Att (scPay topPay fadePay wtPay accPay outPay kvOf copyOf fst snd)

variable {F : FTy → Type} [FloatOps F] [Named F]

/-- The pieces stored so far in each buffer, the last one first. -/
structure Bufs (F : FTy → Type) [FloatOps F] where
  out : List (View.Piece (Elt F) S1x256x384 .bf16)
  acc : List (View.Piece (Elt F) S1x6x80x256 .f32)
  top : List (View.Piece (Elt F) S1x6x1x256 .f32)
  fade : List (View.Piece (Elt F) S2x6x1x256 .f32)
  sc : List (View.Piece (Elt F) S2x3x512x256 .f32)
  wt : List (View.Piece (Elt F) S2x6x256x256 .bf16)

/-! ## The rectangles -/

abbrev rAcc (t : Fin 1) (h : Fin 6) : Rect S1x6x80x256 :=
  Rect.unit ![t.val, h.val, 0, 0] S1x1x80x256.size (by intro a; fin_cases a <;> simp <;> omega)
abbrev rTop (t : Fin 1) (h : Fin 6) : Rect S1x6x1x256 :=
  Rect.unit ![t.val, h.val, 0, 0] S1x1x1x256.size (by intro a; fin_cases a <;> simp <;> omega)
abbrev rFade (p : Fin 2) (h : Fin 6) : Rect S2x6x1x256 :=
  Rect.unit ![p.val, h.val, 0, 0] S1x1x1x256.size (by intro a; fin_cases a <;> simp <;> omega)
abbrev rPair (p : Fin 2) (j : Fin 3) : Rect S2x3x512x256 :=
  Rect.unit ![p.val, j.val, 0, 0] S1x1x512x256.size (by intro a; fin_cases a <;> simp <;> omega)
abbrev rHead (p : Fin 2) (h : Fin 6) : Rect S2x3x512x256 :=
  Rect.unit ![p.val, h.val / 2, h.val % 2 * 256, 0] S1x1x256x256.size
    (by intro a; fin_cases a <;> simp <;> omega)
abbrev rWt (p : Fin 2) (h : Fin 6) : Rect S2x6x256x256 :=
  Rect.unit ![p.val, h.val, 0, 0] S1x1x256x256.size (by intro a; fin_cases a <;> simp <;> omega)
abbrev rOut (j : Fin 3) : Rect S1x256x384 :=
  Rect.unit ![0, 0, j.val * 128] S1x256x128.size (by intro a; fin_cases a <;> simp <;> omega)
abbrev rKey (g : Fin 4) : Rect S4x256x128 :=
  Rect.unit ![g.val, 0, 0] S1x256x128.size (by intro a; fin_cases a <;> simp <;> omega)
abbrev rVal (g : Fin 2) : Rect S2x1x80x256 :=
  Rect.unit ![g.val, (0 : Fin 1).val, 0, 0] S1x1x80x256.size (by intro a; fin_cases a <;> simp <;> omega)
abbrev rQry (j : Fin 3) : Rect S1x384x256 :=
  Rect.unit ![0, j.val * 128, 0] S1x128x256.size (by intro a; fin_cases a <;> simp <;> omega)

/-- The four masked key copies; the values of the two heads, each with a row of ones below. -/
def keyPieces (k : Vec F S1x256x128 .bf16) : List (View.Piece (Elt F) S4x256x128 .bf16) :=
  [⟨rKey 3, k0_pay8 k⟩, ⟨rKey 2, k0_pay7 k⟩, ⟨rKey 1, k0_pay6 k⟩, ⟨rKey 0, k0_pay5 k⟩]
def valPieces (v : Vec F S1x256x128 .bf16) : List (View.Piece (Elt F) S2x1x80x256 .bf16) :=
  [⟨rVal 1, k0_pay12 v⟩, ⟨rVal 0, k0_pay11 v⟩]

/-! ## The steps -/

section Steps

variable (a8 : Memref sig .tc .vmem S1x6x80x256 .f32) (a9 : Memref sig .tc .vmem S1x6x1x256 .f32)
  (a10 : Memref sig .tc .vmem S2x6x1x256 .f32)
  (a11 : Memref sig .tc .vmem S2x3x512x256 .f32) (a12 : Memref sig .tc .vmem S2x6x256x256 .bf16)
  (rk : Fin 4 → Vec F S1x256x128 .bf16) (rv : Fin 2 → Vec F S1x1x80x256 .bf16) (rq : Fin 3 → Vec F S1x128x256 .bf16)

def weigh (h : Fin 6) (s : Bufs F) : Bufs F :=
  { s with
    acc := ⟨rAcc 0 h, accPay (a8.view.readCov s.acc (rAcc 0 h).toLoadRect)
      (a10.view.readCov s.fade (rFade 0 h).toLoadRect) (rv (kvOf h)) (a12.view.readCov s.wt (rWt 0 h).toLoadRect)⟩ :: s.acc }

def finish (j : Fin 3) (s : Bufs F) : Bufs F :=
  { s with
    out := ⟨rOut j, outPay (a8.view.readCov s.acc (rAcc 0 (fst j)).toLoadRect)
      (a8.view.readCov s.acc (rAcc 0 (snd j)).toLoadRect)⟩ :: s.out }

def score (j : Fin 3) (s : Bufs F) : Bufs F :=
  { s with sc := ⟨rPair 0 j, scPay (rk (copyOf (fst j))) (rk (copyOf (snd j))) (rq j)⟩ :: s.sc }

def expo (h : Fin 6) (s : Bufs F) : Bufs F :=
  { s with
    top := ⟨rTop 0 h, topPay (a9.view.readCov s.top (rTop 0 h).toLoadRect) (a11.view.readCov s.sc (rHead 0 h).toLoadRect)⟩ :: s.top
    fade := ⟨rFade 0 h, fadePay (a9.view.readCov s.top (rTop 0 h).toLoadRect) (a11.view.readCov s.sc (rHead 0 h).toLoadRect)⟩ :: s.fade
    wt := ⟨rWt 0 h, wtPay (a9.view.readCov s.top (rTop 0 h).toLoadRect) (a11.view.readCov s.sc (rHead 0 h).toLoadRect)⟩ :: s.wt }

/-- A step at every head, in order; at every pair. -/
def heads (f : Fin 6 → Bufs F → Bufs F) (s : Bufs F) : Bufs F := f 5 (f 4 (f 3 (f 2 (f 1 (f 0 s)))))
def pairs (f : Fin 3 → Bufs F → Bufs F) (s : Bufs F) : Bufs F := f 2 (f 1 (f 0 s))

/-- Accumulators zero, maxima at the mask. -/
def start : Bufs F where
  out := []
  acc := [⟨Rect.unit ![0, 0, 0, 0] S1x6x80x256.size inb_S1x6x80x256_S1x6x80x256_0_0_0_0, k0_pay13⟩]
  top := [⟨Rect.unit ![0, 0, 0, 0] S1x6x1x256.size inb_S1x6x1x256_S1x6x1x256_0_0_0_0, k0_pay14⟩]
  fade := []
  sc := []
  wt := []

/-- The buffers after all steps. -/
def done : Bufs F := pairs (finish a8) (heads (weigh a8 a10 a12 rv) (heads (expo a9 a11) (pairs (score rk rq) start)))

end Steps

theorem out_A (c : Dev nD) (i : grid0.Coords) (arg2 : Memref sig .tc .vmem S1x384x256 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x256x384 .bf16) (harg5 : arg5.IsWhole) (arg6 : Memref sig .tc .vmem S4x256x128 .bf16) (harg6 : arg6.IsWhole) (arg7 : Memref sig .tc .vmem S2x1x80x256 .bf16) (harg7 : arg7.IsWhole) (arg8 : Memref sig .tc .vmem S1x6x80x256 .f32) (harg8 : arg8.IsWhole) (arg9 : Memref sig .tc .vmem S1x6x1x256 .f32) (harg9 : arg9.IsWhole) (arg10 : Memref sig .tc .vmem S2x6x1x256 .f32) (harg10 : arg10.IsWhole) (arg11 : Memref sig .tc .vmem S2x3x512x256 .f32) (harg11 : arg11.IsWhole) (arg12 : Memref sig .tc .vmem S2x6x256x256 .bf16) (harg12 : arg12.IsWhole) (hc0 : cond0_0 i)
    (x0 : Vec F S1x384x256 .bf16) (x1 : Vec F S1x256x128 .bf16) (x2 : Vec F S1x256x128 .bf16) :
    (kernelRun0_A c i arg2 harg2 arg3 harg3 arg4 harg4 arg5 harg5 arg6 harg6 arg7 harg7 arg8 harg8 arg9 harg9 arg10 harg10 arg11 harg11 arg12 harg12 hc0 x0 x1 x2).1
      = (done arg8 arg9 arg10 arg11 arg12
          (fun g => arg6.view.readCov (keyPieces (View.readAt (Elt F) arg3.view (Rect.unit ![0, 0, 0] S1x256x128.size inb_S1x256x128_S1x256x128_0_0_0).toLoadRect (harg3.unread x1))) (rKey g).toLoadRect)
          (fun g => arg7.view.readCov (valPieces (View.readAt (Elt F) arg4.view (Rect.unit ![0, 0, 0] S1x256x128.size inb_S1x256x128_S1x256x128_0_0_0).toLoadRect (harg4.unread x2))) (rVal g).toLoadRect)
          (fun j => View.readAt (Elt F) arg2.view (rQry j).toLoadRect (harg2.unread x0))).out := by
  sl_kernel_rfl

end Cert.Kernel6Ideal.Own

end
-- ==== Proof.Own.Prep.lean ====
/- The keys and values as a point of the context rows' own attention prepares them: keys masked to one key/value
   head, values with a row of ones. -/
module

public import proofs.«01_k».proof.Proof.Own.Model

@[expose] public section

set_option maxRecDepth 16384

noncomputable section

namespace Cert.Kernel6Ideal.Own

open Idealize.ShloMosaic Idealize.ShloMosaic.TcCoe Idealize.ShloMosaic.Tactic Idealize.SL.Sem
open Cert.Kernel6Ideal Cert.Kernel6Ideal.Gen
open Cert.KernelIdeal.Att (got got_emb got_off got_row)

theorem low_lane (j : Fin 256) (l : Fin 128) : k0_pay4 (ix2 j l) = if l.val < 64 then 1#1 else 0#1 := by
  pointwise [k0_pay4]
  revert l
  decide +kernel

theorem keyLow_at (k : FVec Ideal S1x256x128 .bf16) (j : Fin 256) (l : Fin 128) :
    k0_pay5 (F := Ideal) k (ix3 0 j l) = if l.val < 64 then k (ix3 0 j l) else 0 := by
  pointwise [k0_pay5, k0_pay2]
  rw [low_lane]
  split_ifs <;> rfl

theorem keyHigh_at (k : FVec Ideal S1x256x128 .bf16) (j : Fin 256) (l : Fin 128) :
    k0_pay8 (F := Ideal) k (ix3 0 j l) = if l.val < 64 then 0 else k (ix3 0 j l) := by
  pointwise [k0_pay8, k0_pay2]
  rw [low_lane]
  split_ifs <;> rfl

theorem turned_at (k : FVec Ideal S1x256x128 .bf16) (j : Fin 256) (l : Fin 128) :
    k0_pay3 (F := Ideal) k (ix2 j l) = k (ix3 0 j ⟨(l.val + 64) % 128, by omega⟩) := by
  pointwise [k0_pay3, k0_pay2]
  exact congrArg k (congrArg (ix3 0 j) (Fin.ext (by simp)))

theorem keyTurnHigh_at (k : FVec Ideal S1x256x128 .bf16) (j : Fin 256) (l : Fin 128) :
    k0_pay6 (F := Ideal) k (ix3 0 j l) = if l.val < 64 then 0 else k0_pay3 (F := Ideal) k (ix2 j l) := by
  pointwise [k0_pay6]
  rw [low_lane]
  split_ifs <;> rfl

theorem keyTurnLow_at (k : FVec Ideal S1x256x128 .bf16) (j : Fin 256) (l : Fin 128) :
    k0_pay7 (F := Ideal) k (ix3 0 j l) = if l.val < 64 then k0_pay3 (F := Ideal) k (ix2 j l) else 0 := by
  pointwise [k0_pay7]
  rw [low_lane]
  split_ifs <;> rfl

theorem ones_at (r : Fin 16) (j : Fin 256) :
    k0_pay10 (F := Ideal) (ix2 r j) = if r.val = 0 then 1 else 0 := by
  pointwise [k0_pay10]
  have h : ∀ r : Fin 16, IntOp.cmpi CmpIPredicate.eq (BitVec.ofNat 32 r.val) 0#32 = if r.val = 0 then 1#1 else 0#1 := by
    decide +kernel
  rw [h]
  split_ifs <;> rfl

theorem valLow_at (v : FVec Ideal S1x256x128 .bf16) (r : Fin 80) (j : Fin 256) :
    k0_pay11 (F := Ideal) v (ix4 0 0 r j)
      = if h : r.val < 64 then v (ix3 0 j ⟨r.val, by omega⟩) else if r.val = 64 then 1 else 0 := by
  pointwise [k0_pay11, k0_pay9]
  by_cases h : r.val < 64
  · rw [dif_pos h, dif_pos h]
  · rw [dif_neg h, dif_neg h]
    refine (ones_at _ _).trans ?_
    by_cases h' : r.val = 64
    · rw [if_pos h', if_pos (by show r.val - 64 = 0; omega)]
    · rw [if_neg h', if_neg (by show ¬ r.val - 64 = 0; omega)]

theorem valHigh_at (v : FVec Ideal S1x256x128 .bf16) (r : Fin 80) (j : Fin 256) :
    k0_pay12 (F := Ideal) v (ix4 0 0 r j)
      = if h : r.val < 64 then v (ix3 0 j ⟨64 + r.val, by omega⟩) else if r.val = 64 then 1 else 0 := by
  pointwise [k0_pay12, k0_pay9]
  by_cases h : r.val < 64
  · rw [dif_pos h, dif_pos h]
  · rw [dif_neg h, dif_neg h]
    refine (ones_at _ _).trans ?_
    by_cases h' : r.val = 64
    · rw [if_pos h', if_pos (by show r.val - 64 = 0; omega)]
    · rw [if_neg h', if_neg (by show ¬ r.val - 64 = 0; omega)]

/-! ## The two prepared buffers -/

theorem idx_copy (g : Fin 4) (j : Fin 256) (l : Fin 128) : (rKey g).toLoadRect.idx (ix3 0 j l) = ix3 g j l := by
  funext a
  fin_cases a <;> exact Fin.ext (by simp [LoadRect.idx, ix3])

theorem got_copy (g : Fin 4) (w : Vec Ideal S1x256x128 .bf16) (L : List (View.Piece (Elt Ideal) S4x256x128 .bf16))
    (g' : Fin 4) (j : Fin 256) (l : Fin 128) :
    got (⟨rKey g, w⟩ :: L) (ix3 g' j l) = if g' = g then w (ix3 0 j l) else got L (ix3 g' j l) := by
  split_ifs with h
  · subst h
    exact (congrArg (got _) (idx_copy g' j l)).symm.trans (got_emb (rKey g') w L (ix3 0 j l))
  · apply got_off
    rw [Rect.mem_set_unit]
    intro h'
    have h0 : g.val ≤ g'.val ∧ g'.val < g.val + 1 := h' 0
    exact h (Fin.ext (by omega))

/-- Copy `g` holds the lanes of key/value head `g / 2` in half `g % 2`, and zeros in the other half. -/
theorem keys_at (k : FVec Ideal S1x256x128 .bf16) (g : Fin 4) (j : Fin 256) (l : Fin 128) :
    (got (F := Ideal) (keyPieces k) (ix3 g j l) : EReal)
      = if l.val / 64 = g.val % 2 then k (ix3 0 j ⟨g.val / 2 * 64 + l.val % 64, by omega⟩) else 0 := by
  have e : ∀ (a b : Fin 128), a.val = b.val → k (ix3 0 j a) = k (ix3 0 j b) := by
    intro a b h; rw [Fin.ext h]
  unfold keyPieces
  simp only [got_copy]
  fin_cases g
  · simp only [Fin.reduceFinMk, Fin.reduceEq, if_false, if_true]
    refine (keyLow_at k j l).trans ?_
    by_cases h : l.val < 64
    · rw [if_pos h, if_pos (by simp; omega)]
      exact e _ _ (by simp; omega)
    · rw [if_neg h, if_neg (by simp; omega)]
  · simp only [Fin.reduceFinMk, Fin.reduceEq, if_false, if_true]
    refine (keyTurnHigh_at k j l).trans ?_
    by_cases h : l.val < 64
    · rw [if_pos h, if_neg (by simp; omega)]
    · rw [if_neg h, if_pos (by simp; omega), turned_at]
      exact e _ _ (by simp; omega)
  · simp only [Fin.reduceFinMk, Fin.reduceEq, if_false, if_true]
    refine (keyTurnLow_at k j l).trans ?_
    by_cases h : l.val < 64
    · rw [if_pos h, if_pos (by simp; omega), turned_at]
      exact e _ _ (by simp; omega)
    · rw [if_neg h, if_neg (by simp; omega)]
  · simp only [Fin.reduceFinMk, Fin.reduceEq, if_false, if_true]
    refine (keyHigh_at k j l).trans ?_
    by_cases h : l.val < 64
    · rw [if_pos h, if_neg (by simp; omega)]
    · rw [if_neg h, if_pos (by simp; omega)]
      exact e _ _ (by simp; omega)

/-- Head `g` of the values holds its lanes in its first rows, and then a row of ones. -/
theorem vals_at (v : FVec Ideal S1x256x128 .bf16) (g : Fin 2) (r : Fin 80) (c : Fin 256) :
    (got (F := Ideal) (valPieces v) (ix4 g 0 r c) : EReal)
      = if h : r.val < 64 then v (ix3 0 c ⟨g.val * 64 + r.val, by omega⟩) else if r.val = 64 then 1 else 0 := by
  have e : ∀ (a b : Fin 128), a.val = b.val → v (ix3 0 c a) = v (ix3 0 c b) := by
    intro a b h; rw [Fin.ext h]
  unfold valPieces
  fin_cases g
  · refine (got_row 1 0 _ _ _ 0 0 r c).trans ((if_neg (by decide)).trans ?_)
    refine (got_row 0 0 _ _ _ 0 0 r c).trans ((if_pos ⟨rfl, rfl⟩).trans ((valLow_at v r c).trans ?_))
    split_ifs with h
    · exact e _ _ (by simp)
    · rfl
    · rfl
  · refine (got_row 1 0 _ _ _ 1 0 r c).trans ((if_pos ⟨rfl, rfl⟩).trans ((valHigh_at v r c).trans ?_))
    split_ifs with h
    · exact e _ _ (by simp)
    · rfl
    · rfl

end Cert.Kernel6Ideal.Own

end
-- ==== Proof.Own.Steps.lean ====
/- The steps of a point of the context rows' own attention, read entry by entry. -/
module

public import proofs.«01_k».proof.Proof.Own.Model
public import proofs.«01_k».proof.Proof.Att.Loop
public import proofs.«01_k».proof.Proof.Att.Online

@[expose] public section

set_option maxRecDepth 16384

noncomputable section

namespace Cert.Kernel6Ideal.Own

open Idealize.ShloMosaic Idealize.ShloMosaic.TcCoe Idealize.ShloMosaic.Tactic Idealize.SL.Sem
open Cert.Kernel6Ideal Cert.Kernel6Ideal.Gen
open Cert.KernelIdeal.Att (got got_emb got_off got_load got_row load_row scPay topPay fadePay wtPay accPay outPay kvOf copyOf fst snd newTop
  divided scPay_fst scPay_snd newTop_at topPay_at fadePay_at wtPay_at accPay_at divided_at outPay_at start_whole)

variable (a8 : Memref sig .tc .vmem S1x6x80x256 .f32) (a9 : Memref sig .tc .vmem S1x6x1x256 .f32)
  (a10 : Memref sig .tc .vmem S2x6x1x256 .f32)
  (a11 : Memref sig .tc .vmem S2x3x512x256 .f32) (a12 : Memref sig .tc .vmem S2x6x256x256 .bf16)
  (rk : Fin 4 → Vec Ideal S1x256x128 .bf16) (rv : Fin 2 → Vec Ideal S1x1x80x256 .bf16) (rq : Fin 3 → Vec Ideal S1x128x256 .bf16)

/-- Entries of the buffers, as extended reals. -/
def accG (s : Bufs Ideal) (t : Fin 1) (h : Fin 6) (r : Fin 80) (c : Fin 256) : EReal := got s.acc (ix4 t h r c)
def topG (s : Bufs Ideal) (t : Fin 1) (h : Fin 6) (c : Fin 256) : EReal := got s.top (ix4 t h 0 c)
def fadeG (s : Bufs Ideal) (p : Fin 2) (h : Fin 6) (c : Fin 256) : EReal := got s.fade (ix4 p h 0 c)
def wtG (s : Bufs Ideal) (p : Fin 2) (h : Fin 6) (k c : Fin 256) : EReal := got s.wt (ix4 p h k c)
/-- The scores of head `h` sit in its pair's box, the second head's below the first's. -/
def scG (s : Bufs Ideal) (p : Fin 2) (h : Fin 6) (k c : Fin 256) : EReal :=
  got s.sc (ix4 p (⟨h.val / 2, by omega⟩ : Fin 3) (⟨h.val % 2 * 256 + k.val, by omega⟩ : Fin 512) c)
/-- The output block holds head `h` in lanes `64 h + d`. -/
def outG (s : Bufs Ideal) (t : Fin 1) (h : Fin 6) (d : Fin 64) (c : Fin 256) : EReal :=
  got s.out (ix3 (0 : Fin 1) c (⟨h.val * 64 + d.val, by omega⟩ : Fin 384))

/-- The scores of head `h`. -/
def scoreV (h : Fin 6) (k c : Fin 256) : EReal :=
  ∑ d : Fin 128, (show EReal from rk (copyOf h) (ix3 0 k d))
    * (show EReal from rq (⟨h.val / 2, by omega⟩ : Fin 3) (ix3 0 d c))

/-! ## Weighing the values -/

theorem weigh_acc (h : Fin 6) (s : Bufs Ideal) (t' : Fin 1) (h' : Fin 6) (r : Fin 80) (c : Fin 256) :
    accG (weigh a8 a10 a12 rv h s) t' h' r c
      = if t' = 0 ∧ h' = h then
          accG s t' h' r c * fadeG s 0 h' c
            + ∑ k : Fin 256, (show EReal from rv (kvOf h')  (ix4 0 0 r k)) * wtG s 0 h' k c
        else accG s t' h' r c := by
  unfold accG weigh
  refine (got_row 0 h _ _ _ t' h' r c).trans ?_
  split_ifs with hc
  · obtain ⟨rfl, rfl⟩ := hc
    refine (accPay_at _ _ _ _ r c).trans ?_
    refine congrArg₂ (· + ·) (congrArg₂ (· * ·) (load_row _ _ _ _ _ r c) (load_row _ _ _ _ _ 0 c))
      (Finset.sum_congr rfl fun k _ => congrArg₂ (· * ·) rfl (load_row _ _ _ _ _ k c))
  · rfl

theorem weigh_all (s : Bufs Ideal) (t : Fin 1) (h : Fin 6) (r : Fin 80) (c : Fin 256) :
    accG (heads (weigh a8 a10 a12 rv) s) t h r c
      = if t = 0 then
          accG s t h r c * fadeG s 0 h c
            + ∑ k : Fin 256, (show EReal from rv (kvOf h)  (ix4 0 0 r k)) * wtG s 0 h k c
        else accG s t h r c := by
  have hf : ∀ (h : Fin 6) (s : Bufs Ideal), fadeG (weigh a8 a10 a12 rv h s) = fadeG s := fun _ _ => rfl
  have hw : ∀ (h : Fin 6) (s : Bufs Ideal), wtG (weigh a8 a10 a12 rv h s) = wtG s := fun _ _ => rfl
  unfold heads
  simp only [weigh_acc, hf, hw]
  by_cases ht : t = 0
  · fin_cases h <;> simp [ht]
  · simp [ht]

theorem weigh_other (s : Bufs Ideal) :
    (heads (weigh a8 a10 a12 rv) s).out = s.out ∧ (heads (weigh a8 a10 a12 rv) s).top = s.top
      ∧ (heads (weigh a8 a10 a12 rv) s).fade = s.fade ∧ (heads (weigh a8 a10 a12 rv) s).sc = s.sc
      ∧ (heads (weigh a8 a10 a12 rv) s).wt = s.wt := ⟨rfl, rfl, rfl, rfl, rfl⟩

/-! ## Scores -/

theorem score_sc (j : Fin 3) (s : Bufs Ideal) (p : Fin 2) (h : Fin 6) (k c : Fin 256) :
    scG (score rk rq j s) p h k c
      = if p = 0 ∧ (⟨h.val / 2, by omega⟩ : Fin 3) = j then scoreV rk rq h k c else scG s p h k c := by
  unfold scG score
  refine (got_row 0 j _ _ _ p (⟨h.val / 2, by omega⟩ : Fin 3) (⟨h.val % 2 * 256 + k.val, by omega⟩ : Fin 512) c).trans ?_
  split_ifs with hc
  · obtain ⟨rfl, rfl⟩ := hc
    rcases Nat.mod_two_eq_zero_or_one h.val with e | e
    · have hi : (⟨h.val % 2 * 256 + k.val, by omega⟩ : Fin 512) = ⟨k.val, by omega⟩ := Fin.ext (by simp [e])
      rw [hi]
      refine (scPay_fst _ _ _ k c).trans ?_
      have : fst (⟨h.val / 2, by omega⟩ : Fin 3) = h := Fin.ext (by simp [fst]; omega)
      rw [this]; rfl
    · have hi : (⟨h.val % 2 * 256 + k.val, by omega⟩ : Fin 512) = ⟨256 + k.val, by omega⟩ := Fin.ext (by simp [e])
      rw [hi]
      refine (scPay_snd _ _ _ k c).trans ?_
      have : snd (⟨h.val / 2, by omega⟩ : Fin 3) = h := Fin.ext (by simp [snd]; omega)
      rw [this]; rfl
  · rfl

theorem score_all (s : Bufs Ideal) (p : Fin 2) (h : Fin 6) (k c : Fin 256) :
    scG (pairs (score rk rq) s) p h k c
      = if p = 0 then scoreV rk rq h k c else scG s p h k c := by
  unfold pairs
  simp only [score_sc]
  by_cases hp : p = 0
  · fin_cases h <;> simp [hp]
  · simp [hp]

/-! ## Exponentials -/

theorem load_head (s : Bufs Ideal) (p : Fin 2) (h : Fin 6) (k c : Fin 256) :
    a11.view.readCov s.sc (rHead p h).toLoadRect (ix4 0 0 k c) = scG s p h k c := by
  rw [got_load]
  refine congrArg (got s.sc) ?_
  funext a
  fin_cases a <;> exact Fin.ext (by simp [LoadRect.idx, ix4])

/-- The maximum of head `h` after the block, from the buffers before. -/
def topV (s : Bufs Ideal) (h : Fin 6) (c : Fin 256) : EReal :=
  max (topG s 0 h c) (Finset.univ.sup fun k : Fin 256 => scG s 0 h k c)

theorem newTop_read (h : Fin 6) (s : Bufs Ideal) (c : Fin 256) :
    newTop (F := Ideal) (a9.view.readCov s.top (rTop 0 h).toLoadRect)
      (a11.view.readCov s.sc (rHead 0 h).toLoadRect) (ix2 0 c) = topV s h c := by
  refine (newTop_at _ _ c).trans ?_
  refine congrArg₂ max (load_row _ _ _ _ _ 0 c) ?_
  congr 1
  funext k
  exact load_head a11 s 0 h k c

theorem expo_top (h : Fin 6) (s : Bufs Ideal) (t' : Fin 1) (h' : Fin 6) (c : Fin 256) :
    topG (expo a9 a11 h s) t' h' c = if t' = 0 ∧ h' = h then topV s h' c else topG s t' h' c := by
  unfold topG expo
  refine (got_row 0 h _ _ _ t' h' 0 c).trans ?_
  split_ifs with hc
  · obtain ⟨rfl, rfl⟩ := hc
    exact (topPay_at _ _ c).trans (newTop_read a9 a11 h' s c)
  · rfl

theorem expo_fade (h : Fin 6) (s : Bufs Ideal) (p : Fin 2) (h' : Fin 6) (c : Fin 256) :
    fadeG (expo a9 a11 h s) p h' c
      = if p = 0 ∧ h' = h then Ideal.exp2 (topG s 0 h' c - topV s h' c) else fadeG s p h' c := by
  unfold fadeG expo
  refine (got_row 0 h _ _ _ p h' 0 c).trans ?_
  split_ifs with hc
  · obtain ⟨rfl, rfl⟩ := hc
    refine (fadePay_at _ _ c).trans (congrArg Ideal.exp2 ?_)
    exact congrArg₂ (· - ·) (load_row _ _ _ _ _ 0 c) (newTop_read a9 a11 h' s c)
  · rfl

theorem expo_wt (h : Fin 6) (s : Bufs Ideal) (p : Fin 2) (h' : Fin 6) (k c : Fin 256) :
    wtG (expo a9 a11 h s) p h' k c
      = if p = 0 ∧ h' = h then Ideal.exp2 (scG s 0 h' k c - topV s h' c) else wtG s p h' k c := by
  unfold wtG expo
  refine (got_row 0 h _ _ _ p h' k c).trans ?_
  split_ifs with hc
  · obtain ⟨rfl, rfl⟩ := hc
    refine (wtPay_at _ _ k c).trans (congrArg Ideal.exp2 ?_)
    exact congrArg₂ (· - ·) (load_head a11 s _ h' k c) (newTop_read a9 a11 h' s c)
  · rfl

theorem expo_sc (h : Fin 6) (s : Bufs Ideal) : scG (expo a9 a11 h s) = scG s := rfl

theorem expo_all (s : Bufs Ideal) (h : Fin 6) (c : Fin 256) :
    (∀ t, topG (heads (expo a9 a11) s) t h c = if t = 0 then topV s h c else topG s t h c)
    ∧ (∀ p, fadeG (heads (expo a9 a11) s) p h c
        = if p = 0 then Ideal.exp2 (topG s 0 h c - topV s h c) else fadeG s p h c)
    ∧ (∀ p k, wtG (heads (expo a9 a11) s) p h k c
        = if p = 0 then Ideal.exp2 (scG s 0 h k c - topV s h c) else wtG s p h k c) := by
  have hv : ∀ (g h : Fin 6) (s : Bufs Ideal), h ≠ g → topV (expo a9 a11 g s) h c = topV s h c := by
    intro g h s hne
    unfold topV
    rw [expo_top, if_neg (fun e => hne e.2), expo_sc]
  unfold heads
  refine ⟨fun t => ?_, fun p => ?_, fun p k => ?_⟩
  · simp only [expo_top]
    by_cases ht : t = 0
    · fin_cases h <;> simp [ht, hv]
    · simp [ht]
  · simp only [expo_fade, expo_top]
    by_cases ht : p = 0
    · fin_cases h <;> simp [ht, hv]
    · simp [ht]
  · simp only [expo_wt, expo_sc]
    by_cases ht : p = 0
    · fin_cases h <;> simp [ht, hv]
    · simp [ht]

/-! ## Finishing a tile -/

/-- One head's output from its accumulator. -/
def outV (s : Bufs Ideal) (t : Fin 1) (h : Fin 6) (d : Fin 64) (c : Fin 256) : EReal :=
  accG s t h ⟨d.val, by omega⟩ c * Ideal.div 1 (accG s t h 64 c)

theorem divided_read (s : Bufs Ideal) (t : Fin 1) (h : Fin 6) (d : Fin 64) (c : Fin 256) :
    divided (F := Ideal) (a8.view.readCov s.acc (rAcc t h).toLoadRect) (ix2 d c) = outV s t h d c := by
  refine (divided_at _ d c).trans ?_
  exact congrArg₂ (· * ·) (load_row _ _ _ _ _ _ c) (congrArg (Ideal.div 1) (load_row _ _ _ _ _ 64 c))

theorem finish_out (j : Fin 3) (s : Bufs Ideal) (t : Fin 1) (h : Fin 6) (d : Fin 64) (c : Fin 256) :
    outG (finish a8 j s) t h d c
      = if t = 0 ∧ (⟨h.val / 2, by omega⟩ : Fin 3) = j then outV s t h d c else outG s t h d c := by
  have hl : ∀ l : Fin 128, l.val = h.val % 2 * 64 + d.val →
      ix3 (0 : Fin 1) c (⟨h.val * 64 + d.val, by omega⟩ : Fin 384)
        = (rOut ⟨h.val / 2, by omega⟩).emb (ix3 0 c l) := by
    intro l hl
    funext a
    show _ = (rOut ⟨h.val / 2, by omega⟩).toLoadRect.idx (ix3 0 c l) a
    fin_cases a <;> exact Fin.ext (by simp [LoadRect.idx, ix3]; try omega)
  unfold outG finish
  split_ifs with hc
  · obtain ⟨rfl, rfl⟩ := hc
    rw [hl ⟨h.val % 2 * 64 + d.val, by omega⟩ rfl]
    refine (got_emb _ _ _ _).trans ((outPay_at _ _ c _).trans ?_)
    rcases Nat.mod_two_eq_zero_or_one h.val with e | e
    · have hh : fst (⟨h.val / 2, by omega⟩ : Fin 3) = h := Fin.ext (by simp [fst]; omega)
      rw [dif_pos (by simp [e])]
      have hd : (⟨(⟨h.val % 2 * 64 + d.val, by omega⟩ : Fin 128).val, by simp [e]⟩ : Fin 64) = d := Fin.ext (by simp [e])
      rw [hh, hd]
      exact divided_read a8 s _ h d c
    · have hh : snd (⟨h.val / 2, by omega⟩ : Fin 3) = h := Fin.ext (by simp [snd]; omega)
      rw [dif_neg (by simp [e])]
      have hd : (⟨(⟨h.val % 2 * 64 + d.val, by omega⟩ : Fin 128).val - 64, by simp [e]⟩ : Fin 64) = d := Fin.ext (by simp [e])
      rw [hh, hd]
      exact divided_read a8 s _ h d c
  · apply got_off
    rw [Rect.mem_set_unit]
    intro h'
    apply hc
    have h2 : j.val * 128 ≤ h.val * 64 + d.val ∧ h.val * 64 + d.val < j.val * 128 + 128 := h' 2
    exact ⟨Subsingleton.elim (α := Fin 1) _ _, Fin.ext (by show h.val / 2 = j.val; omega)⟩

theorem finish_all (s : Bufs Ideal) (t : Fin 1) (h : Fin 6) (d : Fin 64) (c : Fin 256) :
    outG (pairs (finish a8) s) t h d c = if t = 0 then outV s t h d c else outG s t h d c := by
  have hv : ∀ (j : Fin 3) (s : Bufs Ideal), outV (finish a8 j s) = outV s := fun _ _ => rfl
  unfold pairs
  simp only [finish_out, hv]
  by_cases hp : t = 0
  · fin_cases h <;> simp [hp]
  · simp [hp]

/-! ## All steps -/

theorem start_acc (h : Fin 6) (r : Fin 80) (c : Fin 256) : accG (start : Bufs Ideal) 0 h r c = 0 := by
  refine (start_whole _ (ix4 0 h r c) _ _).trans ?_
  pointwise [k0_pay13]

theorem start_top (h : Fin 6) (c : Fin 256) : topG (start : Bufs Ideal) 0 h c = ⊥ := by
  refine (start_whole _ (ix4 0 h 0 c) _ _).trans ?_
  pointwise [k0_pay14]
  rfl

/-- The values a head weighs, of a row. -/
def valV (h : Fin 6) (r : Fin 80) (k : Fin 256) : EReal := rv (kvOf h) (ix4 0 0 r k)

theorem done_out (h : Fin 6) (d : Fin 64) (c : Fin 256) :
    outG (done a8 a9 a10 a11 a12 rk rv rq) 0 h d c
      = Online.acc (fun _ k => scoreV rk rq h k c) (fun _ k => valV rv h ⟨d.val, by omega⟩ k) 1
        * Ideal.div 1 (Online.acc (fun _ k => scoreV rk rq h k c) (fun _ k => valV rv h 64 k) 1) := by
  have ht : ∀ s : Bufs Ideal, topG (pairs (score rk rq) s) = topG s := fun _ => rfl
  have hp : ∀ s : Bufs Ideal, accG (pairs (score rk rq) s) = accG s := fun _ => rfl
  have he : ∀ s : Bufs Ideal, accG (heads (expo a9 a11) s) = accG s := fun _ => rfl
  have hv : topV (pairs (score rk rq) (start : Bufs Ideal)) h c = Online.top (fun _ k => scoreV rk rq h k c) 1 := by
    unfold topV
    simp only [score_all, if_true]
    rw [ht, start_top]
    rfl
  have ha : ∀ r : Fin 80, accG (heads (weigh a8 a10 a12 rv) (heads (expo a9 a11) (pairs (score rk rq) start))) 0 h r c
      = Online.acc (fun _ k => scoreV rk rq h k c) (fun _ k => valV rv h r k) 1 := by
    intro r
    rw [weigh_all, if_pos rfl, he, hp, start_acc, (expo_all a9 a11 _ h c).2.1 0, if_pos rfl, ht, start_top, hv]
    refine congrArg₂ (· + ·) rfl (Finset.sum_congr rfl fun k _ => congrArg₂ (· * ·) rfl ?_)
    rw [(expo_all a9 a11 _ h c).2.2 0 k, if_pos rfl, score_all, if_pos rfl, hv]
    rfl
  unfold done
  rw [finish_all, if_pos rfl]
  unfold outV
  rw [ha, ha]

end Cert.Kernel6Ideal.Own

end
-- ==== Proof.Own.Point.lean ====
/- What the context rows' own attention leaves in its result, entry by entry. -/
module

public import proofs.«01_k».proof.Proof.Own.Prep
public import proofs.«01_k».proof.Proof.Own.Steps
public import Idealize.ShloMosaic.Lib.Pipeline.ValueKit

@[expose] public section

set_option maxRecDepth 16384

noncomputable section

namespace Cert.Kernel6Ideal.Own

open Idealize.ShloMosaic Idealize.ShloMosaic.TcCoe Idealize.ShloMosaic.Tactic Idealize.SL.Sem
open Cert.Kernel6Ideal Cert.Kernel6Ideal.Gen
open Cert.KernelIdeal.Att (got got_load kvOf copyOf sum_masked)

theorem idx : ∀ t : Fin cfg0.N,
    win0_0.index t = ![t.val, 0, 0] ∧ win0_1.index t = ![t.val, 0, 0] ∧ win0_2.index t = ![t.val, 0, 0]
      ∧ win0_3.index t = ![t.val, 0, 0] :=
  (by decide +kernel : ∀ t : Fin grid0.N, _)

variable (m : (ℓ : Loc nD τ sig) → Buf (Elt Ideal) ℓ) (c : Dev nD)

/-- The query, key and value arrays. -/
def Q : FVec Ideal S8x384x2304 .bf16 := V m c (Pipeline.arrRef spec0 0)
def K : FVec Ideal S8x2304x128 .bf16 := V m c (Pipeline.arrRef spec0 1)
def W : FVec Ideal S8x2304x128 .bf16 := V m c (Pipeline.arrRef spec0 2)

theorem lt8 (t : Fin cfg0.N) : t.val < 8 := Nat.lt_of_lt_of_eq t.isLt N_0

/-- The batch of a point. -/
abbrev batch (t : Fin cfg0.N) : Fin 8 := ⟨t.val, lt8 t⟩

/-- The score of a context row and a context key, at a head: in base two. -/
def scr (b : Fin 8) (h : Fin 6) (n j : Fin 256) : EReal :=
  ∑ d : Fin 64, (show EReal from K m c (ix3 b ⟨j.val, by omega⟩ ⟨h.val / 3 * 64 + d.val, by omega⟩))
    * (show EReal from Q m c (ix3 b ⟨h.val * 64 + d.val, by omega⟩ ⟨n.val, by omega⟩))

/-- The result, entry by entry. -/
def rowOf (b : Fin 8) (n : Fin 256) (h : Fin 6) (d : Fin 64) : EReal :=
  Online.acc (fun _ k => scr m c b h n k)
      (fun _ k => (show EReal from W m c (ix3 b ⟨k.val, by omega⟩ ⟨h.val / 3 * 64 + d.val, by omega⟩))) 1
    * Ideal.div 1 (Online.acc (fun _ k => scr m c b h n k) (fun _ _ => 1) 1)

variable (t : Fin cfg0.N)

theorem q_at (r : Fin 384) (n : Fin 256) :
    iblk m c 0 t (ix3 0 r n) = Q m c (ix3 (batch t) r ⟨n.val, by omega⟩) := by
  blk_point [iblk, V, idx t, Q]

theorem k_at (j : Fin 256) (l : Fin 128) :
    iblk m c 1 t (ix3 0 j l) = K m c (ix3 (batch t) ⟨j.val, by omega⟩ l) := by
  blk_point [iblk, V, idx t, K]

theorem v_at (j : Fin 256) (l : Fin 128) :
    iblk m c 2 t (ix3 0 j l) = W m c (ix3 (batch t) ⟨j.val, by omega⟩ l) := by
  blk_point [iblk, V, idx t, W]

theorem load_whole (a : Memref sig .tc .vmem S1x256x128 .bf16) (ha : a.IsWhole) (x : Vec Ideal S1x256x128 .bf16) :
    View.readAt (Elt Ideal) a.view (Rect.unit ![0, 0, 0] S1x256x128.size inb_S1x256x128_S1x256x128_0_0_0).toLoadRect (ha.unread x) = x := by
  funext y
  rw [View.readAt_apply, ha.read_unread]
  refine congrArg x (funext fun a => ?_)
  fin_cases a <;> exact Fin.ext (by simp [LoadRect.idx])

/-- The queries, the prepared keys and the prepared values a point loads. -/
def ldQ (x : Vec Ideal S1x384x256 .bf16) (j : Fin 3) : Vec Ideal S1x128x256 .bf16 := fun y => x ((rQry j).toLoadRect.idx y)
def ldK (x : Vec Ideal S1x256x128 .bf16) (g : Fin 4) : Vec Ideal S1x256x128 .bf16 :=
  fun y => got (keyPieces x) ((rKey g).toLoadRect.idx y)
def ldV (x : Vec Ideal S1x256x128 .bf16) (g : Fin 2) : Vec Ideal S1x1x80x256 .bf16 :=
  fun y => got (valPieces x) ((rVal g).toLoadRect.idx y)

theorem left : outsAt0 m c t
    = got (done scM0_2 scM0_3 scM0_4 scM0_5 scM0_6 (ldK (iblk m c 1 t)) (ldV (iblk m c 2 t)) (ldQ (iblk m c 0 t))).out := by
  unfold outsAt0 out0_A_3
  refine (View.read_writes_junk_eq_canon _ _).trans ?_
  have hq : ∀ (a : Memref sig .tc .vmem S1x384x256 .bf16) (ha : a.IsWhole) (x : Vec Ideal S1x384x256 .bf16),
      (fun j : Fin 3 => View.readAt (Elt Ideal) a.view (rQry j).toLoadRect (ha.unread x)) = ldQ x := by
    intro a ha x
    funext j y
    exact congrFun (ha.read_unread x) _
  rw [out_A, load_whole, load_whole, hq]
  simp only [got_load]
  rfl

theorem score_eq (h : Fin 6) (k n : Fin 256) :
    scoreV (ldK (iblk m c 1 t)) (ldQ (iblk m c 0 t)) h k n = scr m c (batch t) h n k := by
  unfold scoreV scr
  have hk : ∀ l : Fin 128, (show EReal from ldK (iblk m c 1 t) (copyOf h) (ix3 0 k l))
      = if l.val / 64 = h.val % 2 then
          (fun d : Fin 64 => (show EReal from K m c (ix3 (batch t) ⟨k.val, by omega⟩ ⟨h.val / 3 * 64 + d.val, by omega⟩)))
            ⟨l.val % 64, Nat.mod_lt _ (by decide)⟩ else 0 := by
    intro l
    show (got (F := Ideal) (keyPieces (iblk m c 1 t)) _ : EReal) = _
    have h1 : (copyOf h).val % 2 = h.val % 2 := by show (2 * (h.val / 3) + h.val % 2) % 2 = _; omega
    have h2 : (copyOf h).val / 2 = h.val / 3 := by show (2 * (h.val / 3) + h.val % 2) / 2 = _; omega
    rw [idx_copy, keys_at]
    simp only [h1, h2, k_at]
  refine (Finset.sum_congr rfl fun l _ => congrArg (· * _) (hk l)).trans ((sum_masked
    (fun d : Fin 64 => (show EReal from K m c (ix3 (batch t) ⟨k.val, by omega⟩ ⟨h.val / 3 * 64 + d.val, by omega⟩)))
    (fun l => (show EReal from ldQ (iblk m c 0 t) (⟨h.val / 2, by omega⟩ : Fin 3) (ix3 0 l n))) (h.val % 2) (by omega)).trans ?_)
  refine Finset.sum_congr rfl fun d _ => congrArg (_ * ·) ?_
  have hi : (rQry (⟨h.val / 2, by omega⟩ : Fin 3)).toLoadRect.idx (ix3 0 (⟨h.val % 2 * 64 + d.val, by omega⟩ : Fin 128) n)
      = ix3 0 (⟨h.val * 64 + d.val, by omega⟩ : Fin 384) n := by
    funext a
    fin_cases a
    · rfl
    · exact Fin.ext (by simp [LoadRect.idx, ix3]; omega)
    · exact Fin.ext (by simp [LoadRect.idx, ix3])
  exact (congrArg (iblk m c 0 t) hi).trans (q_at m c t _ n)

theorem idx_val (g : Fin 2) (r : Fin 80) (k : Fin 256) : (rVal g).toLoadRect.idx (ix4 0 0 r k) = ix4 g 0 r k := by
  funext a
  fin_cases a <;> exact Fin.ext (by simp [LoadRect.idx, ix4])

theorem val_at (h : Fin 6) (r : Fin 80) (k : Fin 256) : valV (ldV (iblk m c 2 t)) h r k
    = if hr : r.val < 64 then (show EReal from W m c (ix3 (batch t) ⟨k.val, by omega⟩ ⟨h.val / 3 * 64 + r.val, by omega⟩))
      else if r.val = 64 then 1 else 0 := by
  unfold valV ldV
  rw [idx_val]
  refine (vals_at (iblk m c 2 t) (kvOf h) r k).trans ?_
  split_ifs with hr h64
  · exact v_at m c t k _
  · rfl
  · rfl

theorem left_at (n : Fin 256) (h : Fin 6) (d : Fin 64) :
    (outsAt0 m c t (ix3 (0 : Fin 1) n (⟨h.val * 64 + d.val, by omega⟩ : Fin 384)) : EReal) = rowOf m c (batch t) n h d := by
  have hs : (fun (_ : ℕ) (k : Fin 256) => scoreV (ldK (iblk m c 1 t)) (ldQ (iblk m c 0 t)) h k n)
      = fun _ k => scr m c (batch t) h n k := funext fun _ => funext fun k => score_eq m c t h k n
  have hv : (fun (_ : ℕ) (k : Fin 256) => valV (ldV (iblk m c 2 t)) h ⟨d.val, by omega⟩ k)
      = fun _ k => (show EReal from W m c (ix3 (batch t) ⟨k.val, by omega⟩ ⟨h.val / 3 * 64 + d.val, by omega⟩)) :=
    funext fun _ => funext fun k => (val_at m c t h _ k).trans (dif_pos d.isLt)
  have ho : (fun (_ : ℕ) (k : Fin 256) => valV (ldV (iblk m c 2 t)) h 64 k) = fun _ _ => 1 :=
    funext fun _ => funext fun k => (val_at m c t h _ k).trans ((dif_neg (by decide)).trans (if_pos rfl))
  rw [left]
  refine (done_out scM0_2 scM0_3 scM0_4 scM0_5 scM0_6 _ _ _ h d n).trans ?_
  rw [hs, hv, ho]
  rfl

/-- The result at a context row and a lane. -/
def entry (b : Fin 8) (n : Fin 256) (l : Fin 384) : EReal :=
  rowOf m c b n ⟨l.val / 64, by omega⟩ ⟨l.val % 64, Nat.mod_lt _ (by decide)⟩

theorem entry_congr (b b' : Fin 8) (n n' : Fin 256) (l l' : Fin 384) (hb : b.val = b'.val) (hn : n.val = n'.val)
    (hl : l.val = l'.val) : entry m c b n l = entry m c b' n' l' := by
  rw [Fin.ext hb, Fin.ext hn, Fin.ext hl]

theorem out_at (y : S1x256x384.Idx) : (outsAt0 m c t y : EReal) = entry m c (batch t) (y 1) (y 2) := by
  have hy : y = ix3 (0 : Fin 1) (y 1) (⟨(y 2).val / 64 * 64 + (y 2).val % 64, by have h : (y 2).val < 384 := (y 2).isLt; omega⟩ : Fin 384) := by
    funext a
    fin_cases a
    · exact Subsingleton.elim (α := Fin 1) _ _
    · rfl
    · exact Fin.ext (by show (y 2).val = (y 2).val / 64 * 64 + (y 2).val % 64; omega)
  exact (congrArg (outsAt0 m c t) hy).trans
    (left_at m c t (y 1) ⟨(y 2).val / 64, by have h : (y 2).val < 384 := (y 2).isLt; omega⟩ ⟨(y 2).val % 64, Nat.mod_lt _ (by decide)⟩)

theorem final : (dats m 0 c).arrAt 3 cfg0.N = fun y : S8x256x384.Idx => entry m c (y 0) (y 1) (y 2) := by
  refine (dats m 0 c).arrAt_eq_of_covers 3 _ (by decide +kernel) fun t _ y => ?_
  have ht := lt8 t
  blk_simp
  rw [after0_3]
  refine (out_at m c t y).trans (entry_congr m c _ _ _ _ _ _ ?_ ?_ ?_)
  all_goals blk_simp [idx t]

end Cert.Kernel6Ideal.Own

end
-- ==== Proof.Own.Ref.lean ====
/- What the reference for the context rows' own attention computes, entry by entry. -/
module

public import proofs.«01_k».proof.Proof.Att.Ref
public import proofs.«01_k».proof.Proof.Gen.Reference6Ideal.Read
public import Idealize.ShloMosaic.Lib.Pointwise

@[expose] public section

set_option maxRecDepth 16384

noncomputable section

namespace Cert.Reference6Ideal.Own

open Idealize.ShloMosaic Idealize.ShloMosaic.TcCoe Idealize.ShloMosaic.Tactic Idealize.SL.Sem
open Cert.ReferenceIdeal.Att (log_two fold_max negInf)
open Cert.Reference6Ideal Cert.Reference6Ideal.Gen Cert.Reference6Ideal.Read

variable (q : FVec Ideal S8x384x2304 .bf16) (k v : FVec Ideal S8x2304x128 .bf16)

theorem score_dot (b : Fin 8) (g : Fin 2) (j : Fin 256) (n : Fin 256) (u : Fin 3) :
    val_main_v10 (F := Ideal) q k (ix5 b g j n u)
      = ∑ d : Fin 64, k (ix3 b ⟨j.val, by omega⟩ ⟨g.val * 64 + d.val, by omega⟩)
          * q (ix3 b ⟨g.val * 192 + u.val * 64 + d.val, by omega⟩ ⟨n.val, by omega⟩) := by
  pointwise [val_main_v10, val_main_v6, val_main_v5, val_main_v4, val_main_v3, val_main_v2, val_main_v1, val_main_v0]

theorem score_at (b : Fin 8) (g : Fin 2) (u : Fin 3) (n : Fin 256) (j : Fin 256) :
    val_main_v14 (F := Ideal) q k (ix5 b g u n j)
      = val_main_v10 (F := Ideal) q k (ix5 b g j n u) * ((Real.log 2 : ℝ) : EReal) := by
  pointwise [val_main_v14, val_main_v11, val_main_v13, val_main_v12, val_main_cst]
  rw [log_two]

theorem fold_at (b : Fin 8) (g : Fin 2) (u : Fin 3) (n : Fin 256) :
    val_main_v15 (F := Ideal) q k (ix4 b g u n)
      = Finset.fold max (Ideal.ofBits .f32 0xFF800000#32)
          (fun i : Fin 256 => val_main_v14 (F := Ideal) q k (ix5 b g u n i)) Finset.univ := by
  pointwise [val_main_v15, val_main_cst_0]

theorem max_at (b : Fin 8) (g : Fin 2) (u : Fin 3) (n : Fin 256) :
    val_main_v17 (F := Ideal) q k (ix4 b g u n)
      = Finset.univ.sup fun i : Fin 256 => val_main_v14 (F := Ideal) q k (ix5 b g u n i) := by
  have h : ∀ y : EReal, max (Ideal.ofBits .f32 0xFF800000#32) y = y := fun y => by rw [negInf, max_bot_left]
  have e := fold_at q k b g u n
  rw [negInf, fold_max] at e
  rw [val_main_v17_apply]
  generalize val_main_v15 (F := Ideal) q k (ix4 b g u n) = y at e ⊢
  rw [← e]
  exact h y

theorem exp_at (b : Fin 8) (g : Fin 2) (u : Fin 3) (n : Fin 256) (j : Fin 256) :
    val_main_v21 (F := Ideal) q k (ix5 b g u n j)
      = Ideal.exp (val_main_v14 (F := Ideal) q k (ix5 b g u n j) - val_main_v17 (F := Ideal) q k (ix4 b g u n)) := by
  pointwise [val_main_v21, val_main_v20, val_main_v19, val_main_v18]

theorem sum_at (b : Fin 8) (g : Fin 2) (u : Fin 3) (n : Fin 256) :
    val_main_v22 (F := Ideal) q k (ix4 b g u n) = ∑ i : Fin 256, val_main_v21 (F := Ideal) q k (ix5 b g u n i) := by
  pointwise [val_main_v22, val_main_cst_2]

theorem prob_at (b : Fin 8) (g : Fin 2) (u : Fin 3) (n : Fin 256) (j : Fin 256) :
    val_main_v27 (F := Ideal) q k (ix5 b g u n j)
      = Ideal.div (val_main_v21 (F := Ideal) q k (ix5 b g u n j)) (val_main_v22 (F := Ideal) q k (ix4 b g u n)) := by
  pointwise [val_main_v27, val_main_v26, val_main_v25, val_main_v24, val_main_v23]

theorem out_at (b : Fin 8) (n : Fin 256) (g : Fin 2) (u : Fin 3) (d : Fin 64) :
    val_main_v31 (F := Ideal) q k v (ix3 b n ⟨g.val * 192 + u.val * 64 + d.val, by omega⟩)
      = ∑ j : Fin 256, v (ix3 b ⟨j.val, by omega⟩ ⟨g.val * 64 + d.val, by omega⟩) * val_main_v27 (F := Ideal) q k (ix5 b g u n j) := by
  pointwise [val_main_v31, val_main_v30, val_main_v29, val_main_v28, val_main_v9, val_main_v8, val_main_v7]

end Cert.Reference6Ideal.Own

end
-- ==== Proof.Own.Equation.lean ====
/- One block's weighted sum over its row sum is the softmax over the context's keys, where the context's queries and
   keys are finite. -/
module

public import proofs.«01_k».proof.Proof.Own.Ref
public import proofs.«01_k».proof.Proof.Att.Softmax

@[expose] public section

set_option maxRecDepth 16384

noncomputable section

namespace Cert.Reference6Ideal.Own

open Idealize.ShloMosaic Idealize.ShloMosaic.TcCoe Idealize.ShloMosaic.Tactic Idealize.SL.Sem
open Cert.Reference6Ideal Cert.Reference6Ideal.Gen Cert.Reference6Ideal.Read

/-- A softmax over one block of real scores `s` (in base two). -/
theorem softmax_block (s : Fin 256 → ℝ) (v : Fin 256 → EReal) :
    (∑ j, v j * Ideal.div
        (Ideal.exp ((s j : EReal) * ((Real.log 2 : ℝ) : EReal) - Finset.univ.sup fun i : Fin 256 => (s i : EReal) * ((Real.log 2 : ℝ) : EReal)))
        (∑ l, Ideal.exp ((s l : EReal) * ((Real.log 2 : ℝ) : EReal) - Finset.univ.sup fun i : Fin 256 => (s i : EReal) * ((Real.log 2 : ℝ) : EReal))))
      = Online.acc (fun _ k => ((s k : ℝ) : EReal)) (fun _ k => v k) 1
        * Ideal.div 1 (Online.acc (fun _ k => ((s k : ℝ) : EReal)) (fun _ _ => 1) 1) := by
  obtain ⟨r, hr⟩ := Online.top_real (fun _ (k : Fin 256) => s k) 0
  have hM : (Finset.univ.sup fun i : Fin 256 => (s i : EReal) * ((Real.log 2 : ℝ) : EReal))
      = (r : EReal) * ((Real.log 2 : ℝ) : EReal) := by
    rw [← hr]
    refine ((Online.top_mul (fun _ (k : Fin 256) => ((s k : ℝ) : EReal)) 1 (Real.log_pos (by norm_num))).trans ?_).symm
    rw [Finset.range_one, Finset.sup_singleton]
  rw [hM]
  refine Eq.trans ?_ (Online.acc_div (fun _ (k : Fin 256) => s k) (fun _ k => v k) 0 r hr).symm
  simp only [zero_add, Finset.range_one, Finset.sum_singleton]

variable (q : FVec Ideal S8x384x2304 .bf16) (k v : FVec Ideal S8x2304x128 .bf16)

/-- The scores are real where the context's queries and keys are. -/
theorem score_real (hq : ∀ (b : Fin 8) (l : Fin 384) (n : Fin 256), ∃ r : ℝ, (q (ix3 b l ⟨n.val, by omega⟩) : EReal) = r)
    (hk : ∀ (b : Fin 8) (j : Fin 256) (l : Fin 128), ∃ r : ℝ, (k (ix3 b ⟨j.val, by omega⟩ l) : EReal) = r)
    (b : Fin 8) (g : Fin 2) (n : Fin 256) (u : Fin 3) :
    ∃ s : Fin 256 → ℝ, ∀ j, (val_main_v10 (F := Ideal) q k (ix5 b g j n u) : EReal) = s j := by
  choose rq hrq using hq
  choose rk hrk using hk
  refine ⟨fun j => ∑ d : Fin 64, rk b j ⟨g.val * 64 + d.val, by omega⟩
    * rq b ⟨g.val * 192 + u.val * 64 + d.val, by omega⟩ n, fun j => ?_⟩
  rw [score_dot, Online.coe_sum]
  exact Finset.sum_congr rfl fun d _ => by rw [hrk, hrq, EReal.coe_mul]

theorem attention_eq (hq : ∀ (b : Fin 8) (l : Fin 384) (n : Fin 256), ∃ r : ℝ, (q (ix3 b l ⟨n.val, by omega⟩) : EReal) = r)
    (hk : ∀ (b : Fin 8) (j : Fin 256) (l : Fin 128), ∃ r : ℝ, (k (ix3 b ⟨j.val, by omega⟩ l) : EReal) = r)
    (b : Fin 8) (n : Fin 256) (g : Fin 2) (u : Fin 3) (d : Fin 64) :
    (val_main_v31 (F := Ideal) q k v (ix3 b n ⟨g.val * 192 + u.val * 64 + d.val, by omega⟩) : EReal)
      = Online.acc (fun _ κ => val_main_v10 (F := Ideal) q k (ix5 b g κ n u))
          (fun _ κ => v (ix3 b ⟨κ.val, by omega⟩ ⟨g.val * 64 + d.val, by omega⟩)) 1
        * Ideal.div 1 (Online.acc (fun _ κ => val_main_v10 (F := Ideal) q k (ix5 b g κ n u)) (fun _ _ => 1) 1) := by
  obtain ⟨s, hs⟩ := score_real q k hq hk b g n u
  have h := softmax_block s (fun j => v (ix3 b ⟨j.val, by omega⟩ ⟨g.val * 64 + d.val, by omega⟩))
  simp only [← hs] at h
  rw [out_at]
  simp only [prob_at, sum_at, exp_at, max_at, score_at]
  exact h

end Cert.Reference6Ideal.Own

end
-- ==== Proof.Own.Value.lean ====
/- The context rows' own attention gives the reference's array, where the context's queries and keys are finite. -/
module

public import proofs.«01_k».proof.Proof.Own.Point
public import proofs.«01_k».proof.Proof.Own.Equation
public import proofs.«01_k».proof.Proof.Att.Value
public import proofs.«01_k».proof.Proof.Gen.Pre_finite_context

@[expose] public section

set_option maxRecDepth 16384

noncomputable section

namespace Cert.Own

open Idealize.ShloMosaic Idealize.ShloMosaic.TcCoe Idealize.ShloMosaic.Tactic Idealize.SL.Sem
open Cert.Att (real_of_lt posInf of_bit)

open Cert.Pre_finite_context in
theorem finite_q (q : FVec Ideal S8x384x2304 .bf16) (k v : FVec Ideal S8x2304x128 .bf16)
    (h : (fn (F := Ideal) q k v).1 = fun _ => 1#1) (b : Fin 8) (l : Fin 384) (n : Fin 256) :
    ∃ r : ℝ, (q (ix3 b l ⟨n.val, by omega⟩) : EReal) = r := by
  have h1 := congrFun h (ix3 b l n)
  apply real_of_lt
  revert h1
  pointwise [fn]
  rw [posInf]
  exact of_bit _

open Cert.Pre_finite_context in
theorem finite_k (q : FVec Ideal S8x384x2304 .bf16) (k v : FVec Ideal S8x2304x128 .bf16)
    (h : (fn (F := Ideal) q k v).2 = fun _ => 1#1) (b : Fin 8) (j : Fin 256) (l : Fin 128) :
    ∃ r : ℝ, (k (ix3 b ⟨j.val, by omega⟩ l) : EReal) = r := by
  have h1 := congrFun h (ix3 b j l)
  apply real_of_lt
  revert h1
  pointwise [fn]
  rw [posInf]
  exact of_bit _

theorem value (m : (ℓ : Loc Cert.Kernel6Ideal.nD Cert.Kernel6Ideal.τ Cert.Kernel6Ideal.sig) → Buf (Elt Ideal) ℓ)
    (c : Dev Cert.Kernel6Ideal.nD)
    (q : FVec Ideal Cert.Kernel6Ideal.S8x384x2304 .bf16) (k v : FVec Ideal Cert.Kernel6Ideal.S8x2304x128 .bf16)
    (eq : m ((c.tc : Thread Cert.Kernel6Ideal.nD Cert.Kernel6Ideal.τ).loc Cert.Kernel6Ideal.main_arg0) = q)
    (ek : m ((c.tc : Thread Cert.Kernel6Ideal.nD Cert.Kernel6Ideal.τ).loc Cert.Kernel6Ideal.main_arg1) = k)
    (ev : m ((c.tc : Thread Cert.Kernel6Ideal.nD Cert.Kernel6Ideal.τ).loc Cert.Kernel6Ideal.main_arg2) = v)
    (hq : ∀ (b : Fin 8) (l : Fin 384) (n : Fin 256), ∃ r : ℝ, (q (ix3 b l ⟨n.val, by omega⟩) : EReal) = r)
    (hk : ∀ (b : Fin 8) (j : Fin 256) (l : Fin 128), ∃ r : ℝ, (k (ix3 b ⟨j.val, by omega⟩ l) : EReal) = r) :
    (Cert.Kernel6Ideal.Gen.dats m 0 c).arrAt 3 Cert.Kernel6Ideal.cfg0.N
      = Cert.Reference6Ideal.Read.val_main_v31 (F := Ideal) q k v := by
  have hQ : Cert.Kernel6Ideal.Own.Q m c = q := eq
  have hK : Cert.Kernel6Ideal.Own.K m c = k := ek
  have hW : Cert.Kernel6Ideal.Own.W m c = v := ev
  have main : ∀ (b : Fin 8) (n : Fin 256) (g : Fin 2) (u : Fin 3) (d : Fin 64),
      Cert.Kernel6Ideal.Own.rowOf m c b n ⟨g.val * 3 + u.val, by omega⟩ d
        = Cert.Reference6Ideal.Read.val_main_v31 (F := Ideal) q k v (ix3 b n (⟨g.val * 192 + u.val * 64 + d.val, by omega⟩ : Fin 384)) := by
    intro b n g u d
    have hg : (g.val * 3 + u.val) / 3 = g.val := by omega
    have hs : ∀ j, Cert.Kernel6Ideal.Own.scr m c b ⟨g.val * 3 + u.val, by omega⟩ n j
        = Cert.Reference6Ideal.Read.val_main_v10 (F := Ideal) q k (ix5 b g j n u) := by
      intro j
      unfold Cert.Kernel6Ideal.Own.scr
      rw [Cert.Reference6Ideal.Own.score_dot, hQ, hK]
      refine Finset.sum_congr rfl fun d _ => congrArg₂ (· * ·) ?_ ?_
      · exact congrArg k (congrArg (ix3 b _) (Fin.ext (by show (g.val * 3 + u.val) / 3 * 64 + d.val = _; rw [hg])))
      · exact congrArg q (congrArg (fun a => ix3 b a _) (Fin.ext (by show (g.val * 3 + u.val) * 64 + d.val = g.val * 192 + u.val * 64 + d.val; omega)))
    unfold Cert.Kernel6Ideal.Own.rowOf
    rw [hW]
    simp only [hs, hg]
    exact (Cert.Reference6Ideal.Own.attention_eq q k v hq hk b n g u d).symm
  rw [Cert.Kernel6Ideal.Own.final]
  funext y
  obtain ⟨b, n, l, rfl⟩ : ∃ (b : Fin 8) (n : Fin 256) (l : Fin 384), y = ix3 b n l :=
    ⟨y 0, y 1, y 2, by funext a; fin_cases a <;> rfl⟩
  have h := main b n ⟨l.val / 192, by omega⟩ ⟨l.val / 64 % 3, by omega⟩ ⟨l.val % 64, by omega⟩
  have e1 : (⟨l.val / 192 * 3 + l.val / 64 % 3, by omega⟩ : Fin 6) = ⟨l.val / 64, by omega⟩ :=
    Fin.ext (by show l.val / 192 * 3 + l.val / 64 % 3 = l.val / 64; omega)
  have e2 : (⟨l.val / 192 * 192 + l.val / 64 % 3 * 64 + l.val % 64, by omega⟩ : Fin 384) = l :=
    Fin.ext (by show l.val / 192 * 192 + l.val / 64 % 3 * 64 + l.val % 64 = l.val; omega)
  simp only [e1, e2] at h
  exact h

end Cert.Own

end
-- ==== Proof.lean ====
/- The claims, put together: the frames, the named mask, the attention of the latent rows and of the context's
against plain softmax attention, and the modulation, the input projection and the projection with the MLP, for the
latent rows and for the context's, against the reference's lines. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Att.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Post.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Inp.Value
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Mod.Value
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Ctx.Value
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_context
public import proofs.«01_k».proof.Proof.Own.Value
public import Idealize.ShloMosaic.Lib.Claim
public import Idealize.ShloMosaic.Adequacy
public import Idealize.ShloMosaic.Init

@[expose] public section

noncomputable section

namespace Cert.Proof

open Idealize.ShloMosaic Idealize.SL.Sem

/-- The attention computes the plain softmax attention. -/
theorem attention : Cert.algebraic_KernelIdeal_ReferenceIdeal_pre_finite_scores := by
  pair_intro
  · run_from Cert.KernelIdeal.Value.run m g
  · run_from Cert.ReferenceIdeal.Value.run m' g'
    have ha := hagree c
    rw [Cert.ReferenceIdeal.Read.val_main_v29_eq, ha.1, ha.2.1, ha.2.2]
    exact (Cert.Att.value m c _ _ _ rfl rfl rfl (Cert.Att.finite_q _ _ _ (hpre c).1) (Cert.Att.finite_k _ _ _ (hpre c).2)).symm

/-- The reference leaves its arguments and every counter as they were. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The projection with the MLP computes the reference's lines. -/
theorem post : Cert.algebraic_Kernel2Ideal_Reference2Ideal := by
  pair_intro
  · run_from Cert.Kernel2Ideal.Value.run_blocks m g
  · run_from Cert.Reference2Ideal.Value.run m' g'
    obtain ⟨h0, h1, h2, h3, h4, h5, h6, h7, h8⟩ := hagree c
    rw [← h5]
    refine Eq.trans (Cert.Reference2Ideal.Read.val_main_v89_eq (StableHlo.launchContents m' c)) (Eq.trans ?_ (Cert.Post.value m c).symm)
    rw [← h0, ← h1, ← h2, ← h3, ← h4, ← h5, ← h6, ← h7, ← h8]

/-- The second reference leaves its arguments and every counter as they were. -/
theorem reference2_frame : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

set_option maxHeartbeats 8000000 in
/-- The input projection computes the reference's lines. -/
theorem inproj : Cert.algebraic_Kernel3Ideal_Reference3Ideal := by
  pair_intro
  · run_from Cert.Kernel3Ideal.Value.run_blocks m g
  · run_from Cert.Reference3Ideal.Value.run m' g'
    all_goals obtain ⟨h0, h1, h2, h3, h4, h5, h6, h7⟩ := hagree c
    · refine Eq.trans (Cert.Reference3Ideal.Read.val_main_v224_eq (StableHlo.launchContents m' c)) (Eq.trans ?_ (Cert.Inp.queries_eq m c).symm)
      rw [← h0, ← h1, ← h2, ← h3, ← h4, ← h5, ← h6, ← h7]
    · refine Eq.trans (Cert.Reference3Ideal.Read.val_main_v225_eq (StableHlo.launchContents m' c)) (Eq.trans ?_ (Cert.Inp.keys_eq m c).symm)
      rw [← h0, ← h1, ← h2, ← h3, ← h4, ← h5, ← h6, ← h7]
    · refine Eq.trans (Cert.Reference3Ideal.Read.val_main_v227_eq (StableHlo.launchContents m' c)) (Eq.trans ?_ (Cert.Inp.values_eq m c).symm)
      rw [← h0, ← h1, ← h2, ← h3, ← h4]
    · refine Eq.trans (Cert.Reference3Ideal.Read.val_main_v228_eq (StableHlo.launchContents m' c)) (Eq.trans ?_ (Cert.Inp.retained_eq m c).symm)
      rw [← h0, ← h1, ← h2, ← h3, ← h4, ← h5, ← h6]
    · refine Eq.trans (Cert.Reference3Ideal.Read.val_main_v230_eq (StableHlo.launchContents m' c)) (Eq.trans ?_ (Cert.Inp.gates_eq m c).symm)
      rw [← h0, ← h1, ← h2, ← h3, ← h4]
    · refine Eq.trans (Cert.Reference3Ideal.Read.val_main_v232_eq (StableHlo.launchContents m' c)) (Eq.trans ?_ (Cert.Inp.scanned_eq m c).symm)
      rw [← h0, ← h1, ← h2, ← h3, ← h4]
    · refine Eq.trans (Cert.Reference3Ideal.Read.val_main_v233_eq (StableHlo.launchContents m' c)) (Eq.trans ?_ (Cert.Inp.steps_eq m c).symm)
      rw [← h0, ← h1, ← h2, ← h3, ← h4]

/-- The third reference leaves its arguments and every counter as they were. -/
theorem reference3_frame : Cert.quiescent_Reference3Ideal := fun m g _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m g)

/-- The modulation computes SiLU of the conditioning vectors times the weights, plus the bias. -/
theorem modulation : Cert.algebraic_Kernel4Ideal_Reference4Ideal := by
  pair_intro
  · run_from Cert.Kernel4Ideal.Value.run_blocks m g
  · run_from Cert.Reference4Ideal.Value.run m' g'
    rw [Cert.Reference4Ideal.Read.val_main_v8_eq]
    exact (Cert.Mod.value m c).symm

/-- The fourth reference leaves its arguments and every counter as they were. -/
theorem reference4_frame : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- The context rows' projection and MLP compute the reference's lines for them. -/
theorem post_ctx : Cert.algebraic_Kernel5Ideal_Reference5Ideal := by
  pair_intro
  · run_from Cert.Kernel5Ideal.Value.run_blocks m g
  · run_from Cert.Reference5Ideal.Value.run m' g'
    obtain ⟨h0, h1, h2, h3, h4, h5, h6, h7, h8⟩ := hagree c
    rw [← h5]
    refine Eq.trans (Cert.Reference5Ideal.Read.val_main_v90_eq (StableHlo.launchContents m' c)) (Eq.trans ?_ (Cert.Ctx.value m c).symm)
    rw [← h0, ← h1, ← h2, ← h3, ← h4, ← h5, ← h6, ← h7, ← h8]

/-- The fifth reference leaves its arguments and every counter as they were. -/
theorem reference5_frame : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- The context rows' own attention computes the plain softmax attention over the context. -/
theorem attention_ctx : Cert.algebraic_Kernel6Ideal_Reference6Ideal_pre_finite_context := by
  pair_intro
  · run_from Cert.Kernel6Ideal.Value.run_blocks m g
  · run_from Cert.Reference6Ideal.Value.run m' g'
    have ha := hagree c
    rw [Cert.Reference6Ideal.Read.val_main_v31_eq, ha.1, ha.2.1, ha.2.2]
    exact (Cert.Own.value m c _ _ _ rfl rfl rfl (Cert.Own.finite_q _ _ _ (hpre c).1) (Cert.Own.finite_k _ _ _ (hpre c).2)).symm

/-- The sixth reference leaves its arguments and every counter as they were. -/
theorem reference6_frame : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_scores.Gen.facts, Cert.Pre_finite_context.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    fun m ρ _ => Cert.Kernel6Ideal.Gen.frame m ρ,
    reference6_frame,
    fun m ρ _ => reference6_frame m ρ trivial,
    IdealRules.named_const.statement Cert.KernelIdeal.κ "mask" .f32 0xF149F2CA#32 ⊥ rfl,
    attention, trivial, post, trivial, inproj, trivial, modulation, trivial, post_ctx,
    IdealRules.named_const.statement Cert.Kernel6Ideal.κ "mask" .f32 0xF149F2CA#32 ⊥ rfl,
    attention_ctx⟩

end Cert.Proof

end
